-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bound_below_one [hPre_bound_below_one : Cert.Pre_bound_below_one.Facts] (m : (ℓ : Loc Cert.KernelIdeal.nD Cert.KernelIdeal.τ Cert.KernelIdeal.sig) → Buf (Elt Ideal) ℓ) : Prop :=
  ∀ c : Dev Cert.KernelIdeal.nD,
    (Cert.Pre_bound_below_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bound_below_one [hPre_bound_below_one : Cert.Pre_bound_below_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bound_below_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bound_below_one [hKernelIdeal : Cert.KernelIdeal.Facts] [hPre_bound_below_one : Cert.Pre_bound_below_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bound_below_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bound_below_one [hReferenceIdeal : Cert.ReferenceIdeal.Facts] [hPre_bound_below_one : Cert.Pre_bound_below_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bound_below_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_bound_below_one [hKernelIdeal : Cert.KernelIdeal.Facts] [hReferenceIdeal : Cert.ReferenceIdeal.Facts] [hPre_bound_below_one : Cert.Pre_bound_below_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bound_below_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)) (v5 : (c : Dev Cert.Kernel3Ideal.nD) → Buf (Elt Ideal) ((c.tc : Thread Cert.Kernel3Ideal.nD Cert.Kernel3Ideal.τ).loc Cert.Kernel3Ideal.main_v17_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_v17_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)) (v4 : (c : Dev Cert.Kernel4Ideal.nD) → Buf (Elt Ideal) ((c.tc : Thread Cert.Kernel4Ideal.nD Cert.Kernel4Ideal.τ).loc Cert.Kernel4Ideal.main_v21_4)) (v5 : (c : Dev Cert.Kernel4Ideal.nD) → Buf (Elt Ideal) ((c.tc : Thread Cert.Kernel4Ideal.nD Cert.Kernel4Ideal.τ).loc Cert.Kernel4Ideal.main_v21_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_v21_4) = v4 c
          ∧ r.2.mem ((c.tc : Thread Cert.Kernel4Ideal.nD Cert.Kernel4Ideal.τ).loc Cert.Kernel4Ideal.main_v21_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v34) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_bound_below_one : Cert.Pre_bound_below_one.Facts) (hPre_routed : Cert.Pre_routed.Facts),
    quiescent_Kernel (hKernel := hKernel)
    ∧ quiescent_KernelIdeal (hKernelIdeal := hKernelIdeal)
    ∧ quiescent_KernelIdeal_pre_bound_below_one (hKernelIdeal := hKernelIdeal) (hPre_bound_below_one := hPre_bound_below_one)
    ∧ quiescent_ReferenceIdeal (hReferenceIdeal := hReferenceIdeal)
    ∧ quiescent_ReferenceIdeal_pre_bound_below_one (hReferenceIdeal := hReferenceIdeal) (hPre_bound_below_one := hPre_bound_below_one)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_bound_below_one (hKernelIdeal := hKernelIdeal) (hReferenceIdeal := hReferenceIdeal) (hPre_bound_below_one := hPre_bound_below_one)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_bound_below_one.lean ====
abbrev S256x4096 : Shape := ⟨2, ![256, 4096]⟩
abbrev S1024 : Shape := ⟨1, ![1024]⟩
abbrev S16x8x128x128 : Shape := ⟨4, ![16, 8, 128, 128]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S256x4096 .f32) (main_arg1 : FVec F S1024 .f32) (main_arg2 : FVec F S1024 .f32) (main_arg3 : FVec F S16x8x128x128 .f32) : IVec S1024 1 :=
  let main_cst : FVec F S_ .f32 := constant S_ .f32 0xFF800000#32
  let main_v0 : FVec F S1024 .f32 := broadcastInDim S1024 ![] bcast_S_S1024 main_cst
  let main_v1 : IVec S1024 1 := cmpf .ogt main_arg1 main_v0
  let main_cst_0 : FVec F S_ .f32 := constant S_ .f32 0x3F800000#32
  let main_v2 : FVec F S1024 .f32 := broadcastInDim S1024 ![] bcast_S_S1024 main_cst_0
  let main_v3 : IVec S1024 1 := cmpf .ole main_arg1 main_v2
  let main_v4 : IVec S1024 1 := andi main_v1 main_v3
  main_v4
-- ==== Pre_routed.lean ====
abbrev S73728x1024 : Shape := ⟨2, ![73728, 1024]⟩
abbrev S72 : Shape := ⟨1, ![72]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S73728x1024 .f32) (main_arg1 : IVec S72 32) (main_arg2 : IVec S72 32) (main_arg3 : FVec F S8x1024x7168 .f32) (main_arg4 : FVec F S8x3584x1024 .f32) : IVec S72 1 :=
  let main_v0 : IVec S72 32 := iotaInDim S72 32 0
  let main_c : IVec S_ 32 := constantI S_ 32 0#32
  let main_v1 : IVec S72 32 := broadcastInDim S72 ![] bcast_S_S72 main_c
  let main_v2 : IVec S72 1 := cmpi .eq main_v0 main_v1
  let main_c_0 : IVec S_ 32 := constantI S_ 32 0#32
  let main_v3 : IVec S72 32 := broadcastInDim S72 ![] bcast_S_S72 main_c_0
  let main_v4 : IVec S72 1 := cmpi .sge main_arg1 main_v3
  let main_c_1 : IVec S_ 32 := constantI S_ 32 8#32
  let main_v5 : IVec S72 32 := broadcastInDim S72 ![] bcast_S_S72 main_c_1
  let main_v6 : IVec S72 1 := cmpi .slt main_arg1 main_v5
  let main_v7 : IVec S72 1 := andi main_v4 main_v6
  let main_c_2 : IVec S_ 32 := constantI S_ 32 0#32
  let main_v8 : IVec S72 32 := broadcastInDim S72 ![] bcast_S_S72 main_c_2
  let main_v9 : IVec S72 1 := cmpi .sgt main_arg2 main_v8
  let main_v10 : IVec S72 1 := noti main_v2
  let main_v11 : IVec S72 1 := ori main_v9 main_v10
  let main_v12 : IVec S72 1 := andi main_v7 main_v11
  main_v12
-- ==== Kernel.lean ====
abbrev S256x4096 : Shape := ⟨2, ![256, 4096]⟩
abbrev S1024 : Shape := ⟨1, ![1024]⟩
abbrev S16x8x128x128 : Shape := ⟨4, ![16, 8, 128, 128]⟩
abbrev S16x16x4096 : Shape := ⟨3, ![16, 16, 4096]⟩
abbrev S1x1024 : Shape := ⟨2, ![1, 1024]⟩
abbrev S16x16x1024 : Shape := ⟨3, ![16, 16, 1024]⟩
abbrev S1x16x1024 : Shape := ⟨3, ![1, 16, 1024]⟩
abbrev S1x8x128x128 : Shape := ⟨4, ![1, 8, 128, 128]⟩
abbrev S8x128x128 : Shape := ⟨3, ![8, 128, 128]⟩
abbrev S16x1024 : Shape := ⟨2, ![16, 1024]⟩
abbrev S1x1x128x128 : Shape := ⟨4, ![1, 1, 128, 128]⟩
abbrev S128x128 : Shape := ⟨2, ![128, 128]⟩
abbrev S1x128x128 : Shape := ⟨3, ![1, 128, 128]⟩
abbrev S16x16 : Shape := ⟨2, ![16, 16]⟩
abbrev S16x128 : Shape := ⟨2, ![16, 128]⟩
abbrev S1x16x128 : Shape := ⟨3, ![1, 16, 128]⟩
abbrev S1x128 : Shape := ⟨2, ![1, 128]⟩
abbrev S8x128 : Shape := ⟨2, ![8, 128]⟩
abbrev S192x128 : Shape := ⟨2, ![192, 128]⟩
abbrev S16 : Shape := ⟨1, ![16]⟩
abbrev S16x1 : Shape := ⟨2, ![16, 1]⟩

abbrev nBuf : Space → Nat
  | .hbm => 9
  | .vmem => 21
  | .smem => 0
  | _ => 0

abbrev bufTy : (tb : Table) → Fin (tcTables nBuf tb) → BufTy
  | .hbm, ⟨0, _⟩ => ⟨S256x4096, .f32⟩
  | .hbm, ⟨1, _⟩ => ⟨S1024, .f32⟩
  | .hbm, ⟨2, _⟩ => ⟨S1024, .f32⟩
  | .hbm, ⟨3, _⟩ => ⟨S16x8x128x128, .f32⟩
  | .hbm, ⟨4, _⟩ => ⟨S16x16x4096, .f32⟩
  | .hbm, ⟨5, _⟩ => ⟨S1x1024, .f32⟩
  | .hbm, ⟨6, _⟩ => ⟨S1x1024, .f32⟩
  | .hbm, ⟨7, _⟩ => ⟨S16x16x1024, .f32⟩
  | .hbm, ⟨8, _⟩ => ⟨S16x8x128x128, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x1024, .f32⟩
  | .local _ .vmem, ⟨9, _⟩ => ⟨S1x1024, .f32⟩
  | .local _ .vmem, ⟨10, _⟩ => ⟨S1x8x128x128, .f32⟩
  | .local _ .vmem, ⟨11, _⟩ => ⟨S1x8x128x128, .f32⟩
  | .local _ .vmem, ⟨12, _⟩ => ⟨S1x16x1024, .f32⟩
  | .local _ .vmem, ⟨13, _⟩ => ⟨S1x16x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def k0_mult1 : BitVec 32 :=
  let c0_i32_23 : BitVec 32 := 0#32
  let c16_i32 : BitVec 32 := 16#32
  let v64 : BitVec 32 := Scalar.muli c0_i32_23 c16_i32
  v64
def k0_off1 : Fin 2 → Nat :=
  let c0_i32_23 : BitVec 32 := 0#32
  let c16_i32 : BitVec 32 := 16#32
  let v64 : BitVec 32 := Scalar.muli c0_i32_23 c16_i32
  let v65 : BitVec 32 := v64
  let v66 : Index := Scalar.indexCast v65
  let c0_24 : Index := 0#32
  ![v66.toNat, 0]
def k0_off2 : Fin 2 → Nat :=
  let c0_i32_23 : BitVec 32 := 0#32
  let c16_i32 : BitVec 32 := 16#32
  let v64 : BitVec 32 := Scalar.muli c0_i32_23 c16_i32
  let v65 : BitVec 32 := v64
  let v70 : Index := Scalar.indexCast v65
  let c0_26 : Index := 0#32
  ![v70.toNat, 0]
def k0_off3 : Fin 3 → Nat :=
  let c0_28 : Index := 0#32
  let c0_i32_23 : BitVec 32 := 0#32
  let c16_i32 : BitVec 32 := 16#32
  let v64 : BitVec 32 := Scalar.muli c0_i32_23 c16_i32
  let v65 : BitVec 32 := v64
  let v75 : Index := Scalar.indexCast v65
  let c0_29 : Index := 0#32
  ![0, v75.toNat, 0]
def k0_off4 : Fin 2 → Nat :=
  let c0_i32_23 : BitVec 32 := 0#32
  let c16_i32 : BitVec 32 := 16#32
  let v64 : BitVec 32 := Scalar.muli c0_i32_23 c16_i32
  let v65 : BitVec 32 := v64
  let v398 : Index := Scalar.indexCast v65
  let c128 : Index := 128#32
  ![v398.toNat, 128]
def k0_off5 : Fin 3 → Nat :=
  let c0_58 : Index := 0#32
  let c0_i32_23 : BitVec 32 := 0#32
  let c16_i32 : BitVec 32 := 16#32
  let v64 : BitVec 32 := Scalar.muli c0_i32_23 c16_i32
  let v65 : BitVec 32 := v64
  let v403 : Index := Scalar.indexCast v65
  let c128_59 : Index := 128#32
  ![0, v403.toNat, 128]
def k0_off6 : Fin 2 → Nat :=
  let c0_i32_23 : BitVec 32 := 0#32
  let c16_i32 : BitVec 32 := 16#32
  let v64 : BitVec 32 := Scalar.muli c0_i32_23 c16_i32
  let v65 : BitVec 32 := v64
  let v726 : Index := Scalar.indexCast v65
  let c256 : Index := 256#32
  ![v726.toNat, 256]
def k0_off7 : Fin 3 → Nat :=
  let c0_102 : Index := 0#32
  let c0_i32_23 : BitVec 32 := 0#32
  let c16_i32 : BitVec 32 := 16#32
  let v64 : BitVec 32 := Scalar.muli c0_i32_23 c16_i32
  let v65 : BitVec 32 := v64
  let v731 : Index := Scalar.indexCast v65
  let c256_103 : Index := 256#32
  ![0, v731.toNat, 256]
def k0_off8 : Fin 2 → Nat :=
  let c0_i32_23 : BitVec 32 := 0#32
  let c16_i32 : BitVec 32 := 16#32
  let v64 : BitVec 32 := Scalar.muli c0_i32_23 c16_i32
  let v65 : BitVec 32 := v64
  let v1054 : Index := Scalar.indexCast v65
  let c384 : Index := 384#32
  ![v1054.toNat, 384]
def k0_off9 : Fin 3 → Nat :=
  let c0_146 : Index := 0#32
  let c0_i32_23 : BitVec 32 := 0#32
  let c16_i32 : BitVec 32 := 16#32
  let v64 : BitVec 32 := Scalar.muli c0_i32_23 c16_i32
  let v65 : BitVec 32 := v64
  let v1059 : Index := Scalar.indexCast v65
  let c384_147 : Index := 384#32
  ![0, v1059.toNat, 384]
def k0_off10 : Fin 2 → Nat :=
  let c0_i32_23 : BitVec 32 := 0#32
  let c16_i32 : BitVec 32 := 16#32
  let v64 : BitVec 32 := Scalar.muli c0_i32_23 c16_i32
  let v65 : BitVec 32 := v64
  let v1382 : Index := Scalar.indexCast v65
  let c512 : Index := 512#32
  ![v1382.toNat, 512]
def k0_off11 : Fin 3 → Nat :=
  let c0_190 : Index := 0#32
  let c0_i32_23 : BitVec 32 := 0#32
  let c16_i32 : BitVec 32 := 16#32
  let v64 : BitVec 32 := Scalar.muli c0_i32_23 c16_i32
  let v65 : BitVec 32 := v64
  let v1387 : Index := Scalar.indexCast v65
  let c512_191 : Index := 512#32
  ![0, v1387.toNat, 512]
def k0_off12 : Fin 2 → Nat :=
  let c0_i32_23 : BitVec 32 := 0#32
  let c16_i32 : BitVec 32 := 16#32
  let v64 : BitVec 32 := Scalar.muli c0_i32_23 c16_i32
  let v65 : BitVec 32 := v64
  let v1710 : Index := Scalar.indexCast v65
  let c640 : Index := 640#32
  ![v1710.toNat, 640]
def k0_off13 : Fin 3 → Nat :=
  let c0_234 : Index := 0#32
  let c0_i32_23 : BitVec 32 := 0#32
  let c16_i32 : BitVec 32 := 16#32
  let v64 : BitVec 32 := Scalar.muli c0_i32_23 c16_i32
  let v65 : BitVec 32 := v64
  let v1715 : Index := Scalar.indexCast v65
  let c640_235 : Index := 640#32
  ![0, v1715.toNat, 640]
def k0_off14 : Fin 2 → Nat :=
  let c0_i32_23 : BitVec 32 := 0#32
  let c16_i32 : BitVec 32 := 16#32
  let v64 : BitVec 32 := Scalar.muli c0_i32_23 c16_i32
  let v65 : BitVec 32 := v64
  let v2038 : Index := Scalar.indexCast v65
  let c768 : Index := 768#32
  ![v2038.toNat, 768]
def k0_off15 : Fin 3 → Nat :=
  let c0_278 : Index := 0#32
  let c0_i32_23 : BitVec 32 := 0#32
  let c16_i32 : BitVec 32 := 16#32
  let v64 : BitVec 32 := Scalar.muli c0_i32_23 c16_i32
  let v65 : BitVec 32 := v64
  let v2043 : Index := Scalar.indexCast v65
  let c768_279 : Index := 768#32
  ![0, v2043.toNat, 768]
def k0_off16 : Fin 2 → Nat :=
  let c0_i32_23 : BitVec 32 := 0#32
  let c16_i32 : BitVec 32 := 16#32
  let v64 : BitVec 32 := Scalar.muli c0_i32_23 c16_i32
  let v65 : BitVec 32 := v64
  let v2366 : Index := Scalar.indexCast v65
  let c896 : Index := 896#32
  ![v2366.toNat, 896]
def k0_off17 : Fin 3 → Nat :=
  let c0_322 : Index := 0#32
  let c0_i32_23 : BitVec 32 := 0#32
  let c16_i32 : BitVec 32 := 16#32
  let v64 : BitVec 32 := Scalar.muli c0_i32_23 c16_i32
  let v65 : BitVec 32 := v64
  let v2371 : Index := Scalar.indexCast v65
  let c896_323 : Index := 896#32
  ![0, v2371.toNat, 896]
def k0_cond2 (i : grid0.Coords) : BitVec 1 :=
  let arg1 : BitVec 32 := BitVec.ofNat 32 (i 1).val
  let c0_i32_437 : BitVec 32 := 0#32
  let v2855 : BitVec 1 := Scalar.cmpi .eq arg1 c0_i32_437
  let v2856 : BitVec 32 := Scalar.extui v2855
  let c0_i32_438 : BitVec 32 := 0#32
  let v2857 : BitVec 1 := Scalar.cmpi .ne v2856 c0_i32_438
  v2857

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S256x4096 : Shape := ⟨2, ![256, 4096]⟩
abbrev S1024 : Shape := ⟨1, ![1024]⟩
abbrev S16x8x128x128 : Shape := ⟨4, ![16, 8, 128, 128]⟩
abbrev S16x16x4096 : Shape := ⟨3, ![16, 16, 4096]⟩
abbrev S16x16x1024 : Shape := ⟨3, ![16, 16, 1024]⟩
abbrev S_ : Shape := ⟨0, ![]⟩
abbrev S1x1x1024 : Shape := ⟨3, ![1, 1, 1024]⟩
abbrev S16x16x8x128 : Shape := ⟨4, ![16, 16, 8, 128]⟩
abbrev S16x16 : Shape := ⟨2, ![16, 16]⟩
abbrev S1x16x16x1x1 : Shape := ⟨5, ![1, 16, 16, 1, 1]⟩
abbrev S16x16x1x8x128 : Shape := ⟨5, ![16, 16, 1, 8, 128]⟩
abbrev S16x1x16x8x128 : Shape := ⟨5, ![16, 1, 16, 8, 128]⟩
abbrev S16x16x16x8x128 : Shape := ⟨5, ![16, 16, 16, 8, 128]⟩
abbrev S16x16x16x8 : Shape := ⟨4, ![16, 16, 16, 8]⟩
abbrev S16x8x16x16 : Shape := ⟨4, ![16, 8, 16, 16]⟩
abbrev S16x8x128x16 : Shape := ⟨4, ![16, 8, 128, 16]⟩
abbrev S16x1x8x128 : Shape := ⟨4, ![16, 1, 8, 128]⟩
abbrev S16x8x128 : Shape := ⟨3, ![16, 8, 128]⟩
abbrev S16x8x128x1 : Shape := ⟨4, ![16, 8, 128, 1]⟩
abbrev S16x16x8 : Shape := ⟨3, ![16, 16, 8]⟩
abbrev S16x16x8x1 : Shape := ⟨4, ![16, 16, 8, 1]⟩
abbrev S8x128 : Shape := ⟨2, ![8, 128]⟩
abbrev S1x1x8x128 : Shape := ⟨4, ![1, 1, 8, 128]⟩

abbrev nBuf : Space → Nat
  | .hbm => 164
  | .vmem => 0
  | .smem => 0
  | _ => 0

abbrev hbmTy0_0 (i : Nat) : BufTy := match i % 128 with
  | 0 => ⟨S256x4096, .f32⟩
  | 1 => ⟨S1024, .f32⟩
  | 2 => ⟨S1024, .f32⟩
  | 3 => ⟨S16x8x128x128, .f32⟩
  | 4 => ⟨S16x16x4096, .f32⟩
  | 5 => ⟨S16x16x1024, .f32⟩
  | 6 => ⟨S16x16x1024, .f32⟩
  | 7 => ⟨S16x16x1024, .f32⟩
  | 8 => ⟨S16x16x1024, .f32⟩
  | 9 => ⟨S_, .f32⟩
  | 10 => ⟨S1024, .f32⟩
  | 11 => ⟨S1024, .f32⟩
  | 12 => ⟨S1024, .f32⟩
  | 13 => ⟨S1024, .f32⟩
  | 14 => ⟨S1024, .f32⟩
  | 15 => ⟨S16x16x1024, .f32⟩
  | 16 => ⟨S_, .f32⟩
  | 17 => ⟨S16x16x1024, .f32⟩
  | 18 => ⟨S16x16x1024, .f32⟩
  | 19 => ⟨S16x16x1024, .f32⟩
  | 20 => ⟨S16x16x1024, .f32⟩
  | 21 => ⟨S16x16x1024, .i1⟩
  | 22 => ⟨S16x16x1024, .f32⟩
  | 23 => ⟨S16x16x1024, .f32⟩
  | 24 => ⟨S16x16x1024, .f32⟩
  | 25 => ⟨S16x16x1024, .f32⟩
  | 26 => ⟨S16x16x1024, .f32⟩
  | 27 => ⟨S16x16x1024, .f32⟩
  | 28 => ⟨S16x16x1024, .f32⟩
  | 29 => ⟨S16x16x1024, .f32⟩
  | 30 => ⟨S16x16x1024, .f32⟩
  | 31 => ⟨S1x1x1024, .f32⟩
  | 32 => ⟨S16x16x1024, .f32⟩
  | 33 => ⟨S16x16x1024, .f32⟩
  | 34 => ⟨S1x1x1024, .f32⟩
  | 35 => ⟨S16x16x1024, .f32⟩
  | 36 => ⟨S16x16x1024, .f32⟩
  | 37 => ⟨S16x16x1024, .f32⟩
  | 38 => ⟨S16x16x1024, .f32⟩
  | 39 => ⟨S16x16x1024, .i1⟩
  | 40 => ⟨S16x16x1024, .f32⟩
  | 41 => ⟨S16x16x1024, .f32⟩
  | 42 => ⟨S16x16x1024, .f32⟩
  | 43 => ⟨S16x16x1024, .f32⟩
  | 44 => ⟨S16x16x1024, .f32⟩
  | 45 => ⟨S16x16x1024, .f32⟩
  | 46 => ⟨S16x16x1024, .f32⟩
  | 47 => ⟨S16x16x1024, .f32⟩
  | 48 => ⟨S_, .f32⟩
  | 49 => ⟨S1024, .f32⟩
  | 50 => ⟨S1024, .f32⟩
  | 51 => ⟨S16x16x1024, .f32⟩
  | 52 => ⟨S16x16x1024, .f32⟩
  | 53 => ⟨S16x16x1024, .f32⟩
  | 54 => ⟨S_, .f32⟩
  | 55 => ⟨S16x16x1024, .f32⟩
  | 56 => ⟨S16x16x1024, .f32⟩
  | 57 => ⟨S_, .f32⟩
  | 58 => ⟨S16x16x1024, .f32⟩
  | 59 => ⟨S16x16x1024, .f32⟩
  | 60 => ⟨S1x1x1024, .f32⟩
  | 61 => ⟨S16x16x1024, .f32⟩
  | 62 => ⟨S16x16x1024, .f32⟩
  | 63 => ⟨S16x16x1024, .f32⟩
  | 64 => ⟨S16x16x1024, .f32⟩
  | 65 => ⟨S_, .f32⟩
  | 66 => ⟨S16x16x1024, .f32⟩
  | 67 => ⟨S16x16x1024, .f32⟩
  | 68 => ⟨S_, .f32⟩
  | 69 => ⟨S16x16x1024, .f32⟩
  | 70 => ⟨S16x16x1024, .f32⟩
  | 71 => ⟨S16x16x1024, .f32⟩
  | 72 => ⟨S16x16x8x128, .f32⟩
  | 73 => ⟨S16x16x8x128, .f32⟩
  | 74 => ⟨S16x16x8x128, .f32⟩
  | 75 => ⟨S16x16x8x128, .f32⟩
  | 76 => ⟨S_, .f32⟩
  | 77 => ⟨S_, .f32⟩
  | 78 => ⟨S16x16x8x128, .f32⟩
  | 79 => ⟨S_, .i1⟩
  | 80 => ⟨S16x16, .i1⟩
  | 81 => ⟨S16x16, .i32⟩
  | 82 => ⟨S_, .i32⟩
  | 83 => ⟨S16x16, .i32⟩
  | 84 => ⟨S16x16, .i32⟩
  | 85 => ⟨S16x16, .i32⟩
  | 86 => ⟨S16x16, .i1⟩
  | 87 => ⟨S_, .i1⟩
  | 88 => ⟨S16x16, .i1⟩
  | 89 => ⟨S16x16, .i1⟩
  | 90 => ⟨S1x16x16x1x1, .i1⟩
  | 91 => ⟨S16x16x1x8x128, .f32⟩
  | 92 => ⟨S16x1x16x8x128, .f32⟩
  | 93 => ⟨S16x16x16x8x128, .f32⟩
  | 94 => ⟨S16x16x16x8x128, .f32⟩
  | 95 => ⟨S16x16x16x8x128, .f32⟩
  | 96 => ⟨S_, .f32⟩
  | 97 => ⟨S_, .f32⟩
  | 98 => ⟨S16x16x16x8x128, .i1⟩
  | 99 => ⟨S16x16x16x8x128, .f32⟩
  | 100 => ⟨S16x16x16x8x128, .f32⟩
  | 101 => ⟨S16x16x16x8x128, .f32⟩
  | 102 => ⟨S_, .f32⟩
  | 103 => ⟨S_, .f32⟩
  | 104 => ⟨S16x16x16x8x128, .i1⟩
  | 105 => ⟨S16x16x16x8x128, .f32⟩
  | 106 => ⟨S16x16x16x8x128, .f32⟩
  | 107 => ⟨S16x16x1x8x128, .f32⟩
  | 108 => ⟨S16x16x16x8x128, .f32⟩
  | 109 => ⟨S16x16x16x8x128, .f32⟩
  | 110 => ⟨S16x1x16x8x128, .f32⟩
  | 111 => ⟨S16x16x16x8x128, .f32⟩
  | 112 => ⟨S16x16x16x8x128, .f32⟩
  | 113 => ⟨S_, .f32⟩
  | 114 => ⟨S16x16x16x8, .f32⟩
  | 115 => ⟨S16x8x16x16, .f32⟩
  | 116 => ⟨S16x8x128x16, .f32⟩
  | 117 => ⟨S16x16x8x128, .f32⟩
  | 118 => ⟨S16x16x8x128, .f32⟩
  | 119 => ⟨S16x16x8x128, .f32⟩
  | 120 => ⟨S16x8x128x16, .f32⟩
  | 121 => ⟨S16x16x8x128, .f32⟩
  | 122 => ⟨S16x16x8x128, .f32⟩
  | 123 => ⟨S16x1x8x128, .f32⟩
  | 124 => ⟨S16x8x128, .f32⟩
  | 125 => ⟨S16x8x128, .f32⟩
  | 126 => ⟨S16x8x128x1, .f32⟩
  | 127 => ⟨S16x8x128x128, .f32⟩
  | _ => ⟨S256x4096, .f32⟩

abbrev hbmTy0_1 (i : Nat) : BufTy := match i % 128 with
  | 0 => ⟨S16x8x128x128, .f32⟩
  | 1 => ⟨S16x1x8x128, .f32⟩
  | 2 => ⟨S16x16x8x128, .f32⟩
  | 3 => ⟨S16x16x8x128, .f32⟩
  | 4 => ⟨S16x16x8x128, .f32⟩
  | 5 => ⟨S16x16x8x128, .f32⟩
  | 6 => ⟨S16x8x128x128, .f32⟩
  | 7 => ⟨S16x8x128x128, .f32⟩
  | 8 => ⟨S16x16x8x128, .f32⟩
  | 9 => ⟨S_, .f32⟩
  | 10 => ⟨S16x16x8, .f32⟩
  | 11 => ⟨S16x16x8x1, .f32⟩
  | 12 => ⟨S_, .f32⟩
  | 13 => ⟨S16x16x8x1, .f32⟩
  | 14 => ⟨S16x16x8x1, .f32⟩
  | 15 => ⟨S_, .f32⟩
  | 16 => ⟨S16x16x8x1, .f32⟩
  | 17 => ⟨S16x16x8x1, .f32⟩
  | 18 => ⟨S16x16x8x1, .f32⟩
  | 19 => ⟨S16x16x8x128, .f32⟩
  | 20 => ⟨S16x16x8x128, .f32⟩
  | 21 => ⟨S8x128, .f32⟩
  | 22 => ⟨S1x1x8x128, .f32⟩
  | 23 => ⟨S16x16x8x128, .f32⟩
  | 24 => ⟨S16x16x8x128, .f32⟩
  | 25 => ⟨S16x16x1024, .f32⟩
  | 26 => ⟨S16x16x1024, .f32⟩
  | 27 => ⟨S16x16x1024, .f32⟩
  | 28 => ⟨S_, .f32⟩
  | 29 => ⟨S16x16x1024, .f32⟩
  | 30 => ⟨S16x16x1024, .f32⟩
  | 31 => ⟨S_, .f32⟩
  | 32 => ⟨S16x16x1024, .f32⟩
  | 33 => ⟨S16x16x1024, .f32⟩
  | 34 => ⟨S16x16x1024, .f32⟩
  | 35 => ⟨S16x16x1024, .f32⟩
  | _ => ⟨S256x4096, .f32⟩

abbrev hbmTy (i : Nat) : BufTy := match i / 128 with
  | 0 => hbmTy0_0 i
  | 1 => hbmTy0_1 i
  | _ => ⟨S256x4096, .f32⟩

abbrev bufTy : (tb : Table) → Fin (tcTables nBuf tb) → BufTy
  | .hbm, ⟨i, _⟩ => hbmTy i
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call2_call0_cst : Ref sig .tc := ⟨.hbm, 76, rfl⟩
abbrev main_call2_call0_v0 : Ref sig .tc := ⟨.hbm, 77, rfl⟩
abbrev main_v45 : Ref sig .tc := ⟨.hbm, 78, rfl⟩
abbrev main_c : Ref sig .tc := ⟨.hbm, 79, rfl⟩
abbrev main_v46 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_0 : Ref sig .tc := ⟨.hbm, 87, rfl⟩
abbrev main_call3_v5 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_3 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v54 : Ref sig .tc := ⟨.hbm, 100, rfl⟩
abbrev main_v55 : Ref sig .tc := ⟨.hbm, 101, rfl⟩
abbrev main_cst_4 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_5 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_6 : Ref sig .tc := ⟨.hbm, 137, rfl⟩
abbrev main_v86 : Ref sig .tc := ⟨.hbm, 138, rfl⟩
abbrev main_v87 : Ref sig .tc := ⟨.hbm, 139, rfl⟩
abbrev main_cst_7 : Ref sig .tc := ⟨.hbm, 140, rfl⟩
abbrev main_v88 : Ref sig .tc := ⟨.hbm, 141, rfl⟩
abbrev main_v89 : Ref sig .tc := ⟨.hbm, 142, rfl⟩
abbrev main_cst_8 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_call6_v0 : Ref sig .tc := ⟨.hbm, 154, rfl⟩
abbrev main_call6_v1 : Ref sig .tc := ⟨.hbm, 155, rfl⟩
abbrev main_call6_cst : Ref sig .tc := ⟨.hbm, 156, rfl⟩
abbrev main_call6_v2 : Ref sig .tc := ⟨.hbm, 157, rfl⟩
abbrev main_call6_v3 : Ref sig .tc := ⟨.hbm, 158, rfl⟩
abbrev main_call6_cst_0 : Ref sig .tc := ⟨.hbm, 159, rfl⟩
abbrev main_call6_v4 : Ref sig .tc := ⟨.hbm, 160, rfl⟩
abbrev main_call6_v5 : Ref sig .tc := ⟨.hbm, 161, rfl⟩
abbrev main_v100 : Ref sig .tc := ⟨.hbm, 162, rfl⟩
abbrev main_v101 : Ref sig .tc := ⟨.hbm, 163, rfl⟩

abbrev nD : Nat := 1
abbrev τ : Topo := Topo.v7x

variable {F : FTy → Type} [FloatOps F]
-- ==== Kernel2.lean ====
abbrev S73728x1024 : Shape := ⟨2, ![73728, 1024]⟩
abbrev S72 : Shape := ⟨1, ![72]⟩
abbrev S8x1024x7168 : Shape := ⟨3, ![8, 1024, 7168]⟩
abbrev S8x3584x1024 : Shape := ⟨3, ![8, 3584, 1024]⟩
abbrev S1024x1024 : Shape := ⟨2, ![1024, 1024]⟩
abbrev S1 : Shape := ⟨1, ![1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 4
  | .vmem => 12
  | .smem => 2
  | _ => 0

abbrev bufTy : (tb : Table) → Fin (tcTables nBuf tb) → BufTy
  | .hbm, ⟨0, _⟩ => ⟨S73728x1024, .f32⟩
  | .hbm, ⟨1, _⟩ => ⟨S8x1024x7168, .f32⟩
  | .hbm, ⟨2, _⟩ => ⟨S8x3584x1024, .f32⟩
  | .hbm, ⟨3, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S72, .i32⟩
  | .local _ .smem, ⟨1, _⟩ => ⟨S72, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v10 : Index := Scalar.indexCast arg0
  ![v10.toNat]
def k0_cond4 (i : grid0.Coords) : BitVec 1 :=
  let arg1 : BitVec 32 := BitVec.ofNat 32 (i 1).val
  let c6_i32 : BitVec 32 := 6#32
  let v15 : BitVec 1 := Scalar.cmpi .eq arg1 c6_i32
  let v16 : BitVec 32 := Scalar.extui v15
  let c0_i32_6 : BitVec 32 := 0#32
  let v17 : BitVec 1 := Scalar.cmpi .ne v16 c0_i32_6
  v17

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c0_i32 : BitVec 32 := 0#32
  let v2 : BitVec 1 := Scalar.cmpi .sgt v1 c0_i32
  let c0_i32_0 : BitVec 32 := 0#32
  let v3 : BitVec 32 := Scalar.select v2 arg0 c0_i32_0
  let c0_i32_1 : BitVec 32 := 0#32
  let c0_i32_2 : BitVec 32 := 0#32
  ![v3.toNat, c0_i32_1.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c0_i32_0 : BitVec 32 := 0#32
  let v5 : BitVec 32 := Scalar.select v4 arg1 c0_i32_0
  let c0_i32_1 : BitVec 32 := 0#32
  let c0_i32_2 : BitVec 32 := 0#32
  ![v1.toNat, c0_i32_1.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c0_i32_0 : BitVec 32 := 0#32
  let v5 : BitVec 32 := Scalar.select v4 arg1 c0_i32_0
  let c7_i32 : BitVec 32 := 7#32
  let v6 : BitVec 32 := Scalar.addi v5 c7_i32
  let c0_i32_1 : BitVec 32 := 0#32
  let c0_i32_2 : BitVec 32 := 0#32
  ![v1.toNat, c0_i32_1.toNat, v6.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c0_i32_0 : BitVec 32 := 0#32
  let v5 : BitVec 32 := Scalar.select v4 arg1 c0_i32_0
  let c0_i32_1 : BitVec 32 := 0#32
  let c0_i32_2 : BitVec 32 := 0#32
  ![v1.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S73728x1024 : Shape := ⟨2, ![73728, 1024]⟩
abbrev S72 : Shape := ⟨1, ![72]⟩
abbrev S8x1024x7168 : Shape := ⟨3, ![8, 1024, 7168]⟩
abbrev S8x3584x1024 : Shape := ⟨3, ![8, 3584, 1024]⟩
abbrev S72x1 : Shape := ⟨2, ![72, 1]⟩
abbrev S72x1024 : Shape := ⟨2, ![72, 1024]⟩
abbrev S73728 : Shape := ⟨1, ![73728]⟩
abbrev S73728x1 : Shape := ⟨2, ![73728, 1]⟩
abbrev S1x8 : Shape := ⟨2, ![1, 8]⟩
abbrev S73728x8 : Shape := ⟨2, ![73728, 8]⟩
abbrev S_ : Shape := ⟨0, ![]⟩
abbrev S1x1024x7168 : Shape := ⟨3, ![1, 1024, 7168]⟩
abbrev S1024x7168 : Shape := ⟨2, ![1024, 7168]⟩
abbrev S73728x7168 : Shape := ⟨2, ![73728, 7168]⟩
abbrev S73728x3584 : Shape := ⟨2, ![73728, 3584]⟩
abbrev S1x3584x1024 : Shape := ⟨3, ![1, 3584, 1024]⟩
abbrev S3584x1024 : Shape := ⟨2, ![3584, 1024]⟩

abbrev nBuf : Space → Nat
  | .hbm => 204
  | .vmem => 0
  | .smem => 0
  | _ => 0

abbrev hbmTy0_0 (i : Nat) : BufTy := match i % 128 with
  | 0 => ⟨S73728x1024, .f32⟩
  | 1 => ⟨S72, .i32⟩
  | 2 => ⟨S72, .i32⟩
  | 3 => ⟨S8x1024x7168, .f32⟩
  | 4 => ⟨S8x3584x1024, .f32⟩
  | 5 => ⟨S72x1, .i32⟩
  | 6 => ⟨S72x1024, .i32⟩
  | 7 => ⟨S73728, .i32⟩
  | 8 => ⟨S73728x1, .i32⟩
  | 9 => ⟨S1x8, .i32⟩
  | 10 => ⟨S73728x8, .i32⟩
  | 11 => ⟨S73728x8, .i32⟩
  | 12 => ⟨S73728x8, .i1⟩
  | 13 => ⟨S73728x8, .f32⟩
  | 14 => ⟨S72x1, .i32⟩
  | 15 => ⟨S72x1024, .i32⟩
  | 16 => ⟨S73728, .i32⟩
  | 17 => ⟨S73728x1, .i32⟩
  | 18 => ⟨S_, .i32⟩
  | 19 => ⟨S73728x1, .i32⟩
  | 20 => ⟨S73728x1, .i1⟩
  | 21 => ⟨S_, .f32⟩
  | 22 => ⟨S_, .f32⟩
  | 23 => ⟨S73728x8, .i1⟩
  | 24 => ⟨S73728x8, .f32⟩
  | 25 => ⟨S73728x8, .f32⟩
  | 26 => ⟨S_, .f32⟩
  | 27 => ⟨S73728x1024, .f32⟩
  | 28 => ⟨S1x1024x7168, .f32⟩
  | 29 => ⟨S1024x7168, .f32⟩
  | 30 => ⟨S73728x7168, .f32⟩
  | 31 => ⟨S73728x3584, .f32⟩
  | 32 => ⟨S73728x3584, .f32⟩
  | 33 => ⟨S73728x1, .f32⟩
  | 34 => ⟨S73728x3584, .f32⟩
  | 35 => ⟨S73728x3584, .f32⟩
  | 36 => ⟨S_, .f32⟩
  | 37 => ⟨S73728x3584, .f32⟩
  | 38 => ⟨S73728x3584, .f32⟩
  | 39 => ⟨S_, .f32⟩
  | 40 => ⟨S73728x3584, .f32⟩
  | 41 => ⟨S73728x3584, .f32⟩
  | 42 => ⟨S73728x3584, .f32⟩
  | 43 => ⟨S73728x3584, .f32⟩
  | 44 => ⟨S1x3584x1024, .f32⟩
  | 45 => ⟨S3584x1024, .f32⟩
  | 46 => ⟨S73728x1024, .f32⟩
  | 47 => ⟨S73728x1024, .f32⟩
  | 48 => ⟨S73728x1024, .f32⟩
  | 49 => ⟨S73728x1024, .f32⟩
  | 50 => ⟨S1x1024x7168, .f32⟩
  | 51 => ⟨S1024x7168, .f32⟩
  | 52 => ⟨S73728x7168, .f32⟩
  | 53 => ⟨S73728x3584, .f32⟩
  | 54 => ⟨S73728x3584, .f32⟩
  | 55 => ⟨S73728x1, .f32⟩
  | 56 => ⟨S73728x3584, .f32⟩
  | 57 => ⟨S73728x3584, .f32⟩
  | 58 => ⟨S_, .f32⟩
  | 59 => ⟨S73728x3584, .f32⟩
  | 60 => ⟨S73728x3584, .f32⟩
  | 61 => ⟨S_, .f32⟩
  | 62 => ⟨S73728x3584, .f32⟩
  | 63 => ⟨S73728x3584, .f32⟩
  | 64 => ⟨S73728x3584, .f32⟩
  | 65 => ⟨S73728x3584, .f32⟩
  | 66 => ⟨S1x3584x1024, .f32⟩
  | 67 => ⟨S3584x1024, .f32⟩
  | 68 => ⟨S73728x1024, .f32⟩
  | 69 => ⟨S73728x1024, .f32⟩
  | 70 => ⟨S73728x1024, .f32⟩
  | 71 => ⟨S73728x1024, .f32⟩
  | 72 => ⟨S1x1024x7168, .f32⟩
  | 73 => ⟨S1024x7168, .f32⟩
  | 74 => ⟨S73728x7168, .f32⟩
  | 75 => ⟨S73728x3584, .f32⟩
  | 76 => ⟨S73728x3584, .f32⟩
  | 77 => ⟨S73728x1, .f32⟩
  | 78 => ⟨S73728x3584, .f32⟩
  | 79 => ⟨S73728x3584, .f32⟩
  | 80 => ⟨S_, .f32⟩
  | 81 => ⟨S73728x3584, .f32⟩
  | 82 => ⟨S73728x3584, .f32⟩
  | 83 => ⟨S_, .f32⟩
  | 84 => ⟨S73728x3584, .f32⟩
  | 85 => ⟨S73728x3584, .f32⟩
  | 86 => ⟨S73728x3584, .f32⟩
  | 87 => ⟨S73728x3584, .f32⟩
  | 88 => ⟨S1x3584x1024, .f32⟩
  | 89 => ⟨S3584x1024, .f32⟩
  | 90 => ⟨S73728x1024, .f32⟩
  | 91 => ⟨S73728x1024, .f32⟩
  | 92 => ⟨S73728x1024, .f32⟩
  | 93 => ⟨S73728x1024, .f32⟩
  | 94 => ⟨S1x1024x7168, .f32⟩
  | 95 => ⟨S1024x7168, .f32⟩
  | 96 => ⟨S73728x7168, .f32⟩
  | 97 => ⟨S73728x3584, .f32⟩
  | 98 => ⟨S73728x3584, .f32⟩
  | 99 => ⟨S73728x1, .f32⟩
  | 100 => ⟨S73728x3584, .f32⟩
  | 101 => ⟨S73728x3584, .f32⟩
  | 102 => ⟨S_, .f32⟩
  | 103 => ⟨S73728x3584, .f32⟩
  | 104 => ⟨S73728x3584, .f32⟩
  | 105 => ⟨S_, .f32⟩
  | 106 => ⟨S73728x3584, .f32⟩
  | 107 => ⟨S73728x3584, .f32⟩
  | 108 => ⟨S73728x3584, .f32⟩
  | 109 => ⟨S73728x3584, .f32⟩
  | 110 => ⟨S1x3584x1024, .f32⟩
  | 111 => ⟨S3584x1024, .f32⟩
  | 112 => ⟨S73728x1024, .f32⟩
  | 113 => ⟨S73728x1024, .f32⟩
  | 114 => ⟨S73728x1024, .f32⟩
  | 115 => ⟨S73728x1024, .f32⟩
  | 116 => ⟨S1x1024x7168, .f32⟩
  | 117 => ⟨S1024x7168, .f32⟩
  | 118 => ⟨S73728x7168, .f32⟩
  | 119 => ⟨S73728x3584, .f32⟩
  | 120 => ⟨S73728x3584, .f32⟩
  | 121 => ⟨S73728x1, .f32⟩
  | 122 => ⟨S73728x3584, .f32⟩
  | 123 => ⟨S73728x3584, .f32⟩
  | 124 => ⟨S_, .f32⟩
  | 125 => ⟨S73728x3584, .f32⟩
  | 126 => ⟨S73728x3584, .f32⟩
  | 127 => ⟨S_, .f32⟩
  | _ => ⟨S73728x1024, .f32⟩

abbrev hbmTy0_1 (i : Nat) : BufTy := match i % 128 with
  | 0 => ⟨S73728x3584, .f32⟩
  | 1 => ⟨S73728x3584, .f32⟩
  | 2 => ⟨S73728x3584, .f32⟩
  | 3 => ⟨S73728x3584, .f32⟩
  | 4 => ⟨S1x3584x1024, .f32⟩
  | 5 => ⟨S3584x1024, .f32⟩
  | 6 => ⟨S73728x1024, .f32⟩
  | 7 => ⟨S73728x1024, .f32⟩
  | 8 => ⟨S73728x1024, .f32⟩
  | 9 => ⟨S73728x1024, .f32⟩
  | 10 => ⟨S1x1024x7168, .f32⟩
  | 11 => ⟨S1024x7168, .f32⟩
  | 12 => ⟨S73728x7168, .f32⟩
  | 13 => ⟨S73728x3584, .f32⟩
  | 14 => ⟨S73728x3584, .f32⟩
  | 15 => ⟨S73728x1, .f32⟩
  | 16 => ⟨S73728x3584, .f32⟩
  | 17 => ⟨S73728x3584, .f32⟩
  | 18 => ⟨S_, .f32⟩
  | 19 => ⟨S73728x3584, .f32⟩
  | 20 => ⟨S73728x3584, .f32⟩
  | 21 => ⟨S_, .f32⟩
  | 22 => ⟨S73728x3584, .f32⟩
  | 23 => ⟨S73728x3584, .f32⟩
  | 24 => ⟨S73728x3584, .f32⟩
  | 25 => ⟨S73728x3584, .f32⟩
  | 26 => ⟨S1x3584x1024, .f32⟩
  | 27 => ⟨S3584x1024, .f32⟩
  | 28 => ⟨S73728x1024, .f32⟩
  | 29 => ⟨S73728x1024, .f32⟩
  | 30 => ⟨S73728x1024, .f32⟩
  | 31 => ⟨S73728x1024, .f32⟩
  | 32 => ⟨S1x1024x7168, .f32⟩
  | 33 => ⟨S1024x7168, .f32⟩
  | 34 => ⟨S73728x7168, .f32⟩
  | 35 => ⟨S73728x3584, .f32⟩
  | 36 => ⟨S73728x3584, .f32⟩
  | 37 => ⟨S73728x1, .f32⟩
  | 38 => ⟨S73728x3584, .f32⟩
  | 39 => ⟨S73728x3584, .f32⟩
  | 40 => ⟨S_, .f32⟩
  | 41 => ⟨S73728x3584, .f32⟩
  | 42 => ⟨S73728x3584, .f32⟩
  | 43 => ⟨S_, .f32⟩
  | 44 => ⟨S73728x3584, .f32⟩
  | 45 => ⟨S73728x3584, .f32⟩
  | 46 => ⟨S73728x3584, .f32⟩
  | 47 => ⟨S73728x3584, .f32⟩
  | 48 => ⟨S1x3584x1024, .f32⟩
  | 49 => ⟨S3584x1024, .f32⟩
  | 50 => ⟨S73728x1024, .f32⟩
  | 51 => ⟨S73728x1024, .f32⟩
  | 52 => ⟨S73728x1024, .f32⟩
  | 53 => ⟨S73728x1024, .f32⟩
  | 54 => ⟨S1x1024x7168, .f32⟩
  | 55 => ⟨S1024x7168, .f32⟩
  | 56 => ⟨S73728x7168, .f32⟩
  | 57 => ⟨S73728x3584, .f32⟩
  | 58 => ⟨S73728x3584, .f32⟩
  | 59 => ⟨S73728x1, .f32⟩
  | 60 => ⟨S73728x3584, .f32⟩
  | 61 => ⟨S73728x3584, .f32⟩
  | 62 => ⟨S_, .f32⟩
  | 63 => ⟨S73728x3584, .f32⟩
  | 64 => ⟨S73728x3584, .f32⟩
  | 65 => ⟨S_, .f32⟩
  | 66 => ⟨S73728x3584, .f32⟩
  | 67 => ⟨S73728x3584, .f32⟩
  | 68 => ⟨S73728x3584, .f32⟩
  | 69 => ⟨S73728x3584, .f32⟩
  | 70 => ⟨S1x3584x1024, .f32⟩
  | 71 => ⟨S3584x1024, .f32⟩
  | 72 => ⟨S73728x1024, .f32⟩
  | 73 => ⟨S73728x1024, .f32⟩
  | 74 => ⟨S73728x1024, .f32⟩
  | 75 => ⟨S73728x1024, .f32⟩
  | _ => ⟨S73728x1024, .f32⟩

abbrev hbmTy (i : Nat) : BufTy := match i / 128 with
  | 0 => hbmTy0_0 i
  | 1 => hbmTy0_1 i
  | _ => ⟨S73728x1024, .f32⟩

abbrev bufTy : (tb : Table) → Fin (tcTables nBuf tb) → BufTy
  | .hbm, ⟨i, _⟩ => hbmTy i
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call5_v0 : Ref sig .tc := ⟨.hbm, 100, rfl⟩
abbrev main_call5_v1 : Ref sig .tc := ⟨.hbm, 101, rfl⟩
abbrev main_call5_cst : Ref sig .tc := ⟨.hbm, 102, rfl⟩
abbrev main_call5_v2 : Ref sig .tc := ⟨.hbm, 103, rfl⟩
abbrev main_call5_v3 : Ref sig .tc := ⟨.hbm, 104, rfl⟩
abbrev main_call5_cst_0 : Ref sig .tc := ⟨.hbm, 105, rfl⟩
abbrev main_call5_v4 : Ref sig .tc := ⟨.hbm, 106, rfl⟩
abbrev main_call5_v5 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_call6_v0 : Ref sig .tc := ⟨.hbm, 122, rfl⟩
abbrev main_call6_v1 : Ref sig .tc := ⟨.hbm, 123, rfl⟩
abbrev main_call6_cst : Ref sig .tc := ⟨.hbm, 124, rfl⟩
abbrev main_call6_v2 : Ref sig .tc := ⟨.hbm, 125, rfl⟩
abbrev main_call6_v3 : Ref sig .tc := ⟨.hbm, 126, rfl⟩
abbrev main_call6_cst_0 : Ref sig .tc := ⟨.hbm, 127, rfl⟩
abbrev main_call6_v4 : Ref sig .tc := ⟨.hbm, 128, rfl⟩
abbrev main_call6_v5 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_call8_v0 : Ref sig .tc := ⟨.hbm, 166, rfl⟩
abbrev main_call8_v1 : Ref sig .tc := ⟨.hbm, 167, rfl⟩
abbrev main_call8_cst : Ref sig .tc := ⟨.hbm, 168, rfl⟩
abbrev main_call8_v2 : Ref sig .tc := ⟨.hbm, 169, rfl⟩
abbrev main_call8_v3 : Ref sig .tc := ⟨.hbm, 170, rfl⟩
abbrev main_call8_cst_0 : Ref sig .tc := ⟨.hbm, 171, rfl⟩
abbrev main_call8_v4 : Ref sig .tc := ⟨.hbm, 172, rfl⟩
abbrev main_call8_v5 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_call9_v0 : Ref sig .tc := ⟨.hbm, 188, rfl⟩
abbrev main_call9_v1 : Ref sig .tc := ⟨.hbm, 189, rfl⟩
abbrev main_call9_cst : Ref sig .tc := ⟨.hbm, 190, rfl⟩
abbrev main_call9_v2 : Ref sig .tc := ⟨.hbm, 191, rfl⟩
abbrev main_call9_v3 : Ref sig .tc := ⟨.hbm, 192, rfl⟩
abbrev main_call9_cst_0 : Ref sig .tc := ⟨.hbm, 193, rfl⟩
abbrev main_call9_v4 : Ref sig .tc := ⟨.hbm, 194, rfl⟩
abbrev main_call9_v5 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1024 : Shape := ⟨2, ![8, 1024]⟩
abbrev S1024x3656 : Shape := ⟨2, ![1024, 3656]⟩
abbrev S32768x1024 : Shape := ⟨2, ![32768, 1024]⟩
abbrev S8x1x1024 : Shape := ⟨3, ![8, 1, 1024]⟩
abbrev S1024x1024 : Shape := ⟨2, ![1024, 1024]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S1024x64 : Shape := ⟨2, ![1024, 64]⟩
abbrev S1x1024 : Shape := ⟨2, ![1, 1024]⟩
abbrev S32768x512 : Shape := ⟨2, ![32768, 512]⟩
abbrev S32768x128 : Shape := ⟨2, ![32768, 128]⟩
abbrev S32768x64 : Shape := ⟨2, ![32768, 64]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩

abbrev nBuf : Space → Nat
  | .hbm => 30
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3656, .f32⟩
  | .hbm, ⟨5, _⟩ => ⟨S32768x1024, .f32⟩
  | .hbm, ⟨6, _⟩ => ⟨S8x1x1024, .f32⟩
  | .hbm, ⟨7, _⟩ => ⟨S8x1x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x512, .f32⟩
  | .hbm, ⟨12, _⟩ => ⟨S1024x72, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x64, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x512, .bf16⟩
  | .hbm, ⟨21, _⟩ => ⟨S1024x128, .bf16⟩
  | .hbm, ⟨22, _⟩ => ⟨S1024x64, .bf16⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x512, .f32⟩
  | .hbm, ⟨28, _⟩ => ⟨S32768x128, .f32⟩
  | .hbm, ⟨29, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x128, .bf16⟩
  | .local _ .vmem, ⟨12, _⟩ => ⟨S1024x64, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | .local _ .vmem, ⟨22, _⟩ => ⟨S512x128, .f32⟩
  | .local _ .vmem, ⟨23, _⟩ => ⟨S512x64, .f32⟩
  | .local _ .vmem, ⟨24, _⟩ => ⟨S512x64, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x4096x1024 : Shape := ⟨3, ![8, 4096, 1024]⟩
abbrev S1024 : Shape := ⟨1, ![1024]⟩
abbrev S8x1024 : Shape := ⟨2, ![8, 1024]⟩
abbrev S1024x3656 : Shape := ⟨2, ![1024, 3656]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3656 : Shape := ⟨3, ![8, 4096, 3656]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x72 : Shape := ⟨3, ![8, 4096, 72]⟩
abbrev S8x4096x128 : Shape := ⟨3, ![8, 4096, 128]⟩
abbrev S32768x1024 : Shape := ⟨2, ![32768, 1024]⟩
abbrev S32768x512 : Shape := ⟨2, ![32768, 512]⟩
abbrev S32768x128 : Shape := ⟨2, ![32768, 128]⟩
abbrev S32768x64 : Shape := ⟨2, ![32768, 64]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3656, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x3656, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x512, .f32⟩
  | .hbm, ⟨35, _⟩ => ⟨S8x4096x64, .f32⟩
  | .hbm, ⟨36, _⟩ => ⟨S8x4096x8, .f32⟩
  | .hbm, ⟨37, _⟩ => ⟨S8x4096x72, .f32⟩
  | .hbm, ⟨38, _⟩ => ⟨S_, .i32⟩
  | .hbm, ⟨39, _⟩ => ⟨S_, .f32⟩
  | .hbm, ⟨40, _⟩ => ⟨S8x4096x128, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x512, .f32⟩
  | .hbm, ⟨45, _⟩ => ⟨S32768x128, .f32⟩
  | .hbm, ⟨46, _⟩ => ⟨S32768x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel4.lean ====
abbrev S16x16x1024 : Shape := ⟨3, ![16, 16, 1024]⟩
abbrev S1024 : Shape := ⟨1, ![1024]⟩
abbrev S16x1024 : Shape := ⟨2, ![16, 1024]⟩
abbrev S1024x3656 : Shape := ⟨2, ![1024, 3656]⟩
abbrev S256x1024 : Shape := ⟨2, ![256, 1024]⟩
abbrev S1x256x1024 : Shape := ⟨3, ![1, 256, 1024]⟩
abbrev S1024x1024 : Shape := ⟨2, ![1024, 1024]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S1024x64 : Shape := ⟨2, ![1024, 64]⟩
abbrev S1x1024 : Shape := ⟨2, ![1, 1024]⟩
abbrev S256x512 : Shape := ⟨2, ![256, 512]⟩
abbrev S256x128 : Shape := ⟨2, ![256, 128]⟩
abbrev S256x64 : Shape := ⟨2, ![256, 64]⟩
abbrev S256 : Shape := ⟨1, ![256]⟩
abbrev S256x1 : Shape := ⟨2, ![256, 1]⟩

abbrev nBuf : Space → Nat
  | .hbm => 34
  | .vmem => 16
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3656, .f32⟩
  | .hbm, ⟨5, _⟩ => ⟨S256x1024, .f32⟩
  | .hbm, ⟨6, _⟩ => ⟨S16x16x1024, .f32⟩
  | .hbm, ⟨7, _⟩ => ⟨S256x1024, .f32⟩
  | .hbm, ⟨8, _⟩ => ⟨S1x256x1024, .f32⟩
  | .hbm, ⟨9, _⟩ => ⟨S16x16x1024, .f32⟩
  | .hbm, ⟨10, _⟩ => ⟨S256x1024, .f32⟩
  | .hbm, ⟨11, _⟩ => ⟨S1x256x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x512, .f32⟩
  | .hbm, ⟨16, _⟩ => ⟨S1024x72, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x64, .f32⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x512, .bf16⟩
  | .hbm, ⟨25, _⟩ => ⟨S1024x128, .bf16⟩
  | .hbm, ⟨26, _⟩ => ⟨S1024x64, .bf16⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x512, .f32⟩
  | .hbm, ⟨32, _⟩ => ⟨S256x128, .f32⟩
  | .hbm, ⟨33, _⟩ => ⟨S256x64, .f32⟩
  | .local _ .vmem, ⟨0, _⟩ => ⟨S256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x128, .bf16⟩
  | .local _ .vmem, ⟨9, _⟩ => ⟨S1024x64, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x512, .f32⟩
  | .local _ .vmem, ⟨14, _⟩ => ⟨S256x128, .f32⟩
  | .local _ .vmem, ⟨15, _⟩ => ⟨S256x64, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference4Ideal.lean ====
abbrev S16x16x1024 : Shape := ⟨3, ![16, 16, 1024]⟩
abbrev S1024 : Shape := ⟨1, ![1024]⟩
abbrev S16x1024 : Shape := ⟨2, ![16, 1024]⟩
abbrev S1024x3656 : Shape := ⟨2, ![1024, 3656]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x1x1024 : Shape := ⟨3, ![16, 1, 1024]⟩
abbrev S16x16x3656 : Shape := ⟨3, ![16, 16, 3656]⟩
abbrev S16x16x512 : Shape := ⟨3, ![16, 16, 512]⟩
abbrev S16x16x64 : Shape := ⟨3, ![16, 16, 64]⟩
abbrev S16x16x8 : Shape := ⟨3, ![16, 16, 8]⟩
abbrev S16x16x72 : Shape := ⟨3, ![16, 16, 72]⟩
abbrev S16x16x128 : Shape := ⟨3, ![16, 16, 128]⟩
abbrev S256x1024 : Shape := ⟨2, ![256, 1024]⟩
abbrev S256x512 : Shape := ⟨2, ![256, 512]⟩
abbrev S256x128 : Shape := ⟨2, ![256, 128]⟩
abbrev S256x64 : Shape := ⟨2, ![256, 64]⟩

abbrev nBuf : Space → Nat
  | .hbm => 47
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3656, .f32⟩
  | .hbm, ⟨5, _⟩ => ⟨S16x16x1024, .f32⟩
  | .hbm, ⟨6, _⟩ => ⟨S_, .f32⟩
  | .hbm, ⟨7, _⟩ => ⟨S16x16, .f32⟩
  | .hbm, ⟨8, _⟩ => ⟨S16x16x1, .f32⟩
  | .hbm, ⟨9, _⟩ => ⟨S_, .f32⟩
  | .hbm, ⟨10, _⟩ => ⟨S16x16x1, .f32⟩
  | .hbm, ⟨11, _⟩ => ⟨S16x16x1, .f32⟩
  | .hbm, ⟨12, _⟩ => ⟨S_, .f32⟩
  | .hbm, ⟨13, _⟩ => ⟨S16x16x1, .f32⟩
  | .hbm, ⟨14, _⟩ => ⟨S16x16x1, .f32⟩
  | .hbm, ⟨15, _⟩ => ⟨S16x16x1, .f32⟩
  | .hbm, ⟨16, _⟩ => ⟨S16x16x1024, .f32⟩
  | .hbm, ⟨17, _⟩ => ⟨S16x16x1024, .f32⟩
  | .hbm, ⟨18, _⟩ => ⟨S1x1x1024, .f32⟩
  | .hbm, ⟨19, _⟩ => ⟨S16x16x1024, .f32⟩
  | .hbm, ⟨20, _⟩ => ⟨S16x16x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x16x1024, .f32⟩
  | .hbm, ⟨26, _⟩ => ⟨S16x16x1024, .f32⟩
  | .hbm, ⟨27, _⟩ => ⟨S16x1x1024, .f32⟩
  | .hbm, ⟨28, _⟩ => ⟨S16x16x1024, .f32⟩
  | .hbm, ⟨29, _⟩ => ⟨S16x16x1024, .f32⟩
  | .hbm, ⟨30, _⟩ => ⟨S16x16x3656, .f32⟩
  | .hbm, ⟨31, _⟩ => ⟨S16x16x1024, .f32⟩
  | .hbm, ⟨32, _⟩ => ⟨S16x16x1024, .f32⟩
  | .hbm, ⟨33, _⟩ => ⟨S16x16x1024, .f32⟩
  | .hbm, ⟨34, _⟩ => ⟨S16x16x512, .f32⟩
  | .hbm, ⟨35, _⟩ => ⟨S16x16x64, .f32⟩
  | .hbm, ⟨36, _⟩ => ⟨S16x16x8, .f32⟩
  | .hbm, ⟨37, _⟩ => ⟨S16x16x72, .f32⟩
  | .hbm, ⟨38, _⟩ => ⟨S_, .i32⟩
  | .hbm, ⟨39, _⟩ => ⟨S_, .f32⟩
  | .hbm, ⟨40, _⟩ => ⟨S16x16x128, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x512, .f32⟩
  | .hbm, ⟨45, _⟩ => ⟨S256x128, .f32⟩
  | .hbm, ⟨46, _⟩ => ⟨S256x64, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S8x4096x1024 : Shape := ⟨3, ![8, 4096, 1024]⟩
abbrev S1024 : Shape := ⟨1, ![1024]⟩
abbrev S8x1024 : Shape := ⟨2, ![8, 1024]⟩
abbrev S1024x7168 : Shape := ⟨2, ![1024, 7168]⟩
abbrev S3584x1024 : Shape := ⟨2, ![3584, 1024]⟩
abbrev S32768x1024 : Shape := ⟨2, ![32768, 1024]⟩
abbrev S8x1x1024 : Shape := ⟨3, ![8, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 15
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x7168, .f32⟩
  | .hbm, ⟨6, _⟩ => ⟨S3584x1024, .f32⟩
  | .hbm, ⟨7, _⟩ => ⟨S32768x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x7168, .bf16⟩
  | .hbm, ⟨12, _⟩ => ⟨S3584x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S8x4096x1024 : Shape := ⟨3, ![8, 4096, 1024]⟩
abbrev S1024 : Shape := ⟨1, ![1024]⟩
abbrev S8x1024 : Shape := ⟨2, ![8, 1024]⟩
abbrev S1024x7168 : Shape := ⟨2, ![1024, 7168]⟩
abbrev S3584x1024 : Shape := ⟨2, ![3584, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x7168 : Shape := ⟨3, ![8, 4096, 7168]⟩
abbrev S8x4096x3584 : Shape := ⟨3, ![8, 4096, 3584]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x7168, .f32⟩
  | .hbm, ⟨6, _⟩ => ⟨S3584x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x7168, .f32⟩
  | .hbm, ⟨33, _⟩ => ⟨S8x4096x3584, .f32⟩
  | .hbm, ⟨34, _⟩ => ⟨S8x4096x3584, .f32⟩
  | .hbm, ⟨35, _⟩ => ⟨S8x1x1024, .f32⟩
  | .hbm, ⟨36, _⟩ => ⟨S8x4096x3584, .f32⟩
  | .hbm, ⟨37, _⟩ => ⟨S8x4096x3584, .f32⟩
  | .hbm, ⟨38, _⟩ => ⟨S_, .f32⟩
  | .hbm, ⟨39, _⟩ => ⟨S8x4096x3584, .f32⟩
  | .hbm, ⟨40, _⟩ => ⟨S8x4096x3584, .f32⟩
  | .hbm, ⟨41, _⟩ => ⟨S_, .f32⟩
  | .hbm, ⟨42, _⟩ => ⟨S8x4096x3584, .f32⟩
  | .hbm, ⟨43, _⟩ => ⟨S8x4096x3584, .f32⟩
  | .hbm, ⟨44, _⟩ => ⟨S8x4096x3584, .f32⟩
  | .hbm, ⟨45, _⟩ => ⟨S8x4096x3584, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.HgrnSpec.lean ====
/- The recurrence's mathematics over extended reals: the forget gate and the key of one channel, one head's outputs and new
   state over a chunk of sixteen frames, and the normalised, scaled and gated result. -/
module

public import Idealize.ShloMosaic.PureOps.Ideal.Laws

@[expose] public section

noncomputable section

namespace Hgrn

open Idealize.ShloMosaic

def absM (x : EReal) : EReal := max x (-x)

/-- The logarithm of the lower bound, kept away from zero. -/
def logLb (l : EReal) : EReal := Ideal.log (max l (Ideal.ofBits FTy.f32 0x0DA24260#32))

/-- The logarithm of the open share times the gate. -/
def open' (l f : EReal) : EReal := Ideal.log1p (0 - l) - (max (0 - f) 0 + Ideal.log1p (Ideal.exp (0 - absM f)))

/-- The logarithm of the forget gate. -/
def lfM (l f : EReal) : EReal := max (logLb l) (open' l f) + Ideal.log1p (Ideal.exp (0 - absM (logLb l - open' l f)))

/-- The logarithm of the key. -/
def lkM (l f : EReal) : EReal := Ideal.log1p (0 - l) - (max f 0 + Ideal.log1p (Ideal.exp (0 - absM f)))

def siluM (x : EReal) : EReal := Ideal.div x (1 + Ideal.exp (0 - x))

/-- The sum from the chunk's start. -/
def cum (lf : Fin 16 → EReal) (t : Fin 16) : EReal := ∑ s, (if s ≤ t then 1 else 0) * lf s

/-- One head's outputs. -/
def outM (q lf lk v : Fin 16 → Fin 128 → EReal) (st : Fin 128 → Fin 128 → EReal) (t : Fin 16) (j : Fin 128) : EReal :=
  (∑ d, (q t d * Ideal.exp (cum (lf · d) t)) * st d j) + ∑ s, (∑ d, q t d *
    Ideal.exp (if s ≤ t then cum (lf · d) t - (cum (lf · d) s - lk s d) else ⊥)) * v s j

/-- One head's new state. -/
def stateM (lf lk v : Fin 16 → Fin 128 → EReal) (st : Fin 128 → Fin 128 → EReal) (d j : Fin 128) : EReal :=
  st d j * Ideal.exp (cum (lf · d) 15) + ∑ s, v s j * Ideal.exp (cum (lf · d) 15 - (cum (lf · d) s - lk s d))

/-- Normalised over the head, scaled, and gated. -/
def normM (y : Fin 128 → EReal) (gon g : EReal) (j : Fin 128) : EReal :=
  y j * Ideal.rsqrt (Ideal.div (∑ x, y x * y x) (Ideal.ofBits FTy.f32 0x43000000#32) + Ideal.ofBits FTy.f32 0x358637BD#32) * gon * g

end Hgrn

end
-- ==== Proof.HgrnMath.lean ====
/- Facts of extended reals that join the kernel's arithmetic, which keeps the key as a logarithm, to the plain formula's. -/
module

public import proofs.«01_k».proof.Proof.HgrnSpec

@[expose] public section

noncomputable section

namespace Hgrn

open Idealize.ShloMosaic

theorem coe_max' (a b : ℝ) : ((max a b : ℝ) : EReal) = max (a : EReal) (b : EReal) := EReal.coe_strictMono.monotone.map_max
theorem coe_sub_top' (a : ℝ) : (a : EReal) - ⊤ = ⊥ := by rw [sub_eq_add_neg, EReal.neg_top, EReal.add_bot]

/-- Finite. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by push_cast; rfl⟩

/-- The logarithm of one plus a power of e is a finite nonnegative number when the exponent is not positive infinity. -/
theorem log1p_exp (r : ℝ) : Ideal.log1p (Ideal.exp (r : EReal)) = ((Real.log (1 + Real.exp r) : ℝ) : EReal) := by
  have h : ¬ (1 + Real.exp r ≤ 0) := by have := Real.exp_pos r; linarith
  show Ideal.log (1 + ((Real.exp r : ℝ) : EReal)) = _
  rw [← EReal.coe_one, ← EReal.coe_add, Ideal.log_coe, if_neg h]

theorem log1p_exp_bot : Ideal.log1p (Ideal.exp ⊥) = 0 := by
  show Ideal.log (1 + (0 : EReal)) = 0
  rw [add_zero, ← EReal.coe_one, Ideal.log_coe, if_neg (by norm_num), Real.log_one, EReal.coe_zero]

theorem absM_coe (r : ℝ) : absM (r : EReal) = ((|r| : ℝ) : EReal) := by
  show max (r : EReal) (-(r : EReal)) = _
  rw [← EReal.coe_neg, abs_eq_max_neg]; exact (coe_max' _ _).symm

/-- The soft plus, as the kernel writes it. -/
def soft (x z : EReal) : EReal := max x 0 + Ideal.log1p (Ideal.exp (0 - absM z))

theorem soft_coe (r z : ℝ) (hz : |z| = |r|) : soft (r : EReal) (z : EReal) = ((Real.log (1 + Real.exp r) : ℝ) : EReal) := by
  unfold soft
  rw [absM_coe, zero_sub, ← EReal.coe_neg, log1p_exp, ← EReal.coe_zero, ← coe_max', ← EReal.coe_add, EReal.coe_eq_coe_iff, hz]
  rcases le_total 0 r with h | h
  · rw [max_eq_left h, abs_of_nonneg h]
    have : 1 + Real.exp r = Real.exp r * (1 + Real.exp (-r)) := by rw [mul_add, ← Real.exp_add]; simp [add_comm]
    rw [this, Real.log_mul (Real.exp_pos r).ne' (by have := Real.exp_pos (-r); linarith), Real.log_exp]
  · rw [max_eq_right h, abs_of_nonpos h, neg_neg, zero_add]

theorem soft_top (z : EReal) (hz : absM z = ⊤) : soft ⊤ z = ⊤ := by
  unfold soft; rw [hz, zero_sub, EReal.neg_top, log1p_exp_bot, add_zero]; simp

theorem soft_bot (z : EReal) (hz : absM z = ⊤) : soft ⊥ z = 0 := by
  unfold soft; rw [hz, zero_sub, EReal.neg_top, log1p_exp_bot, add_zero]; simp

theorem absM_top : absM ⊤ = ⊤ := by simp [absM]
theorem absM_bot : absM ⊥ = ⊤ := by simp [absM]

/-- The logarithm of the open share. -/
theorem log_open (l : ℝ) : Ideal.log1p (0 - (l : EReal)) = Ideal.log ((1 - l : ℝ) : EReal) := by
  show Ideal.log (1 + (0 - (l : EReal))) = _
  rw [zero_sub, ← EReal.coe_neg, ← EReal.coe_one, ← EReal.coe_add, sub_eq_add_neg]

theorem open_cases (l : ℝ) (f : EReal) : open' (l : EReal) f = ⊥ ∨ Fin' (open' (l : EReal) f) := by
  show Ideal.log1p (0 - (l : EReal)) - soft (0 - f) f = ⊥ ∨ Fin' (Ideal.log1p (0 - (l : EReal)) - soft (0 - f) f)
  rw [log_open, Ideal.log_coe]
  by_cases hl : (1 - l : ℝ) ≤ 0
  · rw [if_pos hl, sub_eq_add_neg]; left; exact EReal.bot_add _
  · rw [if_neg hl]
    induction f with
    | bot => left; rw [zero_sub, EReal.neg_bot, soft_top _ absM_bot]; exact coe_sub_top' _
    | top => right; rw [zero_sub, EReal.neg_top, soft_bot _ absM_top, sub_zero]; exact ⟨_, rfl⟩
    | coe r => right; rw [zero_sub, ← EReal.coe_neg, soft_coe _ _ (abs_neg r).symm]; exact ⟨_, (EReal.coe_sub _ _).symm⟩

theorem logLb_fin (l : ℝ) (hf : ∃ e : ℝ, 0 < e ∧ Ideal.ofBits FTy.f32 0x0DA24260#32 = (e : EReal)) : Fin' (logLb (l : EReal)) := by
  obtain ⟨e, he, hb⟩ := hf
  unfold logLb
  rw [hb, ← coe_max', Ideal.log_coe, if_neg (not_le.mpr (lt_of_lt_of_le he (le_max_right _ _)))]
  exact ⟨_, rfl⟩

/-- The logarithm of the forget gate is finite. -/
theorem lfM_fin (l : ℝ) (f : EReal) (hf : ∃ e : ℝ, 0 < e ∧ Ideal.ofBits FTy.f32 0x0DA24260#32 = (e : EReal)) : Fin' (lfM (l : EReal) f) := by
  unfold lfM
  obtain ⟨a, ha⟩ := logLb_fin l hf
  rw [ha]
  rcases open_cases l f with h | ⟨b, h⟩
  · rw [h, EReal.coe_sub_bot, absM_top, zero_sub, EReal.neg_top, log1p_exp_bot, add_zero, max_eq_left bot_le]; exact ⟨a, rfl⟩
  · rw [h, ← EReal.coe_sub, absM_coe, zero_sub, ← EReal.coe_neg, log1p_exp, ← coe_max']; exact ⟨_, (EReal.coe_add _ _).symm⟩

/-- The key, and it is the power of e of the kernel's logarithm. -/
theorem exp_lkM (l : ℝ) (f : EReal) (hl : l ≤ 1) :
    Ideal.exp (lkM (l : EReal) f) = (1 - (l : EReal)) * Ideal.div 1 (1 + Ideal.exp f) := by
  have e1 : (1 - (l : EReal)) = ((1 - l : ℝ) : EReal) := by push_cast; rfl
  show Ideal.exp (Ideal.log1p (0 - (l : EReal)) - soft f f) = _
  rw [log_open, Ideal.log_coe, e1]
  by_cases hz : (1 - l : ℝ) ≤ 0
  · have h0 : (1 - l : ℝ) = 0 := by linarith
    rw [if_pos hz, h0, EReal.coe_zero, zero_mul, sub_eq_add_neg, EReal.bot_add]; rfl
  · rw [if_neg hz]
    have hp : 0 < 1 - l := not_le.mp hz
    induction f with
    | bot =>
      rw [soft_bot _ absM_bot, sub_zero, Ideal.exp_coe, Real.exp_log hp, Ideal.exp_bot, add_zero]
      unfold Ideal.div
      simp
    | top =>
      rw [soft_top _ absM_top, coe_sub_top', Ideal.exp_top]
      show (0 : EReal) = _
      unfold Ideal.div
      rw [show (1 : EReal) + ⊤ = ⊤ from rfl]
      simp
    | coe r =>
      have hr := Real.exp_pos r
      have h1 : (1 + Real.exp r) ≠ 0 := by linarith
      rw [soft_coe _ _ rfl, ← EReal.coe_sub, Ideal.exp_coe, Real.exp_sub, Real.exp_log hp, Real.exp_log (by linarith), Ideal.exp_coe,
        ← EReal.coe_one, ← EReal.coe_add, Ideal.div_coe h1, ← EReal.coe_mul, ← EReal.coe_mul, EReal.coe_eq_coe_iff]
      field_simp

theorem lkM_ne_top (l : ℝ) (f : EReal) : lkM (l : EReal) f ≠ ⊤ := by
  show Ideal.log1p (0 - (l : EReal)) - soft f f ≠ ⊤
  rw [log_open, Ideal.log_coe]
  by_cases hz : (1 - l : ℝ) ≤ 0
  · rw [if_pos hz, sub_eq_add_neg, EReal.bot_add]; exact bot_ne_top
  · rw [if_neg hz]
    induction f with
    | bot => rw [soft_bot _ absM_bot, sub_zero]; exact EReal.coe_ne_top _
    | top => rw [soft_top _ absM_top, coe_sub_top']; exact bot_ne_top
    | coe r => rw [soft_coe _ _ rfl, ← EReal.coe_sub]; exact EReal.coe_ne_top _

/-- A decay with the key inside the exponent is the decay times the key. -/
theorem exp_split (a b k : EReal) (ha : Fin' a) (hb : Fin' b) (hk : k ≠ ⊤) :
    Ideal.exp (a - (b - k)) = Ideal.exp (a - b) * Ideal.exp k := by
  obtain ⟨a, rfl⟩ := ha; obtain ⟨b, rfl⟩ := hb
  induction k with
  | bot => rw [EReal.coe_sub_bot, coe_sub_top', Ideal.exp_bot, mul_zero]
  | top => exact absurd rfl hk
  | coe r => rw [← EReal.coe_sub, ← EReal.coe_sub, ← EReal.coe_sub, Ideal.exp_coe, Ideal.exp_coe, Ideal.exp_coe, ← EReal.coe_mul,
      EReal.coe_eq_coe_iff, ← Real.exp_add]; congr 1; ring

theorem exp_nonneg (x : EReal) : 0 ≤ Ideal.exp x := by
  induction x with
  | bot => exact le_refl _
  | top => exact le_top
  | coe r => exact EReal.coe_nonneg.mpr (Real.exp_pos r).le

/-- A quotient by one plus a power is the numerator times the sigmoid. -/
theorem div_exp (x z : EReal) : Ideal.div x (1 + Ideal.exp z) = x * Ideal.div 1 (1 + Ideal.exp z) := by
  have h : (1 : EReal) + Ideal.exp z ≠ 0 := by
    have h1 : (1 : EReal) ≤ 1 + Ideal.exp z := le_add_of_nonneg_right (exp_nonneg z)
    exact fun h0 => absurd (h0 ▸ h1) (by norm_num)
  unfold Ideal.div
  rw [if_neg h, if_neg h, one_mul]

theorem siluM_eq (x : EReal) : siluM x = x * Ideal.div 1 (1 + Ideal.exp (-x)) := by
  unfold siluM; rw [zero_sub]; exact div_exp _ _

theorem cum_fin (lf : Fin 16 → EReal) (h : ∀ s, Fin' (lf s)) (t : Fin 16) : Fin' (cum lf t) := by
  unfold cum
  refine Finset.sum_induction _ Fin' (fun _ _ => Fin'.add) ⟨0, EReal.coe_zero.symm⟩ fun s _ => ?_
  by_cases hs : s ≤ t
  · rw [if_pos hs, one_mul]; exact h s
  · rw [if_neg hs, zero_mul]; exact ⟨0, EReal.coe_zero.symm⟩

/-- One entry of the masked decays, with the key. -/
theorem mask_entry (q b c k k' : EReal) (p : Prop) [Decidable p] (hb : Fin' b) (hc : Fin' c) (hk : k ≠ ⊤) (hk' : Ideal.exp k = k') :
    q * Ideal.exp (if p then b - (c - k) else ⊥) = q * (if p then Ideal.exp (if p then b - c else 0) else 0) * k' := by
  by_cases h : p
  · rw [if_pos h, if_pos h, if_pos h, exp_split b c k hb hc hk, hk', mul_assoc]
  · rw [if_neg h, if_neg h, Ideal.exp_bot, mul_zero, zero_mul]

/-- Outputs by the plain formula. -/
theorem outM_eq (q lf lk k v : Fin 16 → Fin 128 → EReal) (st : Fin 128 → Fin 128 → EReal) (t : Fin 16) (j : Fin 128)
    (hlf : ∀ s d, Fin' (lf s d)) (hlk : ∀ s d, lk s d ≠ ⊤) (hk : ∀ s d, Ideal.exp (lk s d) = k s d) :
    outM q lf lk v st t j
      = ∑ s, v s j * (∑ d, q t d * (if s ≤ t then Ideal.exp (if s ≤ t then cum (lf · d) t - cum (lf · d) s else 0) else 0) * k s d)
        + ∑ d, st d j * (q t d * Ideal.exp (cum (lf · d) t)) := by
  unfold outM
  rw [add_comm]
  refine congr (congrArg _ (Finset.sum_congr rfl fun s _ => ?_)) (Finset.sum_congr rfl fun d _ => mul_comm _ _)
  rw [mul_comm]
  exact congrArg _ (Finset.sum_congr rfl fun d _ =>
    mask_entry _ _ _ _ _ _ (cum_fin _ (hlf · d) t) (cum_fin _ (hlf · d) s) (hlk s d) (hk s d))

/-- The new state by the plain formula. -/
theorem stateM_eq (lf lk k v : Fin 16 → Fin 128 → EReal) (st : Fin 128 → Fin 128 → EReal) (d j : Fin 128)
    (hlf : ∀ s d, Fin' (lf s d)) (hlk : ∀ s d, lk s d ≠ ⊤) (hk : ∀ s d, Ideal.exp (lk s d) = k s d) :
    stateM lf lk v st d j
      = Ideal.exp (cum (lf · d) 15) * st d j + ∑ s, k s d * Ideal.exp (cum (lf · d) 15 - cum (lf · d) s) * v s j := by
  unfold stateM
  refine congr (congrArg _ (mul_comm _ _)) (Finset.sum_congr rfl fun s _ => ?_)
  rw [exp_split _ _ _ (cum_fin _ (hlf · d) 15) (cum_fin _ (hlf · d) s) (hlk s d), hk, mul_comm, mul_comm (Ideal.exp _)]

end Hgrn

end
-- ==== Proof.HgrnHead.lean ====
/- One head of the recurrence, as the kernel's body spells it for each of its eight heads: the attention-like sums over the
   sixteen frames of the chunk, the read of the carried state, and the update of that state. Each is a definition over the
   head's arrays alone, followed by its value at an index. -/
module

public import proofs.«01_k».proof.Proof.Gen.KernelIdeal.Skeleton
public import Idealize.ShloMosaic.Lib.Pipeline.Value
public import Idealize.ShloMosaic.Lib.ValueIdx
public import Idealize.ShloMosaic.Lib.Pointwise
public import Idealize.ShloMosaic.PureOps.Ideal.Laws

@[expose] public section

set_option maxRecDepth 16384

noncomputable section

namespace Hgrn

open Cert.KernelIdeal Cert.KernelIdeal.Gen Cert.KernelIdeal.Facts Idealize.ShloMosaic

variable {F : FTy → Type} [FloatOps F] [Named F]

/-- The row numbers the causal mask compares. -/
abbrev rows : IVec S16x128 32 := iota .tc S16x128 32 [0] iota_S16x128_d0_w32

/-- The queries times their decays from frame `s`, all sixteen rows. -/
def xLo (s : ℕ) (hs : S16x128.Slices ![s, 0] S1x128) (b g q : FVec F S16x128 .f32) : FVec F S16x128 .f32 :=
  mulf q (exp (select (cmpi .sge rows (broadcast S16x128 (BitVec.ofNat 32 s)))
    (subf b (broadcastTo S16x128 (extractStridedSlice S1x128 ![s, 0] g hs) broadcasts_S1x128_S16x128))
    (broadcast S16x128 (Named.named κ "mask" 0xF149F2CA#32))))

/-- The same for a frame of the second half: only the second half's rows. -/
def xHi (s : ℕ) (hs : S16x128.Slices ![s, 0] S1x128) (b g q : FVec F S16x128 .f32) : FVec F S8x128 .f32 :=
  mulf (extractStridedSlice S8x128 ![8, 0] q slices_S16x128_o8_0_S8x128)
    (exp (select (cmpi .sge (extractStridedSlice S8x128 ![8, 0] rows slices_S16x128_o8_0_S8x128)
        (broadcast S8x128 (BitVec.ofNat 32 s)))
      (subf (extractStridedSlice S8x128 ![8, 0] b slices_S16x128_o8_0_S8x128)
        (broadcastTo S8x128 (extractStridedSlice S1x128 ![s, 0] g hs) broadcasts_S1x128_S8x128))
      (broadcast S8x128 (Named.named κ "mask" 0xF149F2CA#32))))

/-- The stacked blocks whose lane sums are the scores. -/
def stack (b g q : FVec F S16x128 .f32) : FVec F S192x128 .f32 :=
  concatenate S192x128 0 [⟨S16x128, xLo 0 slices_S16x128_o0_0_S1x128 b g q⟩, ⟨S16x128, xLo 1 slices_S16x128_o1_0_S1x128 b g q⟩,
    ⟨S16x128, xLo 2 slices_S16x128_o2_0_S1x128 b g q⟩, ⟨S16x128, xLo 3 slices_S16x128_o3_0_S1x128 b g q⟩,
    ⟨S16x128, xLo 4 slices_S16x128_o4_0_S1x128 b g q⟩, ⟨S16x128, xLo 5 slices_S16x128_o5_0_S1x128 b g q⟩,
    ⟨S16x128, xLo 6 slices_S16x128_o6_0_S1x128 b g q⟩, ⟨S16x128, xLo 7 slices_S16x128_o7_0_S1x128 b g q⟩,
    ⟨S8x128, xHi 8 slices_S16x128_o8_0_S1x128 b g q⟩, ⟨S8x128, xHi 9 slices_S16x128_o9_0_S1x128 b g q⟩,
    ⟨S8x128, xHi 10 slices_S16x128_o10_0_S1x128 b g q⟩, ⟨S8x128, xHi 11 slices_S16x128_o11_0_S1x128 b g q⟩,
    ⟨S8x128, xHi 12 slices_S16x128_o12_0_S1x128 b g q⟩, ⟨S8x128, xHi 13 slices_S16x128_o13_0_S1x128 b g q⟩,
    ⟨S8x128, xHi 14 slices_S16x128_o14_0_S1x128 b g q⟩, ⟨S8x128, xHi 15 slices_S16x128_o15_0_S1x128 b g q⟩]
    concatenates_S16x128_S16x128_S16x128_S16x128_S16x128_S16x128_S16x128_S16x128_S8x128_S8x128_S8x128_S8x128_S8x128_S8x128_S8x128_S8x128_S192x128_d0

/-- The scores, one in every lane. -/
def scores (b g q : FVec F S16x128 .f32) : FVec F S192x128 .f32 :=
  matmul dot_S192x128_S128x128_S192x128_1_0_0_1_n_n none (truncf .bf16 (stack b g q) bitsLt_bf16_f32)
    (broadcast S128x128 (Scalar.ofBits .bf16 0x3F80#16)) (constant S192x128 .f32 0x00000000#32)

/-- One frame's contribution to eight rows: the scores at rows `r` of the stack times the frame's value. -/
def add1 (r s : ℕ) (hr : S192x128.Slices ![r, 0] S8x128) (hs : S16x128.Slices ![s, 0] S1x128) (a : FVec F S192x128 .f32)
    (v : FVec F S16x128 .f32) (o : FVec F S8x128 .f32) : FVec F S8x128 .f32 :=
  addf o (mulf (extractStridedSlice S8x128 ![r, 0] a hr)
    (broadcastTo S8x128 (extractStridedSlice S1x128 ![s, 0] v hs) broadcasts_S1x128_S8x128))

/-- What the state contributes to each frame. -/
def fromState (b q : FVec F S16x128 .f32) (st : FVec F S128x128 .f32) : FVec F S16x128 .f32 :=
  matmul dot_S16x128_S128x128_S16x128_1_1_0_0_n_n none (truncf .bf16 (mulf q (exp b)) bitsLt_bf16_f32)
    (truncf .bf16 st bitsLt_bf16_f32) (constant S16x128 .f32 0x00000000#32)

/-- The first eight frames' outputs. -/
def outLo (a : FVec F S192x128 .f32) (v o : FVec F S16x128 .f32) : FVec F S8x128 .f32 :=
  add1 112 7 slices_S192x128_o112_0_S8x128 slices_S16x128_o7_0_S1x128 a v <|
  add1 96 6 slices_S192x128_o96_0_S8x128 slices_S16x128_o6_0_S1x128 a v <|
  add1 80 5 slices_S192x128_o80_0_S8x128 slices_S16x128_o5_0_S1x128 a v <|
  add1 64 4 slices_S192x128_o64_0_S8x128 slices_S16x128_o4_0_S1x128 a v <|
  add1 48 3 slices_S192x128_o48_0_S8x128 slices_S16x128_o3_0_S1x128 a v <|
  add1 32 2 slices_S192x128_o32_0_S8x128 slices_S16x128_o2_0_S1x128 a v <|
  add1 16 1 slices_S192x128_o16_0_S8x128 slices_S16x128_o1_0_S1x128 a v <|
  add1 0 0 slices_S192x128_o0_0_S8x128 slices_S16x128_o0_0_S1x128 a v <|
  extractStridedSlice S8x128 ![0, 0] o slices_S16x128_o0_0_S8x128

/-- The last eight frames' outputs. -/
def outHi (a : FVec F S192x128 .f32) (v o : FVec F S16x128 .f32) : FVec F S8x128 .f32 :=
  add1 184 15 slices_S192x128_o184_0_S8x128 slices_S16x128_o15_0_S1x128 a v <|
  add1 176 14 slices_S192x128_o176_0_S8x128 slices_S16x128_o14_0_S1x128 a v <|
  add1 168 13 slices_S192x128_o168_0_S8x128 slices_S16x128_o13_0_S1x128 a v <|
  add1 160 12 slices_S192x128_o160_0_S8x128 slices_S16x128_o12_0_S1x128 a v <|
  add1 152 11 slices_S192x128_o152_0_S8x128 slices_S16x128_o11_0_S1x128 a v <|
  add1 144 10 slices_S192x128_o144_0_S8x128 slices_S16x128_o10_0_S1x128 a v <|
  add1 136 9 slices_S192x128_o136_0_S8x128 slices_S16x128_o9_0_S1x128 a v <|
  add1 128 8 slices_S192x128_o128_0_S8x128 slices_S16x128_o8_0_S1x128 a v <|
  add1 120 7 slices_S192x128_o120_0_S8x128 slices_S16x128_o7_0_S1x128 a v <|
  add1 104 6 slices_S192x128_o104_0_S8x128 slices_S16x128_o6_0_S1x128 a v <|
  add1 88 5 slices_S192x128_o88_0_S8x128 slices_S16x128_o5_0_S1x128 a v <|
  add1 72 4 slices_S192x128_o72_0_S8x128 slices_S16x128_o4_0_S1x128 a v <|
  add1 56 3 slices_S192x128_o56_0_S8x128 slices_S16x128_o3_0_S1x128 a v <|
  add1 40 2 slices_S192x128_o40_0_S8x128 slices_S16x128_o2_0_S1x128 a v <|
  add1 24 1 slices_S192x128_o24_0_S8x128 slices_S16x128_o1_0_S1x128 a v <|
  add1 8 0 slices_S192x128_o8_0_S8x128 slices_S16x128_o0_0_S1x128 a v <|
  extractStridedSlice S8x128 ![8, 0] o slices_S16x128_o8_0_S8x128

/-- The head's sixteen output rows, before normalisation. -/
def headO (b g q v : FVec F S16x128 .f32) (st : FVec F S128x128 .f32) : FVec F S16x128 .f32 :=
  shapeCast S16x128 (concatenate S16x128 0 [⟨S8x128, outLo (scores b g q) v (fromState b q st)⟩,
    ⟨S8x128, outHi (scores b g q) v (fromState b q st)⟩] concatenates_S8x128_S8x128_S16x128_d0) shapeCasts_S16x128_S16x128

/-- The head's state after the chunk, kept transposed. -/
def headS (b g v : FVec F S16x128 .f32) (st : FVec F S128x128 .f32) : FVec F S1x128x128 .f32 :=
  shapeCast S1x128x128 (addf (mulf st (broadcastTo S128x128
      (exp (extractStridedSlice S1x128 ![15, 0] b slices_S16x128_o15_0_S1x128)) broadcasts_S1x128_S128x128))
    (matmul dot_S16x128_S16x128_S128x128_0_0_1_1_n_n none (truncf .bf16 v bitsLt_bf16_f32)
      (truncf .bf16 (exp (subf (broadcastTo S16x128 (extractStridedSlice S1x128 ![15, 0] b slices_S16x128_o15_0_S1x128)
        broadcasts_S1x128_S16x128) g)) bitsLt_bf16_f32) (constant S128x128 .f32 0x00000000#32))) shapeCasts_S128x128_S1x128x128

/-! ## At an index, over the extended reals -/

/-- The logarithm of the decay from frame `s` to frame `t`, with the key folded in; no decay reaches an earlier frame. -/
def lexp (b g : FVec Ideal S16x128 .f32) (t s : Fin 16) (d : Fin 128) : EReal :=
  if s ≤ t then b (ix2 t d) - g (ix2 s d) else ⊥

/-- A concatenation read inside its piece number `k`: that piece at the position less the extents before it. -/
theorem concatenateAt_get {α : Type} {t s : Shape} (a : Fin t.rank) (j : t.Idx) (x : s.Idx → α) (r : ℕ) (hf : s.FitsOff t a)
    (hr : r < s.size (a.cast hf.rank_eq.symm)) :
    ∀ (k : ℕ) (xs : List ((s : Shape) × (s.Idx → α))) (hs : ∀ s ∈ xs.map (·.1), s.FitsOff t a) (c : ℕ)
      (hc : c < (axisSizes t a xs).sum) (_ : xs[k]? = some ⟨s, x⟩) (_ : c = ((axisSizes t a xs).take k).sum + r),
      concatenateAt t a j xs hs c hc
        = x (Shape.Idx.norm fun b => ⟨if b.val = a.val then r else (j (b.cast hf.rank_eq)).val, concatAt_fst_lt hf j r hr b⟩)
  | 0, [], _, _, _, hk, _ => by simp at hk
  | 0, [p], hs, c, hc, hk, e => by
    obtain rfl : p = ⟨s, x⟩ := by simpa using hk
    obtain rfl : c = r := by simpa using e
    rw [concatenateAt_singleton]
  | 0, p :: q :: xs, hs, c, hc, hk, e => by
    obtain rfl : p = ⟨s, x⟩ := by simpa using hk
    obtain rfl : c = r := by simpa using e
    rw [concatenateAt_cons, dif_pos hr]
  | k + 1, [], _, _, _, hk, _ => by simp at hk
  | k + 1, [p], _, _, _, hk, _ => by simp at hk
  | k + 1, ⟨s', x'⟩ :: q :: xs, hs, c, hc, hk, e => by
    have hp : s'.FitsOff t a := hs s' List.mem_cons_self
    rw [axisSizes_cons t a ⟨s', x'⟩ (q :: xs) hp, List.take_succ_cons, List.sum_cons] at e
    have hge : ¬ c < s'.size (a.cast hp.rank_eq.symm) := by dsimp only at e; omega
    rw [concatenateAt_cons, dif_neg hge]
    exact concatenateAt_get a j x r hf hr k (q :: xs) _ _ _ (by simpa using hk) (by dsimp only at e; omega)

theorem fits16 : S16x128.FitsOff S192x128 0 := ⟨rfl, fun b hb => by fin_cases b <;> first | rfl | exact absurd rfl hb⟩

theorem fits8 : S8x128.FitsOff S192x128 0 := ⟨rfl, fun b hb => by fin_cases b <;> first | rfl | exact absurd rfl hb⟩

theorem cat16 (xs : List ((s : Shape) × (s.Idx → EReal))) (h : Shape.Concatenates (xs.map (·.1)) S192x128 0) (k : ℕ)
    (x : S16x128.Idx → EReal) (hk : xs[k]? = some ⟨S16x128, x⟩) (base : ℕ) (hb : ((axisSizes S192x128 0 xs).take k).sum = base)
    (t : Fin 16) (d : Fin 128) (r : Fin 192) (hr : r.val = base + t.val) :
    concatenate S192x128 0 xs h (ix2 r d) = x (ix2 t d) := by
  rw [concatenate_apply, concatenateAt_get (s := S16x128) (0 : Fin S192x128.rank) (ix2 r d) x t.val fits16 (show t.val < 16 from t.isLt)
    k xs _ _ _ hk (by rw [hb]; exact hr)]
  congr 1
  funext b
  fin_cases b <;> rfl

theorem cat8 (xs : List ((s : Shape) × (s.Idx → EReal))) (h : Shape.Concatenates (xs.map (·.1)) S192x128 0) (k : ℕ)
    (x : S8x128.Idx → EReal) (hk : xs[k]? = some ⟨S8x128, x⟩) (base : ℕ) (hb : ((axisSizes S192x128 0 xs).take k).sum = base)
    (t : Fin 8) (d : Fin 128) (r : Fin 192) (hr : r.val = base + t.val) :
    concatenate S192x128 0 xs h (ix2 r d) = x (ix2 t d) := by
  rw [concatenate_apply, concatenateAt_get (s := S8x128) (0 : Fin S192x128.rank) (ix2 r d) x t.val fits8 (show t.val < 8 from t.isLt)
    k xs _ _ _ hk (by rw [hb]; exact hr)]
  congr 1
  funext b
  fin_cases b <;> rfl

/-- A comparison of two small row numbers. -/
theorem sge_small : ∀ t s : Fin 16, IntOp.cmpi .sge (BitVec.ofNat 32 t.val) (BitVec.ofNat 32 s.val) = if s ≤ t then 1#1 else 0#1 := by
  decide

/-- The masked exponent, read at the mask's own constant. -/
theorem masked (t s : Fin 16) (x : EReal) :
    Scalar.select (IntOp.cmpi .sge (BitVec.ofNat 32 t.val) (BitVec.ofNat 32 s.val)) x
      (Named.named (F := Ideal) (φ := .f32) κ "mask" 0xF149F2CA#32 : EReal) = if s ≤ t then x else ⊥ := by
  rw [sge_small, show (Named.named (F := Ideal) (φ := .f32) κ "mask" 0xF149F2CA#32 : EReal) = ⊥ from
    IdealRules.named_const.ideal_named_scalar _ _ _ _ rfl]
  by_cases h : s ≤ t
  · rw [if_pos h, if_pos h]; rfl
  · rw [if_neg h, if_neg h]; rfl

theorem xLo_apply (s : Fin 16) (hs : S16x128.Slices ![s.val, 0] S1x128) (b g q : FVec Ideal S16x128 .f32) (t : Fin 16) (d : Fin 128) :
    xLo s.val hs b g q (ix2 t d) = q (ix2 t d) * Ideal.exp (lexp b g t s d) := by
  unfold lexp
  pointwise [xLo]
  exact congrArg (fun z => q (ix2 t d) * Ideal.exp z) (masked t s _)

theorem xHi_apply (s : Fin 16) (hs : S16x128.Slices ![s.val, 0] S1x128) (b g q : FVec Ideal S16x128 .f32) (t : Fin 8) (d : Fin 128) :
    xHi s.val hs b g q (ix2 t d) = q (ix2 (⟨8 + t.val, by omega⟩ : Fin 16) d) * Ideal.exp (lexp b g ⟨8 + t.val, by omega⟩ s d) := by
  unfold lexp
  pointwise [xHi]
  exact congrArg (fun z => q (ix2 (⟨8 + t.val, by omega⟩ : Fin 16) d) * Ideal.exp z) (masked ⟨8 + t.val, by omega⟩ s _)

theorem scores_apply (b g q : FVec Ideal S16x128 .f32) (r : Fin 192) (l : Fin 128) :
    scores b g q (ix2 r l) = ∑ d : Fin 128, stack b g q (ix2 r d) := by
  pointwise [scores]

theorem add1_apply (r s : ℕ) (hr : S192x128.Slices ![r, 0] S8x128) (hs : S16x128.Slices ![s, 0] S1x128) (hr' : r + 8 ≤ 192) (hs' : s < 16)
    (a : FVec Ideal S192x128 .f32) (v : FVec Ideal S16x128 .f32) (o : FVec Ideal S8x128 .f32) (t : Fin 8) (l : Fin 128) :
    add1 r s hr hs a v o (ix2 t l) = o (ix2 t l) + a (ix2 ⟨r + t.val, by omega⟩ l) * v (ix2 (⟨s, hs'⟩ : Fin 16) l) := by
  pointwise [add1]

theorem fromState_apply (b q : FVec Ideal S16x128 .f32) (st : FVec Ideal S128x128 .f32) (t : Fin 16) (l : Fin 128) :
    fromState b q st (ix2 t l) = ∑ d : Fin 128, (q (ix2 t d) * Ideal.exp (b (ix2 t d))) * st (ix2 l d) := by
  pointwise [fromState]

theorem headS_apply (b g v : FVec Ideal S16x128 .f32) (st : FVec Ideal S128x128 .f32) (j d : Fin 128) :
    headS b g v st (ix3 0 j d) = st (ix2 j d) * Ideal.exp (b (ix2 (15 : Fin 16) d))
      + ∑ s : Fin 16, v (ix2 s j) * Ideal.exp (b (ix2 (15 : Fin 16) d) - g (ix2 s d)) := by
  pointwise [headS]

/-- The score of frame `t` against frame `s`. -/
def att (b g q : FVec Ideal S16x128 .f32) (t s : Fin 16) : EReal := ∑ d : Fin 128, q (ix2 t d) * Ideal.exp (lexp b g t s d)

theorem att_zero (b g q : FVec Ideal S16x128 .f32) (t s : Fin 16) (h : ¬ s ≤ t) : att b g q t s = 0 := by
  refine Finset.sum_eq_zero fun d _ => ?_
  rw [lexp, if_neg h]
  exact mul_zero _

/-- The sixteen frames' contributions to one output entry. -/
def mix (b g q v : FVec Ideal S16x128 .f32) (t : Fin 16) (j : Fin 128) : EReal := ∑ s : Fin 16, att b g q t s * v (ix2 s j)

/-- A score read off a block of sixteen rows of the stack. -/
theorem score16 (b g q : FVec Ideal S16x128 .f32) (s : Fin 16) (hs : S16x128.Slices ![s.val, 0] S1x128) (l : Fin 128)
    (xs : List ((s : Shape) × (s.Idx → EReal))) (h : Shape.Concatenates (xs.map (·.1)) S192x128 0) (k : ℕ)
    (hk : xs[k]? = some ⟨S16x128, xLo s.val hs b g q⟩) (base : ℕ) (hb : ((axisSizes S192x128 0 xs).take k).sum = base)
    (hx : stack b g q = concatenate S192x128 0 xs h) (t : Fin 16) (r : Fin 192) (hr : r.val = base + t.val) :
    scores b g q (ix2 r l) = att b g q t s := by
  rw [scores_apply, hx]
  refine Finset.sum_congr rfl fun d _ => ?_
  rw [← xLo_apply s hs]
  exact cat16 xs h k _ hk base hb t d r hr

/-- A score read off a block of eight rows of the stack. -/
theorem score8 (b g q : FVec Ideal S16x128 .f32) (s : Fin 16) (hs : S16x128.Slices ![s.val, 0] S1x128) (l : Fin 128)
    (xs : List ((s : Shape) × (s.Idx → EReal))) (h : Shape.Concatenates (xs.map (·.1)) S192x128 0) (k : ℕ)
    (hk : xs[k]? = some ⟨S8x128, xHi s.val hs b g q⟩) (base : ℕ) (hb : ((axisSizes S192x128 0 xs).take k).sum = base)
    (hx : stack b g q = concatenate S192x128 0 xs h) (t : Fin 8) (r : Fin 192) (hr : r.val = base + t.val) :
    scores b g q (ix2 r l) = att b g q ⟨8 + t.val, by omega⟩ s := by
  rw [scores_apply, hx]
  refine Finset.sum_congr rfl fun d _ => ?_
  rw [← xHi_apply s hs]
  exact cat8 xs h k _ hk base hb t d r hr

/-- The extents of the stack's pieces along its rows. -/
theorem extents (x0 x1 x2 x3 x4 x5 x6 x7 : S16x128.Idx → EReal) (y8 y9 y10 y11 y12 y13 y14 y15 : S8x128.Idx → EReal) :
    axisSizes S192x128 0 [⟨S16x128, x0⟩, ⟨S16x128, x1⟩, ⟨S16x128, x2⟩, ⟨S16x128, x3⟩, ⟨S16x128, x4⟩, ⟨S16x128, x5⟩, ⟨S16x128, x6⟩,
      ⟨S16x128, x7⟩, ⟨S8x128, y8⟩, ⟨S8x128, y9⟩, ⟨S8x128, y10⟩, ⟨S8x128, y11⟩, ⟨S8x128, y12⟩, ⟨S8x128, y13⟩, ⟨S8x128, y14⟩,
      ⟨S8x128, y15⟩] = [16, 16, 16, 16, 16, 16, 16, 16, 8, 8, 8, 8, 8, 8, 8, 8] := rfl

theorem row_slices : ∀ s : Fin 16, S16x128.Slices ![s.val, 0] S1x128 := by decide

theorem scores_lo (b g q : FVec Ideal S16x128 .f32) (s t : Fin 16) (hs : s.val < 8) (l : Fin 128) (r : Fin 192)
    (hr : r.val = 16 * s.val + t.val) : scores b g q (ix2 r l) = att b g q t s := by
  refine score16 b g q s (row_slices s) l _ _ s.val ?_ (16 * s.val) ?_ rfl t r hr
  · clear hr
    fin_cases s <;> first | rfl | exact absurd hs (by decide)
  · rw [extents]
    clear hr
    fin_cases s <;> first | rfl | exact absurd hs (by decide)

theorem scores_hi (b g q : FVec Ideal S16x128 .f32) (s : Fin 16) (t : Fin 8) (hs : 8 ≤ s.val) (l : Fin 128) (r : Fin 192)
    (hr : r.val = 64 + 8 * s.val + t.val) : scores b g q (ix2 r l) = att b g q ⟨8 + t.val, by omega⟩ s := by
  refine score8 b g q s (row_slices s) l _ _ s.val ?_ (64 + 8 * s.val) ?_ rfl t r hr
  · clear hr
    fin_cases s <;> first | rfl | exact absurd hs (by decide)
  · rw [extents]
    clear hr
    fin_cases s <;> first | rfl | exact absurd hs (by decide)

/-- The sum over sixteen frames written out, first frame innermost. -/
theorem sum16 (f : Fin 16 → EReal) (o : EReal) : o + ∑ s, f s = o + f 0 + f 1 + f 2 + f 3 + f 4 + f 5 + f 6 + f 7 + f 8 + f 9 + f 10
    + f 11 + f 12 + f 13 + f 14 + f 15 := by
  simp only [Fin.sum_univ_succ, Fin.sum_univ_zero, add_zero, ← add_assoc]
  rfl

theorem outLo_apply (b g q v o : FVec Ideal S16x128 .f32) (t : Fin 8) (j : Fin 128) :
    outLo (scores b g q) v o (ix2 t j) = o (ix2 (⟨t.val, by omega⟩ : Fin 16) j) + mix b g q v ⟨t.val, by omega⟩ j := by
  have hz : ∀ s : Fin 16, 8 ≤ s.val → att b g q ⟨t.val, by omega⟩ s * v (ix2 s j) = 0 := fun s hs => by
    rw [att_zero _ _ _ _ _ (by intro h; have h' : s.val ≤ t.val := h; omega), zero_mul]
  have lo : ∀ (s : Fin 16) (_ : s.val < 8) (k : ℕ) (_ : k = 16 * s.val) (h : k + t.val < 192),
      scores b g q (ix2 (⟨k + t.val, h⟩ : Fin 192) j) = att b g q ⟨t.val, by omega⟩ s := fun s hs k hk h =>
    scores_lo b g q s ⟨t.val, by omega⟩ hs j _ (by show k + t.val = 16 * s.val + t.val; omega)
  rw [mix, sum16, hz 8 (by decide), hz 9 (by decide), hz 10 (by decide), hz 11 (by decide), hz 12 (by decide), hz 13 (by decide),
    hz 14 (by decide), hz 15 (by decide)]
  simp only [add_zero]
  unfold outLo
  rw [add1_apply 112 7 _ _ (by decide) (by decide), add1_apply 96 6 _ _ (by decide) (by decide),
    add1_apply 80 5 _ _ (by decide) (by decide), add1_apply 64 4 _ _ (by decide) (by decide),
    add1_apply 48 3 _ _ (by decide) (by decide), add1_apply 32 2 _ _ (by decide) (by decide),
    add1_apply 16 1 _ _ (by decide) (by decide), add1_apply 0 0 _ _ (by decide) (by decide),
    lo 7 (by decide) 112 rfl, lo 6 (by decide) 96 rfl, lo 5 (by decide) 80 rfl, lo 4 (by decide) 64 rfl, lo 3 (by decide) 48 rfl,
    lo 2 (by decide) 32 rfl, lo 1 (by decide) 16 rfl, lo 0 (by decide) 0 rfl,
    show extractStridedSlice S8x128 ![0, 0] o slices_S16x128_o0_0_S8x128 (ix2 t j) = o (ix2 (⟨t.val, by omega⟩ : Fin 16) j) by pointwise]
  rfl

theorem outHi_apply (b g q v o : FVec Ideal S16x128 .f32) (t : Fin 8) (j : Fin 128) :
    outHi (scores b g q) v o (ix2 t j) = o (ix2 (⟨8 + t.val, by omega⟩ : Fin 16) j) + mix b g q v ⟨8 + t.val, by omega⟩ j := by
  have lo : ∀ (s : Fin 16) (_ : s.val < 8) (k : ℕ) (_ : k = 16 * s.val + 8) (h : k + t.val < 192),
      scores b g q (ix2 (⟨k + t.val, h⟩ : Fin 192) j) = att b g q ⟨8 + t.val, by omega⟩ s := fun s hs k hk h =>
    scores_lo b g q s ⟨8 + t.val, by omega⟩ hs j _ (by show k + t.val = 16 * s.val + (8 + t.val); omega)
  have hi : ∀ (s : Fin 16) (_ : 8 ≤ s.val) (k : ℕ) (_ : k = 64 + 8 * s.val) (h : k + t.val < 192),
      scores b g q (ix2 (⟨k + t.val, h⟩ : Fin 192) j) = att b g q ⟨8 + t.val, by omega⟩ s := fun s hs k hk h =>
    scores_hi b g q s t hs j _ (by show k + t.val = 64 + 8 * s.val + t.val; omega)
  rw [mix, sum16]
  unfold outHi
  rw [add1_apply 184 15 _ _ (by decide) (by decide), add1_apply 176 14 _ _ (by decide) (by decide),
    add1_apply 168 13 _ _ (by decide) (by decide), add1_apply 160 12 _ _ (by decide) (by decide),
    add1_apply 152 11 _ _ (by decide) (by decide), add1_apply 144 10 _ _ (by decide) (by decide),
    add1_apply 136 9 _ _ (by decide) (by decide), add1_apply 128 8 _ _ (by decide) (by decide),
    add1_apply 120 7 _ _ (by decide) (by decide), add1_apply 104 6 _ _ (by decide) (by decide),
    add1_apply 88 5 _ _ (by decide) (by decide), add1_apply 72 4 _ _ (by decide) (by decide),
    add1_apply 56 3 _ _ (by decide) (by decide), add1_apply 40 2 _ _ (by decide) (by decide),
    add1_apply 24 1 _ _ (by decide) (by decide), add1_apply 8 0 _ _ (by decide) (by decide),
    hi 15 (by decide) 184 rfl, hi 14 (by decide) 176 rfl, hi 13 (by decide) 168 rfl, hi 12 (by decide) 160 rfl,
    hi 11 (by decide) 152 rfl, hi 10 (by decide) 144 rfl, hi 9 (by decide) 136 rfl, hi 8 (by decide) 128 rfl,
    lo 7 (by decide) 120 rfl, lo 6 (by decide) 104 rfl, lo 5 (by decide) 88 rfl, lo 4 (by decide) 72 rfl, lo 3 (by decide) 56 rfl,
    lo 2 (by decide) 40 rfl, lo 1 (by decide) 24 rfl, lo 0 (by decide) 8 rfl,
    show extractStridedSlice S8x128 ![8, 0] o slices_S16x128_o8_0_S8x128 (ix2 t j) = o (ix2 (⟨8 + t.val, by omega⟩ : Fin 16) j) by pointwise]
  rfl

/-- Two blocks of eight rows, one under the other. -/
theorem halves (x y : FVec Ideal S8x128 .f32) (t : Fin 16) (j : Fin 128) :
    shapeCast S16x128 (concatenate S16x128 0 [⟨S8x128, x⟩, ⟨S8x128, y⟩] concatenates_S8x128_S8x128_S16x128_d0) shapeCasts_S16x128_S16x128
      (ix2 t j) = if h : t.val < 8 then x (ix2 (⟨t.val, h⟩ : Fin 8) j) else y (ix2 (⟨t.val - 8, by omega⟩ : Fin 8) j) := by
  pointwise

theorem headO_apply (b g q v : FVec Ideal S16x128 .f32) (st : FVec Ideal S128x128 .f32) (t : Fin 16) (j : Fin 128) :
    headO b g q v st (ix2 t j) = (∑ d : Fin 128, (q (ix2 t d) * Ideal.exp (b (ix2 t d))) * st (ix2 j d)) + mix b g q v t j := by
  rw [← fromState_apply, headO, halves]
  split
  · exact outLo_apply b g q v _ ⟨t.val, _⟩ j
  · rw [outHi_apply]
    have e : (⟨8 + (t.val - 8), by omega⟩ : Fin 16) = t := Fin.ext (by show 8 + (t.val - 8) = t.val; omega)
    rw [e]

end Hgrn

end
-- ==== Proof.HgrnBlock.lean ====
/- What the recurrence kernel's body leaves in its two output blocks, as the eight heads' arrays: every head's update is the
   same function (the head file's) of that head's columns of the block's decays, keys, queries and values and of its state. -/
module

public import proofs.«01_k».proof.Proof.HgrnHead
public import proofs.«01_k».proof.Proof.Gen.KernelIdeal.Value
public import Idealize.ShloMosaic.Lib.Tactic
public import Idealize.ShloMosaic.Lib.Pipeline.ValueKit
public import Idealize.ShloMosaic.Lib.Pipeline.ReadBack

@[expose] public section

set_option maxRecDepth 16384

noncomputable section

namespace Hgrn

open Cert.KernelIdeal Cert.KernelIdeal.Gen Cert.KernelIdeal.Facts Idealize.ShloMosaic

variable {F : FTy → Type} [FloatOps F] [Named F]

/-- A load of the box the last store filled, the two offsets equal. -/
theorem readCov_at {sig : RefSig} {κ : Kind} {sp : Space} {s : Shape} {e : EltTy} (v : View sig κ sp s e) {off off' sz : Fin s.rank → ℕ}
    (inb : ∀ a, off a + sz a ≤ s.size a) (inb' : ∀ a, off' a + sz a ≤ s.size a) (w : (Rect.unit off sz inb).shape.Idx → Elt F e)
    (L : List (View.Piece (Elt F) s e)) (h : off = off') :
    v.readCov (⟨Rect.unit off sz inb, w⟩ :: L) (Rect.unit off' sz inb').toLoadRect = w := by
  subst h
  exact View.readCov_cons_toLoadRect v _ w L

/-- The logarithms of the forget gates, and of the keys. -/
def lfs (x4 : Vec F S1x1024 .f32) (x1 : Vec F S1x16x1024 .f32) : Vec F S16x1024 .f32 :=
  k0_pay21 (View.ld x4 (Rect.unit ![0, 0] S1x1024.size inb_S1x1024_S1x1024_0_0))
    (View.ld x1 (Rect.unit ![0, 0, 0] S1x16x1024.size inb_S1x16x1024_S1x16x1024_0_0_0))

def lks (x4 : Vec F S1x1024 .f32) (x1 : Vec F S1x16x1024 .f32) : FVec F S16x1024 .f32 :=
  k0_pay23 (k0_pay18 (View.ld x4 (Rect.unit ![0, 0] S1x1024.size inb_S1x1024_S1x1024_0_0)))
    (k0_pay20 (View.ld x1 (Rect.unit ![0, 0, 0] S1x16x1024.size inb_S1x16x1024_S1x16x1024_0_0_0)))
    (k0_pay22 (View.ld x1 (Rect.unit ![0, 0, 0] S1x16x1024.size inb_S1x16x1024_S1x16x1024_0_0_0)))

/-- The queries. -/
def qss (x0 : Vec F S1x16x1024 .f32) : FVec F S16x1024 .f32 :=
  k0_pay24 (View.ld x0 (Rect.unit ![0, 0, 0] S1x16x1024.size inb_S1x16x1024_S1x16x1024_0_0_0))

/-- The logarithms of the decays from the chunk's start. -/
def bs (x4 : Vec F S1x1024 .f32) (x1 : Vec F S1x16x1024 .f32) : FVec F S16x1024 .f32 :=
  k0_pay26 (View.ld (lfs x4 x1) (Rect.unit ![0, 0] S16x1024.size (by decide)))

/-- The one chunk starts at row zero. -/
theorem chunk0 : BitVec.toNat (Scalar.indexCast (Scalar.muli 0#32 16#32)) = 0 := rfl

/-- One head's columns: of the decays, of a scratch array, of the values, and its state. -/
def bH (o : ℕ) (hs : S16x1024.Slices ![0, o] S16x128) (B : FVec F S16x1024 .f32) : FVec F S16x128 .f32 :=
  extractStridedSlice S16x128 ![0, o] B hs

def cH (o : ℕ) (hi : ∀ a, (![0, o] : Fin 2 → ℕ) a + S16x128.size a ≤ S16x1024.size a) (X : Vec F S16x1024 .f32) : Vec F S16x128 .f32 :=
  View.ld (Val := Elt F) (e' := .f32) X (Rect.unit (s := S16x1024) ![0, o] S16x128.size hi)

def vH (o : ℕ) (hi : ∀ a, (![0, 0, o] : Fin 3 → ℕ) a + S1x16x128.size a ≤ S1x16x1024.size a) (x2 : Vec F S1x16x1024 .f32) :
    FVec F S16x128 .f32 :=
  shapeCast S16x128 (View.ld x2 (Rect.unit (s := S1x16x1024) ![0, 0, o] S1x16x128.size hi)) shapeCasts_S1x16x128_S16x128

def sH (h : ℕ) (hi : ∀ a, (![0, h, 0, 0] : Fin 4 → ℕ) a + S1x1x128x128.size a ≤ S1x8x128x128.size a) (x6 : Vec F S1x8x128x128 .f32) :
    FVec F S128x128 .f32 :=
  shapeCast S128x128 (shapeCast S1x128x128 (transpose S128x128 [1, 0] (shapeCast S128x128
    (View.ld x6 (Rect.unit (s := S1x8x128x128) ![0, h, 0, 0] S1x1x128x128.size hi)) shapeCasts_S1x1x128x128_S128x128)
    transposes_S128x128_p1_0_S128x128) shapeCasts_S128x128_S1x128x128) shapeCasts_S1x128x128_S128x128

/-- The state turned back for the result. -/
def turn (s : FVec F S1x128x128 .f32) : FVec F S1x1x128x128 .f32 :=
  shapeCast S1x1x128x128 (transpose S128x128 [1, 0] (shapeCast S128x128 s shapeCasts_S1x128x128_S128x128)
    transposes_S128x128_p1_0_S128x128) shapeCasts_S128x128_S1x1x128x128

/-- The head's new state, as it is stored. -/
def stateH (h o : ℕ) (hs : S16x1024.Slices ![0, o] S16x128) (hi : ∀ a, (![0, o] : Fin 2 → ℕ) a + S16x128.size a ≤ S16x1024.size a)
    (hv : ∀ a, (![0, 0, o] : Fin 3 → ℕ) a + S1x16x128.size a ≤ S1x16x1024.size a)
    (h6 : ∀ a, (![0, h, 0, 0] : Fin 4 → ℕ) a + S1x1x128x128.size a ≤ S1x8x128x128.size a)
    (B : FVec F S16x1024 .f32) (LK : Vec F S16x1024 .f32) (x2 : Vec F S1x16x1024 .f32) (x6 : Vec F S1x8x128x128 .f32) : FVec F S1x1x128x128 .f32 :=
  turn (headS (bH o hs B) (subf (bH o hs B) (cH o hi LK)) (vH o hv x2) (sH h h6 x6))

/-- The output gate. -/
def gate (x3 : Vec F S1x16x1024 .f32) : FVec F S16x1024 .f32 :=
  k0_pay308 (View.ld x3 (Rect.unit ![0, 0, 0] S1x16x1024.size inb_S1x16x1024_S1x16x1024_0_0_0))

def gons (x5 : Vec F S1x1024 .f32) : FVec F S1x1024 .f32 :=
  k0_pay307 (View.ld x5 (Rect.unit ![0, 0] S1x1024.size inb_S1x1024_S1x1024_0_0))

/-- The head's outputs, normalised, scaled and gated. -/
def normH (o : ℕ) (hs : S16x1024.Slices ![0, o] S16x128) (hg : S1x1024.Slices ![0, o] S1x128) (gon : FVec F S1x1024 .f32)
    (g : FVec F S16x1024 .f32) (y : FVec F S16x128 .f32) : FVec F S1x16x128 .f32 :=
  shapeCast S1x16x128 (mulf (mulf (mulf y (broadcastTo S16x128 (rsqrt (addf (divf (shapeCast S16x1
      (multiReduction .add [1] S16 (mulf y y) 0x00000000#32 reduces_S16x128_S16 (.inl rfl) rfl) shapeCasts_S16_S16x1)
      (broadcast S16x1 (Scalar.ofBits .f32 0x43000000#32))) (broadcast S16x1 (Scalar.ofBits .f32 0x358637BD#32)))) broadcasts_S16x1_S16x128))
    (broadcastTo S16x128 (extractStridedSlice S1x128 ![0, o] gon hg) broadcasts_S1x128_S16x128))
    (extractStridedSlice S16x128 ![0, o] g hs)) shapeCasts_S16x128_S1x16x128

def outH (h o : ℕ) (hs : S16x1024.Slices ![0, o] S16x128) (hg : S1x1024.Slices ![0, o] S1x128)
    (hi : ∀ a, (![0, o] : Fin 2 → ℕ) a + S16x128.size a ≤ S16x1024.size a)
    (hv : ∀ a, (![0, 0, o] : Fin 3 → ℕ) a + S1x16x128.size a ≤ S1x16x1024.size a)
    (h6 : ∀ a, (![0, h, 0, 0] : Fin 4 → ℕ) a + S1x1x128x128.size a ≤ S1x8x128x128.size a)
    (B : FVec F S16x1024 .f32) (LK Q : Vec F S16x1024 .f32) (x2 : Vec F S1x16x1024 .f32) (x6 : Vec F S1x8x128x128 .f32) (gon : FVec F S1x1024 .f32)
    (g : FVec F S16x1024 .f32) : FVec F S1x16x128 .f32 :=
  normH o hs hg gon g (headO (bH o hs B) (subf (bH o hs B) (cH o hi LK)) (cH o hi Q) (vH o hv x2) (sH h h6 x6))

set_option maxHeartbeats 400000 in
theorem out8_eq (c : Dev nD) (i : grid0.Coords) (arg2 : Memref sig .tc .vmem S1x16x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x16x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x8x128x128 .f32) (harg8 : arg8.IsWhole) (arg9 : Memref sig .tc .vmem S1x16x1024 .f32) (harg9 : arg9.IsWhole) (arg10 : Memref sig .tc .vmem S1x8x128x128 .f32) (harg10 : arg10.IsWhole) (arg11 : Memref sig .tc .vmem S8x128x128 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S16x1024 .f32) (harg14 : arg14.IsWhole) (arg15 : Memref sig .tc .vmem S16x1024 .f32) (harg15 : arg15.IsWhole) (hc0 : cond0_0 i) (hc1 : cond0_1 i)
    (x0 x1 x2 x3 : Vec F S1x16x1024 .f32) (x4 x5 : Vec F S1x1024 .f32) (x6 : Vec F S1x8x128x128 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = View.canon [
      ⟨Rect.unit (s := S1x8x128x128) ![0, 7, 0, 0] S1x1x128x128.size inb_S1x8x128x128_S1x1x128x128_0_7_0_0, stateH 7 896 slices_S16x1024_o0_896_S16x128 (by decide) (by decide) (by decide) (bs x4 x1) (lks x4 x1) x2 x6⟩,
      ⟨Rect.unit (s := S1x8x128x128) ![0, 6, 0, 0] S1x1x128x128.size inb_S1x8x128x128_S1x1x128x128_0_6_0_0, stateH 6 768 slices_S16x1024_o0_768_S16x128 (by decide) (by decide) (by decide) (bs x4 x1) (lks x4 x1) x2 x6⟩,
      ⟨Rect.unit (s := S1x8x128x128) ![0, 5, 0, 0] S1x1x128x128.size inb_S1x8x128x128_S1x1x128x128_0_5_0_0, stateH 5 640 slices_S16x1024_o0_640_S16x128 (by decide) (by decide) (by decide) (bs x4 x1) (lks x4 x1) x2 x6⟩,
      ⟨Rect.unit (s := S1x8x128x128) ![0, 4, 0, 0] S1x1x128x128.size inb_S1x8x128x128_S1x1x128x128_0_4_0_0, stateH 4 512 slices_S16x1024_o0_512_S16x128 (by decide) (by decide) (by decide) (bs x4 x1) (lks x4 x1) x2 x6⟩,
      ⟨Rect.unit (s := S1x8x128x128) ![0, 3, 0, 0] S1x1x128x128.size inb_S1x8x128x128_S1x1x128x128_0_3_0_0, stateH 3 384 slices_S16x1024_o0_384_S16x128 (by decide) (by decide) (by decide) (bs x4 x1) (lks x4 x1) x2 x6⟩,
      ⟨Rect.unit (s := S1x8x128x128) ![0, 2, 0, 0] S1x1x128x128.size inb_S1x8x128x128_S1x1x128x128_0_2_0_0, stateH 2 256 slices_S16x1024_o0_256_S16x128 (by decide) (by decide) (by decide) (bs x4 x1) (lks x4 x1) x2 x6⟩,
      ⟨Rect.unit (s := S1x8x128x128) ![0, 1, 0, 0] S1x1x128x128.size inb_S1x8x128x128_S1x1x128x128_0_1_0_0, stateH 1 128 slices_S16x1024_o0_128_S16x128 (by decide) (by decide) (by decide) (bs x4 x1) (lks x4 x1) x2 x6⟩,
      ⟨Rect.unit (s := S1x8x128x128) ![0, 0, 0, 0] S1x1x128x128.size inb_S1x8x128x128_S1x1x128x128_0_0_0_0, stateH 0 0 slices_S16x1024_o0_0_S16x128 (by decide) (by decide) (by decide) (bs x4 x1) (lks x4 x1) x2 x6⟩] := by
  unfold out0_A_8
  rw [View.read_writes_junk_eq_canon]
  unfold kernelRun0_A
  dsimp only
  sl_unfold_words
  simp (disch := decide) only [↓ View.readCov_skip, ↓ View.readCov_cons_toLoadRect, ↓ readCov_at, ↓ View.readCov_fill]
  simp only [View.readAt_eq_ld, harg2.read_unread, harg3.read_unread, harg4.read_unread, harg5.read_unread, harg6.read_unread,
    harg7.read_unread, harg8.read_unread]
  simp only [chunk0]
  simp only [bs, stateH, outH, lfs, lks, qss, gate, gons, k0_pay309, k0_pay310]
  generalize k0_pay21 (F := F) _ _ = LF
  generalize k0_pay23 (F := F) _ _ _ = LK
  simp only [k0_pay9, k0_pay10, k0_pay11, k0_pay12, k0_pay13, k0_pay14, k0_pay15, k0_pay16, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay309, k0_pay310, k0_pay311, k0_pay312, k0_pay313, k0_pay314, k0_pay315, k0_pay316, k0_pay317, k0_pay318, turn, headS, normH, bH, cH, vH, sH, headO, outLo, outHi, add1, scores, stack, xLo, xHi, fromState, rows]
  rfl

set_option maxHeartbeats 400000 in
theorem out7_eq (c : Dev nD) (i : grid0.Coords) (arg2 : Memref sig .tc .vmem S1x16x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x16x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x8x128x128 .f32) (harg8 : arg8.IsWhole) (arg9 : Memref sig .tc .vmem S1x16x1024 .f32) (harg9 : arg9.IsWhole) (arg10 : Memref sig .tc .vmem S1x8x128x128 .f32) (harg10 : arg10.IsWhole) (arg11 : Memref sig .tc .vmem S8x128x128 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S16x1024 .f32) (harg14 : arg14.IsWhole) (arg15 : Memref sig .tc .vmem S16x1024 .f32) (harg15 : arg15.IsWhole) (hc0 : cond0_0 i) (hc1 : cond0_1 i)
    (x0 x1 x2 x3 : Vec F S1x16x1024 .f32) (x4 x5 : Vec F S1x1024 .f32) (x6 : Vec F S1x8x128x128 .f32) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = View.canon [
      ⟨Rect.unit (s := S1x16x1024) ![0, 0, 896] S1x16x128.size inb_S1x16x1024_S1x16x128_0_0_896, outH 7 896 slices_S16x1024_o0_896_S16x128 slices_S1x1024_o0_896_S1x128 (by decide) (by decide) (by decide) (bs x4 x1) (lks x4 x1) (qss x0) x2 x6 (gons x5) (gate x3)⟩,
      ⟨Rect.unit (s := S1x16x1024) ![0, 0, 768] S1x16x128.size inb_S1x16x1024_S1x16x128_0_0_768, outH 6 768 slices_S16x1024_o0_768_S16x128 slices_S1x1024_o0_768_S1x128 (by decide) (by decide) (by decide) (bs x4 x1) (lks x4 x1) (qss x0) x2 x6 (gons x5) (gate x3)⟩,
      ⟨Rect.unit (s := S1x16x1024) ![0, 0, 640] S1x16x128.size inb_S1x16x1024_S1x16x128_0_0_640, outH 5 640 slices_S16x1024_o0_640_S16x128 slices_S1x1024_o0_640_S1x128 (by decide) (by decide) (by decide) (bs x4 x1) (lks x4 x1) (qss x0) x2 x6 (gons x5) (gate x3)⟩,
      ⟨Rect.unit (s := S1x16x1024) ![0, 0, 512] S1x16x128.size inb_S1x16x1024_S1x16x128_0_0_512, outH 4 512 slices_S16x1024_o0_512_S16x128 slices_S1x1024_o0_512_S1x128 (by decide) (by decide) (by decide) (bs x4 x1) (lks x4 x1) (qss x0) x2 x6 (gons x5) (gate x3)⟩,
      ⟨Rect.unit (s := S1x16x1024) ![0, 0, 384] S1x16x128.size inb_S1x16x1024_S1x16x128_0_0_384, outH 3 384 slices_S16x1024_o0_384_S16x128 slices_S1x1024_o0_384_S1x128 (by decide) (by decide) (by decide) (bs x4 x1) (lks x4 x1) (qss x0) x2 x6 (gons x5) (gate x3)⟩,
      ⟨Rect.unit (s := S1x16x1024) ![0, 0, 256] S1x16x128.size inb_S1x16x1024_S1x16x128_0_0_256, outH 2 256 slices_S16x1024_o0_256_S16x128 slices_S1x1024_o0_256_S1x128 (by decide) (by decide) (by decide) (bs x4 x1) (lks x4 x1) (qss x0) x2 x6 (gons x5) (gate x3)⟩,
      ⟨Rect.unit (s := S1x16x1024) ![0, 0, 128] S1x16x128.size inb_S1x16x1024_S1x16x128_0_0_128, outH 1 128 slices_S16x1024_o0_128_S16x128 slices_S1x1024_o0_128_S1x128 (by decide) (by decide) (by decide) (bs x4 x1) (lks x4 x1) (qss x0) x2 x6 (gons x5) (gate x3)⟩,
      ⟨Rect.unit (s := S1x16x1024) ![0, 0, 0] S1x16x128.size inb_S1x16x1024_S1x16x128_0_0_0, outH 0 0 slices_S16x1024_o0_0_S16x128 slices_S1x1024_o0_0_S1x128 (by decide) (by decide) (by decide) (bs x4 x1) (lks x4 x1) (qss x0) x2 x6 (gons x5) (gate x3)⟩] := by
  unfold out0_A_7
  rw [View.read_writes_junk_eq_canon]
  unfold kernelRun0_A
  dsimp only
  sl_unfold_words
  simp (disch := decide) only [↓ View.readCov_skip, ↓ View.readCov_cons_toLoadRect, ↓ readCov_at, ↓ View.readCov_fill]
  simp only [View.readAt_eq_ld, harg2.read_unread, harg3.read_unread, harg4.read_unread, harg5.read_unread, harg6.read_unread,
    harg7.read_unread, harg8.read_unread]
  simp only [chunk0]
  simp (disch := decide) only [↓ View.readCov_skip, ↓ View.readCov_cons_toLoadRect, ↓ readCov_at, ↓ View.readCov_fill]
  simp only [bs, stateH, outH, lfs, lks, qss, gate, gons, k0_pay309, k0_pay310]
  generalize k0_pay21 (F := F) _ _ = LF
  generalize k0_pay23 (F := F) _ _ _ = LK
  generalize k0_pay24 (F := F) _ = Q
  generalize k0_pay307 (F := F) _ = W
  generalize k0_pay308 (F := F) _ = G
  simp only [k0_pay9, k0_pay10, k0_pay11, k0_pay12, k0_pay13, k0_pay14, k0_pay15, k0_pay16, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay309, k0_pay310, k0_pay311, k0_pay312, k0_pay313, k0_pay314, k0_pay315, k0_pay316, k0_pay317, k0_pay318, turn, headS, normH, bH, cH, vH, sH, headO, outLo, outHi, add1, scores, stack, xLo, xHi, fromState, rows]

end Hgrn

end
-- ==== Proof.HgrnRead.lean ====
/- The two output blocks of the recurrence kernel's body, read at an index: the chunk's mathematics at the block's columns. -/
module

public import proofs.«01_k».proof.Proof.HgrnBlock
public import proofs.«01_k».proof.Proof.HgrnSpec
public import Idealize.ShloMosaic.Lib.ValueIdx
public import Idealize.ShloMosaic.Lib.Pointwise
public import Idealize.ShloMosaic.PureOps.Ideal.Laws

@[expose] public section

set_option maxRecDepth 16384

noncomputable section

namespace Hgrn

open Cert.KernelIdeal Cert.KernelIdeal.Gen Cert.KernelIdeal.Facts Idealize.ShloMosaic

theorem lfs_apply (x4 : Vec Ideal S1x1024 .f32) (x1 : Vec Ideal S1x16x1024 .f32) (t : Fin 16) (c : Fin 1024) :
    lfs x4 x1 (ix2 t c) = lfM (x4 (ix2 0 c)) (x1 (ix3 0 t c)) := by
  unfold lfs
  pointwise [k0_pay21, k0_pay17, k0_pay18, k0_pay19, k0_pay20]
  rfl

theorem lks_apply (x4 : Vec Ideal S1x1024 .f32) (x1 : Vec Ideal S1x16x1024 .f32) (t : Fin 16) (c : Fin 1024) :
    lks x4 x1 (ix2 t c) = lkM (x4 (ix2 0 c)) (x1 (ix3 0 t c)) := by
  unfold lks
  pointwise [k0_pay23, k0_pay22, k0_pay17, k0_pay18, k0_pay19, k0_pay20]
  rfl

theorem qss_apply (x0 : Vec Ideal S1x16x1024 .f32) (t : Fin 16) (c : Fin 1024) : qss x0 (ix2 t c) = siluM (x0 (ix3 0 t c)) := by
  unfold qss
  pointwise [k0_pay24]
  rfl

theorem gate_apply (x3 : Vec Ideal S1x16x1024 .f32) (t : Fin 16) (c : Fin 1024) : gate x3 (ix2 t c) = siluM (x3 (ix3 0 t c)) := by
  unfold gate
  pointwise [k0_pay308]
  rfl

theorem gons_apply (x5 : Vec Ideal S1x1024 .f32) (c : Fin 1024) : gons x5 (ix2 0 c) = x5 (ix2 0 c) := by
  unfold gons
  pointwise [k0_pay307]

theorem tri_small : ∀ t s : Fin 16, BitVec.setWidth 32 (IntOp.cmpi .sge (BitVec.ofNat 32 t.val) (BitVec.ofNat 32 s.val)) = if s ≤ t then 1#32 else 0#32 := by
  decide

theorem tri_one (t s : Fin 16) :
    (FloatOps.sitofp (F := Ideal) FTy.f32 (BitVec.setWidth 32 (IntOp.cmpi .sge (BitVec.ofNat 32 t.val) (BitVec.ofNat 32 s.val))) : EReal) = if s ≤ t then 1 else 0 := by
  rw [tri_small]
  split
  · show ((((1#32 : BitVec 32).toInt : ℝ)) : EReal) = 1
    norm_num
  · show ((((0#32 : BitVec 32).toInt : ℝ)) : EReal) = 0
    norm_num

theorem bs_apply (x4 : Vec Ideal S1x1024 .f32) (x1 : Vec Ideal S1x16x1024 .f32) (t : Fin 16) (c : Fin 1024) :
    bs x4 x1 (ix2 t c) = cum (fun s => lfM (x4 (ix2 0 c)) (x1 (ix3 0 s c))) t := by
  unfold bs
  pointwise [k0_pay26, k0_pay25]
  exact Finset.sum_congr rfl fun s _ => congr (congrArg _ (tri_one t s)) (lfs_apply x4 x1 s c)

/-- The column of a head's lane. -/
def colB (h : Fin 8) (d : Fin 128) : Fin 1024 := ⟨128 * h.val + d.val, by omega⟩

theorem normH_apply (h : Fin 8) (o : ℕ) (ho : o = 128 * h.val) (hs : S16x1024.Slices ![0, o] S16x128) (hg : S1x1024.Slices ![0, o] S1x128)
    (gon : FVec Ideal S1x1024 .f32) (g : FVec Ideal S16x1024 .f32) (y : FVec Ideal S16x128 .f32) (t : Fin 16) (j : Fin 128) :
    normH o hs hg gon g y (ix3 0 t j) = normM (fun x => y (ix2 t x)) (gon (ix2 0 (colB h j))) (g (ix2 t (colB h j))) j := by
  subst ho
  have hh : h.val < 8 := h.isLt
  pointwise [normH]
  rfl

theorem bH_apply (h : Fin 8) (o : ℕ) (ho : o = 128 * h.val) (hs : S16x1024.Slices ![0, o] S16x128) (B : FVec Ideal S16x1024 .f32) (t : Fin 16) (d : Fin 128) :
    bH o hs B (ix2 t d) = B (ix2 t (colB h d)) := by
  subst ho
  have hh : h.val < 8 := h.isLt
  pointwise [bH]
  rfl

theorem cH_apply (h : Fin 8) (o : ℕ) (ho : o = 128 * h.val) (hi : ∀ a, (![0, o] : Fin 2 → ℕ) a + S16x128.size a ≤ S16x1024.size a)
    (X : Vec Ideal S16x1024 .f32) (t : Fin 16) (d : Fin 128) : cH o hi X (ix2 t d) = X (ix2 t (colB h d)) := by
  subst ho
  exact View.ld_unit_apply_of X ![0, 128 * h.val] S16x128.size hi (ix2 t d) (ix2 t (colB h d)) fun a => match a with
    | ⟨0, _⟩ => (Nat.zero_add t.val).symm
    | ⟨1, _⟩ => rfl

theorem cast_v (Y : FVec Ideal S1x16x128 .f32) (t : Fin 16) (d : Fin 128) :
    shapeCast S16x128 Y shapeCasts_S1x16x128_S16x128 (ix2 t d) = Y (ix3 0 t d) := by
  pointwise []

theorem cast_s (Y : FVec Ideal S1x1x128x128 .f32) (j d : Fin 128) :
    shapeCast S128x128 (shapeCast S1x128x128 (transpose S128x128 [1, 0] (shapeCast S128x128 Y shapeCasts_S1x1x128x128_S128x128)
      transposes_S128x128_p1_0_S128x128) shapeCasts_S128x128_S1x128x128) shapeCasts_S1x128x128_S128x128 (ix2 j d) = Y (ix4 0 0 d j) := by
  pointwise []

theorem vH_apply (h : Fin 8) (o : ℕ) (ho : o = 128 * h.val) (hi : ∀ a, (![0, 0, o] : Fin 3 → ℕ) a + S1x16x128.size a ≤ S1x16x1024.size a)
    (X : Vec Ideal S1x16x1024 .f32) (t : Fin 16) (d : Fin 128) : vH o hi X (ix2 t d) = X (ix3 0 t (colB h d)) := by
  subst ho
  have e := View.ld_unit_apply_of X ![0, 0, 128 * h.val] S1x16x128.size hi (ix3 0 t d) (ix3 0 t (colB h d)) fun a => match a with
    | ⟨0, _⟩ => rfl
    | ⟨1, _⟩ => (Nat.zero_add t.val).symm
    | ⟨2, _⟩ => rfl
  exact (cast_v _ t d).trans e

theorem sH_apply (h : Fin 8) (hi : ∀ a, (![0, h.val, 0, 0] : Fin 4 → ℕ) a + S1x1x128x128.size a ≤ S1x8x128x128.size a)
    (X : Vec Ideal S1x8x128x128 .f32) (j d : Fin 128) : sH h.val hi X (ix2 j d) = X (ix4 0 h d j) := by
  have e := View.ld_unit_apply_of X ![0, h.val, 0, 0] S1x1x128x128.size hi (ix4 0 0 d j) (ix4 0 h d j) fun a => match a with
    | ⟨0, _⟩ => rfl
    | ⟨1, _⟩ => rfl
    | ⟨2, _⟩ => (Nat.zero_add d.val).symm
    | ⟨3, _⟩ => (Nat.zero_add j.val).symm
  exact (cast_s _ j d).trans e

theorem turn_apply (s : FVec Ideal S1x128x128 .f32) (d j : Fin 128) : turn s (ix4 0 0 d j) = s (ix3 0 j d) := by
  pointwise [turn]

/-- One head of the first output block. -/
theorem outH_apply (h : Fin 8) (o : ℕ) (ho : o = 128 * h.val) (hs hg hi hv h6) (x0 x1 x2 x3 : Vec Ideal S1x16x1024 .f32)
    (x4 x5 : Vec Ideal S1x1024 .f32) (x6 : Vec Ideal S1x8x128x128 .f32) (t : Fin 16) (j : Fin 128) :
    outH h.val o hs hg hi hv h6 (bs x4 x1) (lks x4 x1) (qss x0) x2 x6 (gons x5) (gate x3) (ix3 0 t j)
      = normM (outM (fun t d => siluM (x0 (ix3 0 t (colB h d)))) (fun t d => lfM (x4 (ix2 0 (colB h d))) (x1 (ix3 0 t (colB h d))))
          (fun t d => lkM (x4 (ix2 0 (colB h d))) (x1 (ix3 0 t (colB h d)))) (fun t d => x2 (ix3 0 t (colB h d))) (fun d j => x6 (ix4 0 h d j)) t)
          (x5 (ix2 0 (colB h j))) (siluM (x3 (ix3 0 t (colB h j)))) j := by
  unfold outH
  rw [normH_apply h o ho, gons_apply, gate_apply]
  congr 1
  funext x
  rw [headO_apply]
  unfold outM mix att lexp
  simp only [bH_apply h o ho, cH_apply h o ho, vH_apply h o ho, sH_apply, bs_apply, lks_apply, qss_apply,
    show ∀ (a b : FVec Ideal S16x128 .f32) i, subf a b i = a i - b i from fun _ _ _ => rfl]

/-- One head of the second output block. -/
theorem stateH_apply (h : Fin 8) (o : ℕ) (ho : o = 128 * h.val) (hs hi hv h6) (x1 x2 : Vec Ideal S1x16x1024 .f32)
    (x4 : Vec Ideal S1x1024 .f32) (x6 : Vec Ideal S1x8x128x128 .f32) (d j : Fin 128) :
    stateH h.val o hs hi hv h6 (bs x4 x1) (lks x4 x1) x2 x6 (ix4 0 0 d j)
      = stateM (fun t d => lfM (x4 (ix2 0 (colB h d))) (x1 (ix3 0 t (colB h d))))
          (fun t d => lkM (x4 (ix2 0 (colB h d))) (x1 (ix3 0 t (colB h d)))) (fun t d => x2 (ix3 0 t (colB h d))) (fun d j => x6 (ix4 0 h d j)) d j := by
  unfold stateH
  rw [turn_apply, headS_apply]
  unfold stateM
  simp only [bH_apply h o ho, cH_apply h o ho, vH_apply h o ho, sH_apply, bs_apply, lks_apply,
    show ∀ (a b : FVec Ideal S16x128 .f32) i, subf a b i = a i - b i from fun _ _ _ => rfl]

end Hgrn

end
-- ==== Proof.HgrnArray.lean ====
/- The recurrence kernel's two result arrays as functions of its four arguments. -/
module

public import proofs.«01_k».proof.Proof.HgrnRead

@[expose] public section

set_option maxRecDepth 16384

noncomputable section

namespace Hgrn

open Cert.KernelIdeal Cert.KernelIdeal.Gen Cert.KernelIdeal.Facts Idealize.ShloMosaic Idealize.ShloMosaic.TcCoe Idealize.SL.Sem

/-- A stream's frame among the projection's rows; a channel of one of the projection's four parts. -/
def row (n t : Fin 16) : Fin 256 := ⟨n.val * 16 + t.val, by omega⟩
def colP (k : Fin 4) (c : Fin 1024) : Fin 4096 := ⟨1024 * k.val + c.val, by omega⟩
def hd (c : Fin 1024) : Fin 8 := ⟨c.val / 128, by omega⟩
def ln (c : Fin 1024) : Fin 128 := ⟨c.val % 128, by omega⟩

theorem hd_colB (h : Fin 8) (d : Fin 128) : hd (colB h d) = h := Fin.ext (by simp only [hd, colB]; omega)
theorem ln_colB (h : Fin 8) (d : Fin 128) : ln (colB h d) = d := Fin.ext (by simp only [ln, colB]; omega)

section
variable (P : FVec Ideal S256x4096 .f32) (L Gn : FVec Ideal S1024 .f32) (S : FVec Ideal S16x8x128x128 .f32)

def qA (n : Fin 16) (h : Fin 8) (t : Fin 16) (d : Fin 128) : EReal := siluM (P (ix2 (row n t) (colP 0 (colB h d))))
def lfA (n : Fin 16) (h : Fin 8) (t : Fin 16) (d : Fin 128) : EReal := lfM (L (ix1 (colB h d))) (P (ix2 (row n t) (colP 1 (colB h d))))
def lkA (n : Fin 16) (h : Fin 8) (t : Fin 16) (d : Fin 128) : EReal := lkM (L (ix1 (colB h d))) (P (ix2 (row n t) (colP 1 (colB h d))))
def vA (n : Fin 16) (h : Fin 8) (t : Fin 16) (d : Fin 128) : EReal := P (ix2 (row n t) (colP 2 (colB h d)))
def sA (n : Fin 16) (h : Fin 8) (d j : Fin 128) : EReal := S (ix4 n h d j)

/-- The gated outputs. -/
def ogA (n t : Fin 16) (h : Fin 8) (j : Fin 128) : EReal :=
  normM (outM (qA P n h) (lfA P L n h) (lkA P L n h) (vA P n h) (sA S n h) t) (Gn (ix1 (colB h j)))
    (siluM (P (ix2 (row n t) (colP 3 (colB h j))))) j

/-- The new states. -/
def snA (n : Fin 16) (h : Fin 8) (d j : Fin 128) : EReal := stateM (lfA P L n h) (lkA P L n h) (vA P n h) (sA S n h) d j

def ogF : FVec Ideal S16x16x1024 .f32 := fun i => ogA P L Gn S (i 0) (i 1) (hd (i 2)) (ln (i 2))
def snF : FVec Ideal S16x8x128x128 .f32 := fun i => snA P L S (i 0) (i 1) (i 2) (i 3)
end

/-- The first output block, from the seven input blocks. -/
def blk7 (x0 x1 x2 x3 : Vec Ideal S1x16x1024 .f32) (x4 x5 : Vec Ideal S1x1024 .f32) (x6 : Vec Ideal S1x8x128x128 .f32) (t : Fin 16) (h : Fin 8) (j : Fin 128) : EReal :=
  normM (outM (fun t d => siluM (x0 (ix3 0 t (colB h d)))) (fun t d => lfM (x4 (ix2 0 (colB h d))) (x1 (ix3 0 t (colB h d))))
    (fun t d => lkM (x4 (ix2 0 (colB h d))) (x1 (ix3 0 t (colB h d)))) (fun t d => x2 (ix3 0 t (colB h d))) (fun d j => x6 (ix4 0 h d j)) t)
    (x5 (ix2 0 (colB h j))) (siluM (x3 (ix3 0 t (colB h j)))) j

def blk8 (x1 x2 : Vec Ideal S1x16x1024 .f32) (x4 : Vec Ideal S1x1024 .f32) (x6 : Vec Ideal S1x8x128x128 .f32) (h : Fin 8) (d j : Fin 128) : EReal :=
  stateM (fun t d => lfM (x4 (ix2 0 (colB h d))) (x1 (ix3 0 t (colB h d))))
    (fun t d => lkM (x4 (ix2 0 (colB h d))) (x1 (ix3 0 t (colB h d)))) (fun t d => x2 (ix3 0 t (colB h d))) (fun d j => x6 (ix4 0 h d j)) d j

/-- One head's store is that head's part of the block. -/
theorem piece7 (h : Fin 8) (o : ℕ) (ho : o = 128 * h.val) (hs hg hi hv h6) (x0 x1 x2 x3 : Vec Ideal S1x16x1024 .f32)
    (x4 x5 : Vec Ideal S1x1024 .f32) (x6 : Vec Ideal S1x8x128x128 .f32)
    (inb : ∀ a, (![0, 0, o] : Fin 3 → ℕ) a + S1x16x128.size a ≤ S1x16x1024.size a) (x : (Rect.unit (s := S1x16x1024) ![0, 0, o] S1x16x128.size inb).shape.Idx) :
    outH h.val o hs hg hi hv h6 (bs x4 x1) (lks x4 x1) (qss x0) x2 x6 (gons x5) (gate x3) x
      = (fun y : S1x16x1024.Idx => blk7 x0 x1 x2 x3 x4 x5 x6 (y 1) (hd (y 2)) (ln (y 2))) ((Rect.unit (s := S1x16x1024) ![0, 0, o] S1x16x128.size inb).emb x) := by
  have hx : x = (ix3 0 (x 1) (x 2) : S1x16x128.Idx) := by
    funext a
    match a with
    | ⟨0, _⟩ => exact Subsingleton.elim (α := Fin 1) _ _
    | ⟨1, _⟩ => rfl
    | ⟨2, _⟩ => rfl
  have e1 : (Rect.unit (s := S1x16x1024) ![0, 0, o] S1x16x128.size inb).emb x 1 = (x 1 : Fin 16) :=
    Fin.ext ((Rect.idx_unit_val (s := S1x16x1024) ![0, 0, o] S1x16x128.size inb x 1).trans (Nat.zero_add _))
  have e2 : (Rect.unit (s := S1x16x1024) ![0, 0, o] S1x16x128.size inb).emb x 2 = colB h (x 2) :=
    Fin.ext ((Rect.idx_unit_val (s := S1x16x1024) ![0, 0, o] S1x16x128.size inb x 2).trans (by subst ho; rfl))
  have key : outH h.val o hs hg hi hv h6 (bs x4 x1) (lks x4 x1) (qss x0) x2 x6 (gons x5) (gate x3) x = blk7 x0 x1 x2 x3 x4 x5 x6 (x 1) h (x 2) :=
    (congrArg (outH h.val o hs hg hi hv h6 (bs x4 x1) (lks x4 x1) (qss x0) x2 x6 (gons x5) (gate x3)) hx).trans
    (outH_apply h o ho hs hg hi hv h6 x0 x1 x2 x3 x4 x5 x6 (x 1) (x 2))
  exact key.trans (congr (congr (congrArg (blk7 x0 x1 x2 x3 x4 x5 x6) e1.symm) ((hd_colB h (x 2)).symm.trans (congrArg hd e2.symm)))
      ((ln_colB h (x 2)).symm.trans (congrArg ln e2.symm)))

theorem piece8 (h : Fin 8) (o : ℕ) (ho : o = 128 * h.val) (hs hi hv h6) (x1 x2 : Vec Ideal S1x16x1024 .f32)
    (x4 : Vec Ideal S1x1024 .f32) (x6 : Vec Ideal S1x8x128x128 .f32)
    (inb : ∀ a, (![0, h.val, 0, 0] : Fin 4 → ℕ) a + S1x1x128x128.size a ≤ S1x8x128x128.size a)
    (x : (Rect.unit (s := S1x8x128x128) ![0, h.val, 0, 0] S1x1x128x128.size inb).shape.Idx) :
    stateH h.val o hs hi hv h6 (bs x4 x1) (lks x4 x1) x2 x6 x
      = (fun y : S1x8x128x128.Idx => blk8 x1 x2 x4 x6 (y 1) (y 2) (y 3)) ((Rect.unit (s := S1x8x128x128) ![0, h.val, 0, 0] S1x1x128x128.size inb).emb x) := by
  have hx : x = (ix4 0 0 (x 2) (x 3) : S1x1x128x128.Idx) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have x1z : (x 1).val = 0 := Nat.lt_one_iff.mp (x 1).isLt
  have e1 : (Rect.unit (s := S1x8x128x128) ![0, h.val, 0, 0] S1x1x128x128.size inb).emb x 1 = h :=
    Fin.ext ((Rect.idx_unit_val (s := S1x8x128x128) ![0, h.val, 0, 0] S1x1x128x128.size inb x 1).trans ((congrArg (h.val + ·) x1z).trans (Nat.add_zero _)))
  have e2 : (Rect.unit (s := S1x8x128x128) ![0, h.val, 0, 0] S1x1x128x128.size inb).emb x 2 = (x 2 : Fin 128) :=
    Fin.ext ((Rect.idx_unit_val (s := S1x8x128x128) ![0, h.val, 0, 0] S1x1x128x128.size inb x 2).trans (Nat.zero_add _))
  have e3 : (Rect.unit (s := S1x8x128x128) ![0, h.val, 0, 0] S1x1x128x128.size inb).emb x 3 = (x 3 : Fin 128) :=
    Fin.ext ((Rect.idx_unit_val (s := S1x8x128x128) ![0, h.val, 0, 0] S1x1x128x128.size inb x 3).trans (Nat.zero_add _))
  have key : stateH h.val o hs hi hv h6 (bs x4 x1) (lks x4 x1) x2 x6 x = blk8 x1 x2 x4 x6 h (x 2) (x 3) :=
    (congrArg (stateH h.val o hs hi hv h6 (bs x4 x1) (lks x4 x1) x2 x6) hx).trans
    (stateH_apply h o ho hs hi hv h6 x1 x2 x4 x6 (x 2) (x 3))
  exact key.trans (congr (congr (congrArg (blk8 x1 x2 x4 x6) e1.symm) e2.symm) e3.symm)

/-- Stores that are parts of one array and cover it leave that array. -/
theorem canon_of_pieces {sh : Shape} (G : sh.Idx → Elt Ideal .f32) (L : List (View.Piece (Elt Ideal) sh .f32)) (h : View.PiecesOf (Val := Elt Ideal) (e := .f32) (s := sh) G L) (y : sh.Idx)
    (hc : ∃ p ∈ L, y ∈ p.1.set) : View.canon L y = G y := by
  have := View.canon_append_of_piecesOf G [] L h y hc
  rwa [List.append_nil] at this

/-- The two blocks, read anywhere. -/
theorem out7_apply (c : Dev nD) (i : grid0.Coords) (arg2 : Memref sig .tc .vmem S1x16x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x16x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x8x128x128 .f32) (harg8 : arg8.IsWhole) (arg9 : Memref sig .tc .vmem S1x16x1024 .f32) (harg9 : arg9.IsWhole) (arg10 : Memref sig .tc .vmem S1x8x128x128 .f32) (harg10 : arg10.IsWhole) (arg11 : Memref sig .tc .vmem S8x128x128 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S16x1024 .f32) (harg14 : arg14.IsWhole) (arg15 : Memref sig .tc .vmem S16x1024 .f32) (harg15 : arg15.IsWhole) (hc0 : cond0_0 i) (hc1 : cond0_1 i)
    (x0 x1 x2 x3 : Vec Ideal S1x16x1024 .f32) (x4 x5 : Vec Ideal S1x1024 .f32) (x6 : Vec Ideal S1x8x128x128 .f32) (y : S1x16x1024.Idx) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 y = blk7 x0 x1 x2 x3 x4 x5 x6 (y 1) (hd (y 2)) (ln (y 2)) := by
  rw [out7_eq]
  refine canon_of_pieces (fun y : S1x16x1024.Idx => blk7 x0 x1 x2 x3 x4 x5 x6 (y 1) (hd (y 2)) (ln (y 2)))
    _ ?_ y (View.cover_of_tiledL _ ![1, 16, 128] (by sl_kernel_rfl) y)
  refine ⟨?_, ?_, ?_, ?_, ?_, ?_, ?_, ?_, trivial⟩
  · exact piece7 7 896 rfl _ _ _ _ _ x0 x1 x2 x3 x4 x5 x6 inb_S1x16x1024_S1x16x128_0_0_896
  · exact piece7 6 768 rfl _ _ _ _ _ x0 x1 x2 x3 x4 x5 x6 inb_S1x16x1024_S1x16x128_0_0_768
  · exact piece7 5 640 rfl _ _ _ _ _ x0 x1 x2 x3 x4 x5 x6 inb_S1x16x1024_S1x16x128_0_0_640
  · exact piece7 4 512 rfl _ _ _ _ _ x0 x1 x2 x3 x4 x5 x6 inb_S1x16x1024_S1x16x128_0_0_512
  · exact piece7 3 384 rfl _ _ _ _ _ x0 x1 x2 x3 x4 x5 x6 inb_S1x16x1024_S1x16x128_0_0_384
  · exact piece7 2 256 rfl _ _ _ _ _ x0 x1 x2 x3 x4 x5 x6 inb_S1x16x1024_S1x16x128_0_0_256
  · exact piece7 1 128 rfl _ _ _ _ _ x0 x1 x2 x3 x4 x5 x6 inb_S1x16x1024_S1x16x128_0_0_128
  · exact piece7 0 0 rfl _ _ _ _ _ x0 x1 x2 x3 x4 x5 x6 inb_S1x16x1024_S1x16x128_0_0_0

theorem out8_apply (c : Dev nD) (i : grid0.Coords) (arg2 : Memref sig .tc .vmem S1x16x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x16x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x8x128x128 .f32) (harg8 : arg8.IsWhole) (arg9 : Memref sig .tc .vmem S1x16x1024 .f32) (harg9 : arg9.IsWhole) (arg10 : Memref sig .tc .vmem S1x8x128x128 .f32) (harg10 : arg10.IsWhole) (arg11 : Memref sig .tc .vmem S8x128x128 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S16x1024 .f32) (harg14 : arg14.IsWhole) (arg15 : Memref sig .tc .vmem S16x1024 .f32) (harg15 : arg15.IsWhole) (hc0 : cond0_0 i) (hc1 : cond0_1 i)
    (x0 x1 x2 x3 : Vec Ideal S1x16x1024 .f32) (x4 x5 : Vec Ideal S1x1024 .f32) (x6 : Vec Ideal S1x8x128x128 .f32) (y : S1x8x128x128.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 y = blk8 x1 x2 x4 x6 (y 1) (y 2) (y 3) := by
  rw [out8_eq]
  refine canon_of_pieces (fun y : S1x8x128x128.Idx => blk8 x1 x2 x4 x6 (y 1) (y 2) (y 3))
    _ ?_ y (View.cover_of_tiledL _ ![1, 1, 128, 128] (by sl_kernel_rfl) y)
  refine ⟨?_, ?_, ?_, ?_, ?_, ?_, ?_, ?_, trivial⟩
  · exact piece8 7 896 rfl _ _ _ _ x1 x2 x4 x6 inb_S1x8x128x128_S1x1x128x128_0_7_0_0
  · exact piece8 6 768 rfl _ _ _ _ x1 x2 x4 x6 inb_S1x8x128x128_S1x1x128x128_0_6_0_0
  · exact piece8 5 640 rfl _ _ _ _ x1 x2 x4 x6 inb_S1x8x128x128_S1x1x128x128_0_5_0_0
  · exact piece8 4 512 rfl _ _ _ _ x1 x2 x4 x6 inb_S1x8x128x128_S1x1x128x128_0_4_0_0
  · exact piece8 3 384 rfl _ _ _ _ x1 x2 x4 x6 inb_S1x8x128x128_S1x1x128x128_0_3_0_0
  · exact piece8 2 256 rfl _ _ _ _ x1 x2 x4 x6 inb_S1x8x128x128_S1x1x128x128_0_2_0_0
  · exact piece8 1 128 rfl _ _ _ _ x1 x2 x4 x6 inb_S1x8x128x128_S1x1x128x128_0_1_0_0
  · exact piece8 0 0 rfl _ _ _ _ x1 x2 x4 x6 inb_S1x8x128x128_S1x1x128x128_0_0_0_0

/-! ## From the blocks to the arrays -/

variable (m : (ℓ : Loc nD τ sig) → Buf (Elt Ideal) ℓ) (ρ : Dev nD → PrngReg)

theorem V_v0 (c : Dev nD) : V m c main_v0 = shapeCast S16x16x4096 (m ((c : Thread nD τ).loc main_arg0)) shapeCasts_S256x4096_S16x16x4096 := by
  show StableHlo.after hostOps0 _ (Proc.devRef .tc main_v0) = _
  after_results
  rfl
theorem V_v1 (c : Dev nD) : V m c main_v1 = shapeCast S1x1024 (m ((c : Thread nD τ).loc main_arg1)) shapeCasts_S1024_S1x1024 := by
  show StableHlo.after hostOps0 _ (Proc.devRef .tc main_v1) = _
  after_results
  rfl
theorem V_v2 (c : Dev nD) : V m c main_v2 = shapeCast S1x1024 (m ((c : Thread nD τ).loc main_arg2)) shapeCasts_S1024_S1x1024 := by
  show StableHlo.after hostOps0 _ (Proc.devRef .tc main_v2) = _
  after_results
  rfl

theorem e0 : ∀ t : Fin grid0.N, win0_0.index t = ![t.val, 0, 0] := by decide +kernel
theorem e1 : ∀ t : Fin grid0.N, win0_1.index t = ![t.val, 0, 1] := by decide +kernel
theorem e2 : ∀ t : Fin grid0.N, win0_2.index t = ![t.val, 0, 2] := by decide +kernel
theorem e3 : ∀ t : Fin grid0.N, win0_3.index t = ![t.val, 0, 3] := by decide +kernel
theorem e4 : ∀ t : Fin grid0.N, win0_4.index t = ![0, 0] := by decide +kernel
theorem e5 : ∀ t : Fin grid0.N, win0_5.index t = ![0, 0] := by decide +kernel
theorem e6 : ∀ t : Fin grid0.N, win0_6.index t = ![t.val, 0, 0, 0] := by decide +kernel
theorem e7 : ∀ t : Fin grid0.N, win0_7.index t = ![t.val, 0, 0] := by decide +kernel
theorem e8 : ∀ t : Fin grid0.N, win0_8.index t = ![t.val, 0, 0, 0] := by decide +kernel

/-- The stream of a grid point. -/
def st (t : Fin cfg0.N) : Fin 16 := ⟨t.val, t.isLt⟩

theorem proj_read (x : FVec Ideal S256x4096 .f32) (n t : Fin 16) (k : Fin 4) (c : Fin 1024) (i : S16x16x4096.Idx)
    (h0 : (i 0).val = n.val) (h1 : (i 1).val = t.val) (h2 : (i 2).val = 1024 * k.val + c.val) :
    shapeCast S16x16x4096 x shapeCasts_S256x4096_S16x16x4096 i = x (ix2 (row n t) (colP k c)) := by
  have : i = (ix3 n t (colP k c) : S16x16x4096.Idx) := by
    funext a
    match a with
    | ⟨0, _⟩ => exact Fin.ext h0
    | ⟨1, _⟩ => exact Fin.ext h1
    | ⟨2, _⟩ => exact Fin.ext h2
  rw [this]
  pointwise []
  rfl

theorem vec_read (x : FVec Ideal S1024 .f32) (c : Fin 1024) (i : S1x1024.Idx) (h1 : (i 1).val = c.val) :
    shapeCast S1x1024 x shapeCasts_S1024_S1x1024 i = x (ix1 c) := by
  have : i = (ix2 0 c : S1x1024.Idx) := by
    funext a
    match a with
    | ⟨0, _⟩ => exact Subsingleton.elim (α := Fin 1) _ _
    | ⟨1, _⟩ => exact Fin.ext h1
  rw [this]
  pointwise []

theorem iblk0_apply (c : Dev nD) (t : Fin cfg0.N) (r : Fin 16) (cc : Fin 1024) :
    iblk m c 0 t (ix3 0 r cc : S1x16x1024.Idx) = m ((c : Thread nD τ).loc main_arg0) (ix2 (row (st t) r) (colP 0 cc)) := by
  show V m c main_v0 (((cfg0.win 0).blk t).view.emb (ix3 0 r cc : S1x16x1024.Idx)) = _
  rw [V_v0]
  refine proj_read _ (st t) r 0 cc _ ?_ ?_ ?_
  · blk_simp [e0]
    exact Nat.add_zero _
  · blk_simp [e0]
  · blk_simp [e0]
    show cc.val = 1024 * 0 + cc.val
    omega

theorem iblk1_apply (c : Dev nD) (t : Fin cfg0.N) (r : Fin 16) (cc : Fin 1024) :
    iblk m c 1 t (ix3 0 r cc : S1x16x1024.Idx) = m ((c : Thread nD τ).loc main_arg0) (ix2 (row (st t) r) (colP 1 cc)) := by
  show V m c main_v0 (((cfg0.win 1).blk t).view.emb (ix3 0 r cc : S1x16x1024.Idx)) = _
  rw [V_v0]
  refine proj_read _ (st t) r 1 cc _ ?_ ?_ ?_
  · blk_simp [e1]
    exact Nat.add_zero _
  · blk_simp [e1]
  · blk_simp [e1]
    show 1024 + cc.val = 1024 * 1 + cc.val
    omega

theorem iblk2_apply (c : Dev nD) (t : Fin cfg0.N) (r : Fin 16) (cc : Fin 1024) :
    iblk m c 2 t (ix3 0 r cc : S1x16x1024.Idx) = m ((c : Thread nD τ).loc main_arg0) (ix2 (row (st t) r) (colP 2 cc)) := by
  show V m c main_v0 (((cfg0.win 2).blk t).view.emb (ix3 0 r cc : S1x16x1024.Idx)) = _
  rw [V_v0]
  refine proj_read _ (st t) r 2 cc _ ?_ ?_ ?_
  · blk_simp [e2]
    exact Nat.add_zero _
  · blk_simp [e2]
  · blk_simp [e2]
    show 2 * 1024 + cc.val = 1024 * 2 + cc.val
    omega

theorem iblk3_apply (c : Dev nD) (t : Fin cfg0.N) (r : Fin 16) (cc : Fin 1024) :
    iblk m c 3 t (ix3 0 r cc : S1x16x1024.Idx) = m ((c : Thread nD τ).loc main_arg0) (ix2 (row (st t) r) (colP 3 cc)) := by
  show V m c main_v0 (((cfg0.win 3).blk t).view.emb (ix3 0 r cc : S1x16x1024.Idx)) = _
  rw [V_v0]
  refine proj_read _ (st t) r 3 cc _ ?_ ?_ ?_
  · blk_simp [e3]
    exact Nat.add_zero _
  · blk_simp [e3]
  · blk_simp [e3]
    show 3 * 1024 + cc.val = 1024 * 3 + cc.val
    omega

theorem iblk4_apply (c : Dev nD) (t : Fin cfg0.N) (cc : Fin 1024) :
    iblk m c 4 t (ix2 0 cc : S1x1024.Idx) = m ((c : Thread nD τ).loc main_arg1) (ix1 cc) := by
  show V m c main_v1 (((cfg0.win 4).blk t).view.emb (ix2 0 cc : S1x1024.Idx)) = _
  rw [V_v1]
  refine vec_read _ cc _ ?_
  blk_simp [e4]

theorem iblk5_apply (c : Dev nD) (t : Fin cfg0.N) (cc : Fin 1024) :
    iblk m c 5 t (ix2 0 cc : S1x1024.Idx) = m ((c : Thread nD τ).loc main_arg2) (ix1 cc) := by
  show V m c main_v2 (((cfg0.win 5).blk t).view.emb (ix2 0 cc : S1x1024.Idx)) = _
  rw [V_v2]
  refine vec_read _ cc _ ?_
  blk_simp [e5]

theorem iblk6_apply (c : Dev nD) (t : Fin cfg0.N) (h : Fin 8) (d j : Fin 128) :
    iblk m c 6 t (ix4 0 h d j : S1x8x128x128.Idx) = m ((c : Thread nD τ).loc main_arg3) (ix4 (st t) h d j) := by
  show V m c main_arg3 (((cfg0.win 6).blk t).view.emb (ix4 0 h d j : S1x8x128x128.Idx)) = _
  rw [V_main_arg3]
  congr 1
  funext a
  match a with
  | ⟨0, _⟩ => exact Fin.ext (by blk_simp [e6]; exact Nat.add_zero _)
  | ⟨1, _⟩ => exact Fin.ext (by blk_simp [e6])
  | ⟨2, _⟩ => exact Fin.ext (by blk_simp [e6])
  | ⟨3, _⟩ => exact Fin.ext (by blk_simp [e6])

theorem blk_arr (c : Dev nD) (t : Fin cfg0.N) (r : Fin 16) (h : Fin 8) (j : Fin 128) :
    blk7 (iblk m c 0 t) (iblk m c 1 t) (iblk m c 2 t) (iblk m c 3 t) (iblk m c 4 t) (iblk m c 5 t) (iblk m c 6 t) r h j
      = ogA (m ((c : Thread nD τ).loc main_arg0)) (m ((c : Thread nD τ).loc main_arg1)) (m ((c : Thread nD τ).loc main_arg2))
          (m ((c : Thread nD τ).loc main_arg3)) (st t) r h j := by
  unfold blk7 ogA
  simp only [iblk0_apply, iblk1_apply, iblk2_apply, iblk3_apply, iblk4_apply, iblk5_apply, iblk6_apply]
  rfl

theorem blk_st (c : Dev nD) (t : Fin cfg0.N) (h : Fin 8) (d j : Fin 128) :
    blk8 (iblk m c 1 t) (iblk m c 2 t) (iblk m c 4 t) (iblk m c 6 t) h d j
      = snA (m ((c : Thread nD τ).loc main_arg0)) (m ((c : Thread nD τ).loc main_arg1)) (m ((c : Thread nD τ).loc main_arg3)) (st t) h d j := by
  unfold blk8 snA
  simp only [iblk1_apply, iblk2_apply, iblk4_apply, iblk6_apply]
  rfl

theorem arr7 (c : Dev nD) : (dats m 0 c).arrAt 7 cfg0.N
    = ogF (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  refine (congrFun (Cert.KernelIdeal.Value.flushed7_A m c t) y).trans ?_
  refine (out7_apply _ _ _ _ _ _ _ _ _ _ _ _ _ _ _ _ _ _ _ _ _ _ _ _ _ _ _ _ _ _ _ _ _ _ _ _ _ _ _ _).trans ?_
  refine (blk_arr m c t _ _ _).trans ?_
  have h0 : (((cfg0.win 7).blk t).view.emb y) 0 = st t := Fin.ext (by blk_simp [e7]; rfl)
  have h1 : (((cfg0.win 7).blk t).view.emb y) 1 = (y 1 : Fin 16) := Fin.ext (by blk_simp [e7])
  have h2 : (((cfg0.win 7).blk t).view.emb y) 2 = (y 2 : Fin 1024) := Fin.ext (by blk_simp [e7])
  exact (congr (congr (congr (congrArg (ogA _ _ _ _) h0.symm) h1.symm) (congrArg hd h2.symm)) (congrArg ln h2.symm))

theorem arr8 (c : Dev nD) : (dats m 0 c).arrAt 8 cfg0.N
    = snF (m ((c : Thread nD τ).loc main_arg0)) (m ((c : Thread nD τ).loc main_arg1)) (m ((c : Thread nD τ).loc main_arg3)) := by
  refine (dats m 0 c).arrAt_eq_of_covers 8 _ (by decide +kernel) fun t hf y => ?_
  refine (congrFun (Cert.KernelIdeal.Value.flushed8_A m c t) y).trans ?_
  refine (out8_apply _ _ _ _ _ _ _ _ _ _ _ _ _ _ _ _ _ _ _ _ _ _ _ _ _ _ _ _ _ _ _ _ _ _ _ _ _ _ _ _).trans ?_
  refine (blk_st m c t _ _ _).trans ?_
  have h0 : (((cfg0.win 8).blk t).view.emb y) 0 = st t := Fin.ext (by blk_simp [e8]; rfl)
  have h1 : (((cfg0.win 8).blk t).view.emb y) 1 = (y 1 : Fin 8) := Fin.ext (by blk_simp [e8])
  have h2 : (((cfg0.win 8).blk t).view.emb y) 2 = (y 2 : Fin 128) := Fin.ext (by blk_simp [e8])
  have h3 : (((cfg0.win 8).blk t).view.emb y) 3 = (y 3 : Fin 128) := Fin.ext (by blk_simp [e8])
  exact (congr (congr (congr (congrArg (snA _ _ _) h0.symm) h1.symm) h2.symm) h3.symm)

/-- The kernel leaves its two results as these functions of the arguments, and the arguments as they were. -/
theorem run : θ_run defs (onTc (τ := τ) (main (F := Ideal))) ⟨m, fun _ => 0, ρ⟩ fun r => ∀ c : Dev nD,
      r.2.mem ((c : Thread nD τ).loc main_v3_0)
        = ogF (m ((c : Thread nD τ).loc main_arg0)) (m ((c : Thread nD τ).loc main_arg1)) (m ((c : Thread nD τ).loc main_arg2)) (m ((c : Thread nD τ).loc main_arg3))
      ∧ r.2.mem ((c : Thread nD τ).loc main_v3_1)
        = snF (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr7 m c), (h c).2.1.trans (arr8 m c), (h c).2.2⟩)
    (Cert.KernelIdeal.Value.run_blocks m ρ)

end Hgrn

end
-- ==== Proof.HgrnRef.lean ====
/- The reference's two results read at an index. -/
module

public import proofs.«01_k».proof.Proof.Gen.ReferenceIdeal.Run
public import proofs.«01_k».proof.Proof.Gen.ReferenceIdeal.Read
public import Idealize.ShloMosaic.Lib.ValueIdx
public import Idealize.ShloMosaic.Lib.Pointwise
public import Idealize.ShloMosaic.PureOps.Ideal.Laws
public import proofs.«01_k».proof.Proof.HgrnMath
public import proofs.«01_k».proof.Proof.HgrnArray

@[expose] public section
set_option maxRecDepth 16384
noncomputable section
namespace Hgrn.Ref
open Cert.ReferenceIdeal Cert.ReferenceIdeal.Gen Cert.ReferenceIdeal.Read Cert.ReferenceIdeal.Facts Idealize.ShloMosaic

variable (x0 : (⟨S256x4096, .f32⟩ : BufTy).Contents (Elt Ideal)) (x1 x2 : (⟨S1024, .f32⟩ : BufTy).Contents (Elt Ideal)) (x3 : (⟨S16x8x128x128, .f32⟩ : BufTy).Contents (Elt Ideal))

theorem col_eq (k : Fin 4) (o : ℕ) (ho : o = 1024 * k.val) (h : Fin 8) (d : Fin 128) (p) : (⟨o + (h.val * 128 + d.val), p⟩ : Fin 4096) = colP k (colB h d) :=
  Fin.ext (by simp only [colP, colB]; omega)
theorem colB_eq (h : Fin 8) (d : Fin 128) (p) : (⟨h.val * 128 + d.val, p⟩ : Fin 1024) = colB h d := Fin.ext (by simp only [colB]; omega)
theorem row_eq (n t : Fin 16) (p) : (⟨n.val * 16 + t.val, p⟩ : Fin 256) = row n t := rfl

/-- The key of one channel by the plain formula. -/
def kR (l f : EReal) : EReal := (1 - l) * Ideal.div 1 (1 + Ideal.exp f)

theorem lf_apply (n t : Fin 16) (h : Fin 8) (d : Fin 128) : val_main_v43 x0 x1 (ix4 n t h d) = lfM (x1 (ix1 (colB h d))) (x0 (ix2 (row n t) (colP 1 (colB h d)))) := by
  pointwise [val_main_v43, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v9, val_main_v8, val_main_v7, val_main_v6, val_main_v5, val_main_cst, val_main_v2, val_main_v0]
  simp only [ne_eq, not_true_eq_false, if_false]
  rw [row_eq, col_eq 1 1024 rfl, colB_eq]
  generalize x1 (ix1 (colB h d)) = l
  generalize x0 (ix2 (row n t) (colP 1 (colB h d))) = f
  have ha : ∀ z : EReal, (FloatOps.absf (F := Ideal) (φ := .f32) z : EReal) = absM z := fun _ => rfl
  have hn : absM (-f) = absM f := by unfold absM; rw [neg_neg, max_comm]
  simp only [ha, hn]
  unfold lfM open' logLb
  simp only [sub_eq_add_neg, zero_add]

theorem k_apply (n t : Fin 16) (h : Fin 8) (d : Fin 128) : val_main_v42 x0 x1 (ix4 n t h d) = kR (x1 (ix1 (colB h d))) (x0 (ix2 (row n t) (colP 1 (colB h d)))) := by
  pointwise [val_main_v42, val_main_v39, val_main_v38, val_main_v37, val_main_v36, val_main_v35, val_main_v34, val_main_v33, val_main_v32, val_main_v31, val_main_v30, val_main_v29, val_main_v28, val_main_cst_0, val_main_cst_1, val_main_cst_2, val_main_v2, val_main_v0]
  rw [row_eq, col_eq 1 1024 rfl, colB_eq, neg_neg]
  rfl

theorem v_apply (n t : Fin 16) (h : Fin 8) (d : Fin 128) : val_main_v44 x0 (ix4 n t h d) = x0 (ix2 (row n t) (colP 2 (colB h d))) := by
  pointwise [val_main_v44, val_main_v3, val_main_v0]
  rw [row_eq, col_eq 2 2048 rfl]

theorem q_apply (n t : Fin 16) (h : Fin 8) (d : Fin 128) : val_main_v41 x0 (ix4 n t h d) = siluM (x0 (ix2 (row n t) (colP 0 (colB h d)))) := by
  pointwise [val_main_v41, val_main_v40, val_main_call1_v5, val_main_call1_v4, val_main_call1_v3, val_main_call1_v2, val_main_call1_v1, val_main_call1_v0, val_main_call1_cst, val_main_call1_cst_0, val_main_v1, val_main_v0]
  have e : ∀ p, (⟨h.val * 128 + d.val, p⟩ : Fin 4096) = colP 0 (colB h d) := fun p => Fin.ext (by simp only [colP, colB]; omega)
  rw [row_eq, e]
  exact (siluM_eq _).symm

theorem mask_apply (t s : Fin 16) : val_main_v48 (F := Ideal) (ix5 0 t s 0 0) = if s ≤ t then 1#1 else 0#1 := by
  pointwise [val_main_v48, val_main_v47, val_main_v46, val_main_c, val_main_call3_v5, val_main_call3_v4, val_main_call3_v3, val_main_call3_v2, val_main_call3_v1, val_main_call3_v0, val_main_call3_c, val_main_call3_c_0]
  revert t s
  decide +kernel

theorem A_apply (n t s : Fin 16) (h : Fin 8) : val_main_v64 x0 x1 (ix4 n h t s)
    = ∑ d, val_main_v41 x0 (ix4 n t h d) * (if s ≤ t then Ideal.exp (if s ≤ t then val_main_v45 x0 x1 (ix4 n t h d) - val_main_v45 x0 x1 (ix4 n s h d) else 0) else 0)
        * val_main_v42 x0 x1 (ix4 n s h d) := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_cst_3, val_main_cst_4, val_main_cst_5, val_main_call4_v0, val_main_call4_v1, val_main_call4_v2, val_main_call5_v0, val_main_call5_v1, val_main_call5_v2]
  have z : (constant S_ FTy.f32 0#32 : FVec Ideal S_ .f32) ix0 = 0 := by pointwise []
  simp only [mask_apply, id, z]
  refine Finset.sum_congr rfl fun d _ => ?_
  by_cases hs : s ≤ t
  · simp only [if_pos hs]; rfl
  · simp only [if_neg hs]; rfl

theorem o_apply (n t : Fin 16) (h : Fin 8) (j : Fin 128) : val_main_v71 x0 x1 x3 (ix4 n t h j)
    = ∑ s, val_main_v44 x0 (ix4 n s h j) * val_main_v64 x0 x1 (ix4 n h t s)
      + ∑ d, x3 (ix4 n h d j) * (val_main_v41 x0 (ix4 n t h d) * Ideal.exp (val_main_v45 x0 x1 (ix4 n t h d))) := by
  pointwise [val_main_v71, val_main_v70, val_main_v69, val_main_v68, val_main_v67, val_main_v66, val_main_v65]

theorem S_apply (n : Fin 16) (h : Fin 8) (d j : Fin 128) : val_main_v84 x0 x1 x3 (ix4 n h d j)
    = Ideal.exp (val_main_v45 x0 x1 (ix4 n 15 h d)) * x3 (ix4 n h d j)
      + ∑ s, val_main_v42 x0 x1 (ix4 n s h d) * Ideal.exp (val_main_v45 x0 x1 (ix4 n 15 h d) - val_main_v45 x0 x1 (ix4 n s h d)) * val_main_v44 x0 (ix4 n s h j) := by
  pointwise [val_main_v84, val_main_v83, val_main_v82, val_main_v81, val_main_v80, val_main_v79, val_main_v78, val_main_v77, val_main_v76, val_main_v75, val_main_v74, val_main_v73, val_main_v72]

theorem r_apply (n t : Fin 16) (c : Fin 1024) : val_main_v101 x0 x1 x2 x3 (ix3 n t c)
    = normM (fun j => val_main_v71 x0 x1 x3 (ix4 n t (hd c) j)) (x2 (ix1 c)) (siluM (x0 (ix2 (row n t) (colP 3 c)))) (ln c) := by
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_cst_6, val_main_cst_7, val_main_cst_8, val_main_call6_v5, val_main_call6_v4, val_main_call6_v3, val_main_call6_v2, val_main_call6_v1, val_main_call6_v0, val_main_call6_cst, val_main_call6_cst_0, val_main_v4, val_main_v0]
  rw [siluM_eq]
  rfl

/-- A window sum over the frames, as the running sum. -/
theorem sum_window (g : ℕ → EReal) (t : Fin 16) :
    ∑ k : Fin 16, (if 15 ≤ t.val + k.val then g (t.val + k.val - 15) else 0) = ∑ s : Fin 16, (if s ≤ t then 1 else 0) * g s.val := by
  have e : ∀ s : Fin 16, (if s ≤ t then (1 : EReal) else 0) * g s.val = if s ≤ t then g s.val else 0 := fun s => by
    by_cases h : s ≤ t
    · rw [if_pos h, if_pos h, one_mul]
    · rw [if_neg h, if_neg h, zero_mul]
  rw [Finset.sum_congr rfl fun s _ => e s, ← Finset.sum_filter, ← Finset.sum_filter]
  refine Finset.sum_bij' (fun k hk => (⟨t.val + k.val - 15, by omega⟩ : Fin 16)) (fun s hs => (⟨s.val + 15 - t.val, by have := (Finset.mem_filter.mp hs).2; omega⟩ : Fin 16)) ?_ ?_ ?_ ?_ ?_
  · intro k hk; have := (Finset.mem_filter.mp hk).2; exact Finset.mem_filter.mpr ⟨Finset.mem_univ _, by show t.val + k.val - 15 ≤ t.val; omega⟩
  · intro s hs; exact Finset.mem_filter.mpr ⟨Finset.mem_univ _, by show 15 ≤ t.val + (s.val + 15 - t.val); omega⟩
  · intro k hk; have := (Finset.mem_filter.mp hk).2; exact Fin.ext (by show t.val + k.val - 15 + 15 - t.val = k.val; omega)
  · intro s hs; have : s.val ≤ t.val := (Finset.mem_filter.mp hs).2; exact Fin.ext (by show t.val + (s.val + 15 - t.val) - 15 = s.val; omega)
  · intro k hk; rfl

/-- The window's positions, by their frame. -/
def winEquiv : Fin 16 ≃ (⟨4, ![1, 16, 1, 1]⟩ : Shape).Idx where
  toFun k := ix4 0 k 0 0
  invFun i := i 1
  left_inv k := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

theorem foldl_add_sum {N : ℕ} (g : Fin N → EReal) (a : EReal) : (List.finRange N).foldl (fun r n => r + g n) a = a + ∑ n, g n := by
  have h : ∀ (l : List (Fin N)) (a : EReal), l.foldl (fun r n => r + g n) a = a + (l.map g).sum := by
    intro l
    induction l with
    | nil => intro a; simp
    | cons x l ih => intro a; rw [List.foldl_cons, ih, List.map_cons, List.sum_cons, add_assoc]
  rw [h, Fin.sum_univ_def]

theorem b_apply (n t : Fin 16) (h : Fin 8) (d : Fin 128) : val_main_v45 x0 x1 (ix4 n t h d) = cum (fun s => val_main_v43 x0 x1 (ix4 n s h d)) t := by
  unfold val_main_v45
  generalize val_main_v43 x0 x1 = y
  have z : (val_main_call2_call0_v0 (F := Ideal)) (Shape.Idx.first h_S_) = 0 := by
    rw [show Shape.Idx.first h_S_ = ix0 from Subsingleton.elim _ _]
    pointwise [val_main_call2_call0_v0, val_main_call2_call0_cst]
  unfold Host.reduceWindowAdd
  rw [z, Ideal.hostReduceWindowAdd_def]
  unfold Ideal.hostReduceWindowAdd Host.reduceWindow
  refine (foldl_add_sum _ _).trans ?_
  rw [zero_add]
  rw [← Equiv.sum_comp (winEquiv.trans (Shape.rowMajor _))]
  unfold cum
  refine Eq.trans (Finset.sum_congr rfl fun k _ => ?_) (sum_window (fun s => if hs : s < 16 then y (ix4 n ⟨s, hs⟩ h d) else 0) t |>.trans (Finset.sum_congr rfl fun s _ => by rw [dif_pos s.isLt]))
  simp only [Equiv.trans_apply, Equiv.symm_apply_apply]
  have ht := t.isLt
  have hk := k.isLt
  split
  · next hin =>
    have h1 : 15 ≤ t.val * 1 + k.val ∧ t.val * 1 + k.val - 15 < 16 := hin 1
    rw [if_pos (by omega), dif_pos (by omega)]
    refine congrArg y (funext fun a => Fin.ext ?_)
    match a with
    | ⟨0, _⟩ => show n.val * 1 + 0 - 0 = n.val; omega
    | ⟨1, _⟩ => show t.val * 1 + k.val - 15 = t.val + k.val - 15; omega
    | ⟨2, _⟩ => show h.val * 1 + 0 - 0 = h.val; omega
    | ⟨3, _⟩ => show d.val * 1 + 0 - 0 = d.val; omega
  · next hin =>
    rw [if_neg fun hle => hin fun a => ?_]
    match a with
    | ⟨0, _⟩ => show 0 ≤ n.val * 1 + 0 ∧ n.val * 1 + 0 - 0 < 16; omega
    | ⟨1, _⟩ => show 15 ≤ t.val * 1 + k.val ∧ t.val * 1 + k.val - 15 < 16; omega
    | ⟨2, _⟩ => show 0 ≤ h.val * 1 + 0 ∧ h.val * 1 + 0 - 0 < 8; omega
    | ⟨3, _⟩ => show 0 ≤ d.val * 1 + 0 ∧ d.val * 1 + 0 - 0 < 128; omega

end Hgrn.Ref
end
-- ==== Proof.Hgrn.lean ====
/- The recurrence kernel and the reference leave equal results. -/
module

public import proofs.«01_k».proof.Proof.HgrnRef
public import proofs.«01_k».proof.Proof.Gen.Pre_bound_below_one
public import proofs.«01_k».proof.Defs

@[expose] public section

set_option maxRecDepth 16384

noncomputable section

namespace Hgrn

open Idealize.ShloMosaic Idealize.ShloMosaic.TcCoe Idealize.SL.Sem

/-- The floor of the lower bound's logarithm is a positive number. -/
theorem floor_pos : ∃ e : ℝ, 0 < e ∧ Ideal.ofBits FTy.f32 0x0DA24260#32 = (e : EReal) := by
  refine ⟨(10633824 : ℝ) * (2 : ℝ) ^ (-123 : ℤ), by positivity, ?_⟩
  simp [Ideal.ofBits, Ideal.ieee, -EReal.coe_mul]

section
open Cert.ReferenceIdeal Cert.ReferenceIdeal.Read Hgrn.Ref
variable (P : FVec Ideal Cert.KernelIdeal.S256x4096 .f32) (L Gn : FVec Ideal Cert.KernelIdeal.S1024 .f32) (S : FVec Ideal Cert.KernelIdeal.S16x8x128x128 .f32)

/-- The bounds are numbers at most one. -/
def Below (L : FVec Ideal Cert.KernelIdeal.S1024 .f32) : Prop := ∀ c : Fin 1024, ∃ l : ℝ, L (ix1 c) = (l : EReal) ∧ l ≤ 1

variable (hL : Below L)
include hL

theorem lfA_fin (n : Fin 16) (h : Fin 8) (s : Fin 16) (d : Fin 128) : Fin' (lfA P L n h s d) := by
  unfold lfA; obtain ⟨l, e, _⟩ := hL (colB h d); rw [e]; exact lfM_fin l _ floor_pos

theorem lkA_ne (n : Fin 16) (h : Fin 8) (s : Fin 16) (d : Fin 128) : lkA P L n h s d ≠ ⊤ := by
  unfold lkA; obtain ⟨l, e, _⟩ := hL (colB h d); rw [e]; exact lkM_ne_top l _

theorem exp_lkA (n : Fin 16) (h : Fin 8) (s : Fin 16) (d : Fin 128) : Ideal.exp (lkA P L n h s d) = val_main_v42 (F := Ideal) P L (ix4 n s h d) := by
  rw [k_apply]; unfold lkA; obtain ⟨l, e, hl⟩ := hL (colB h d); rw [e]; exact exp_lkM l _ hl

omit hL in
theorem b_eq (n t : Fin 16) (h : Fin 8) (d : Fin 128) : val_main_v45 (F := Ideal) P L (ix4 n t h d) = cum (lfA P L n h · d) t := by
  rw [b_apply]
  exact congrArg (cum · t) (funext fun s => lf_apply P L n s h d)

theorem o_eq (n t : Fin 16) (h : Fin 8) (j : Fin 128) :
    val_main_v71 (F := Ideal) P L S (ix4 n t h j) = outM (qA P n h) (lfA P L n h) (lkA P L n h) (vA P n h) (sA S n h) t j := by
  rw [outM_eq _ _ _ (fun s d => val_main_v42 (F := Ideal) P L (ix4 n s h d)) _ _ _ _ (lfA_fin P L hL n h) (lkA_ne P L hL n h) (exp_lkA P L hL n h), o_apply]
  simp only [A_apply, b_eq, q_apply, v_apply]
  rfl

theorem st_eq (n : Fin 16) (h : Fin 8) (d j : Fin 128) :
    val_main_v84 (F := Ideal) P L S (ix4 n h d j) = stateM (lfA P L n h) (lkA P L n h) (vA P n h) (sA S n h) d j := by
  rw [stateM_eq _ _ (fun s d => val_main_v42 (F := Ideal) P L (ix4 n s h d)) _ _ _ _ (lfA_fin P L hL n h) (lkA_ne P L hL n h) (exp_lkA P L hL n h), S_apply]
  simp only [b_eq, v_apply]
  rfl

theorem og_eq : val_main_v101 (F := Ideal) P L Gn S = ogF P L Gn S := by
  funext i
  have hi : i = ix3 (i 0) (i 1) (i 2) := by
    funext a
    match a with
    | ⟨0, _⟩ => rfl
    | ⟨1, _⟩ => rfl
    | ⟨2, _⟩ => rfl
  have hc : colB (hd (i 2)) (ln (i 2)) = i 2 := Fin.ext (by simp only [colB, hd, ln]; omega)
  refine (congrArg _ hi).trans ((r_apply P L Gn S (i 0) (i 1) (i 2)).trans ?_)
  unfold ogF ogA
  rw [hc]
  exact congrArg (fun y => normM y _ _ _) (funext fun j => o_eq P L S hL (i 0) (i 1) (hd (i 2)) j)

theorem sn_eq : val_main_v84 (F := Ideal) P L S = snF P L S := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  exact (congrArg _ hi).trans (st_eq P L S hL (i 0) (i 1) (i 2) (i 3))
end

/-- The precondition, read at a channel. -/
theorem below_of_pre (P L Gn S) (h : Cert.Pre_bound_below_one.fn (F := Ideal) P L Gn S = fun _ => 1#1) : Below L := by
  intro c
  have hc := congrFun h (ix1 c)
  unfold Cert.Pre_bound_below_one.fn at hc
  pointwise at hc
  have bot : Ideal.ofBits FTy.f32 0xFF800000#32 = (⊥ : EReal) := by simp [Ideal.ofBits, Ideal.ieee]
  have key : ∀ x b : EReal, b = ⊥ → IntOp.andi (BitVec.ofBool (decide (b < x))) (BitVec.ofBool (decide (x ≤ 1))) = 1#1 → ∃ l : ℝ, x = (l : EReal) ∧ l ≤ 1 := by
    intro x b hb hc
    by_cases h0 : b < x
    · by_cases h1 : x ≤ 1
      · induction x with
        | bot => exact absurd h0 not_lt_bot
        | top => exact absurd h1 (not_le.mpr (EReal.coe_lt_top 1))
        | coe r => exact ⟨r, rfl, EReal.coe_le_coe_iff.mp h1⟩
      · exact absurd hc (by rw [decide_eq_false h1]; cases decide (b < x) <;> decide)
    · exact absurd hc (by rw [decide_eq_false h0]; cases decide (x ≤ (1 : EReal)) <;> decide)
  exact key _ _ bot hc

theorem algebraic : Cert.algebraic_KernelIdeal_ReferenceIdeal_pre_bound_below_one (hKernelIdeal := Cert.KernelIdeal.Gen.facts)
    (hReferenceIdeal := Cert.ReferenceIdeal.Gen.facts) (hPre_bound_below_one := Cert.Pre_bound_below_one.Gen.facts) := fun m ρ m' ρ' hpre hag =>
  ⟨fun c => ogF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
   fun c => snF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
   run m ρ,
   (θ_run _ _ _).mono (fun r h c => by
      obtain ⟨h1, h2, h3⟩ := h c
      obtain ⟨a0, a1, a2, a3⟩ := hag c
      refine ⟨h1.trans ((Cert.ReferenceIdeal.Read.val_main_v101_eq _).trans ?_), h2.trans ((Cert.ReferenceIdeal.Read.val_main_v84_eq _).trans ?_), h3⟩
      · refine Eq.trans ?_ (og_eq _ _ _ _ (below_of_pre _ _ _ _ (hpre c)))
        exact congr (congr (congr (congrArg (Cert.ReferenceIdeal.Read.val_main_v101 (F := Ideal)) a0) a1) a2) a3
      · refine Eq.trans ?_ (sn_eq _ _ _ (below_of_pre _ _ _ _ (hpre c)))
        exact congr (congr (congrArg (Cert.ReferenceIdeal.Read.val_main_v84 (F := Ideal)) a0) a1) a3)
    (Cert.ReferenceIdeal.Value.run m' ρ')⟩

/-- The reference runs, leaves its arguments, and declares no semaphore. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2, sem_eq_zero_of_no_sems (by decide) r.2⟩) (Cert.ReferenceIdeal.Value.run m ρ)

end Hgrn

end
-- ==== Proof.MoeTables.lean ====
/- The two tables of the dispatch as the expert kernel reads them: the words its body and its index maps load, the conditions the
   body branches on, the block each window is on at a grid point, and what the precondition says of the words. -/
module

public import proofs.«01_k».proof.Proof.Hgrn
public import proofs.«01_k».proof.Proof.Gen.Kernel2Ideal.Frame
public import proofs.«01_k».proof.Proof.Gen.Pre_routed
public import Idealize.ShloMosaic.Lib.Tactic

@[expose] public section

set_option maxRecDepth 16384

noncomputable section

namespace Moe

open Cert.Kernel2Ideal Cert.Kernel2Ideal.Gen Idealize.ShloMosaic Idealize.ShloMosaic.TcCoe

variable {F : FTy → Type} [FloatOps F]

/-- The cell of one tile in a table. -/
def cell (n : ℕ) (h : n < 72) : S72.Idx := fun a => ⟨n, by fin_cases a; exact h⟩

/-- A tile is used: its word in the second table is positive. -/
def Used (v : BitVec 32) : Prop := Scalar.cmpi .sgt v 0#32 = 1#1

instance (v : BitVec 32) : Decidable (Used v) := by unfold Used; infer_instance

theorem lt0 (i : grid0.Coords) : (i 0).val < 72 := (i 0).isLt
theorem lt1 (i : grid0.Coords) : (i 1).val < 7 := (i 1).isLt

theorem off1_eq (i : grid0.Coords) : k0_off1 i = ![(i 0).val] := by
  have := lt0 i
  simp [k0_off1, Scalar.indexCast, BitVec.toNat_ofNat]
  omega

theorem off2_eq (i : grid0.Coords) : k0_off2 i = ![(i 0).val] := off1_eq i

/-- The one cell a table's load reads at a grid point. -/
theorem emb1 (i : grid0.Coords) (h : 0 < S1.numel) (inb : ∀ a, k0_off1 i a + S1.size a ≤ S72.size a) :
    (Rect.unit (s := S72) (k0_off1 i) S1.size inb).emb (Shape.Idx.first h) = cell (i 0).val (lt0 i) := by
  funext a
  apply Fin.ext
  fin_cases a
  show k0_off1 i 0 + 1 * 0 = (i 0).val
  rw [off1_eq]
  rfl

theorem rd1 (i : grid0.Coords) (c : Dev nD) (x : TbBuf0 (F := F) c tbM0_1) (h : 0 < S1.numel) :
    tbM0_1.view.readAt (Elt F) (Rect.unit (s := S72) (k0_off1 i) S1.size (k0_off1_inb i)).toLoadRect x (Shape.Idx.first h)
      = x (cell (i 0).val (lt0 i)) := by
  rw [View.readAt_apply]
  exact congrArg x (emb1 i h _)

theorem rd2 (i : grid0.Coords) (c : Dev nD) (x : TbBuf0 (F := F) c tbM0_1) (h : 0 < S1.numel) :
    tbM0_1.view.readAt (Elt F) (Rect.unit (s := S72) (k0_off2 i) S1.size (k0_off2_inb i)).toLoadRect x (Shape.Idx.first h)
      = x (cell (i 0).val (lt0 i)) := rd1 i c x h

theorem cond1_iff (i : grid0.Coords) (v : BitVec 32) : cond0_1 i v ↔ (i 1).val = 0 ∧ Used v := by
  have h1 := lt1 i
  unfold cond0_1 Used
  have e : (BitVec.ofNat 32 (i 1).val == 0#32) = decide ((i 1).val = 0) := by
    rw [Bool.eq_iff_iff]; simp [← BitVec.toNat_inj, BitVec.toNat_ofNat]; omega
  have e' : Scalar.cmpi .eq (BitVec.ofNat 32 (i 1).val) 0#32 = BitVec.ofBool (decide ((i 1).val = 0)) := congrArg BitVec.ofBool e
  rw [e']
  generalize Scalar.cmpi .sgt v 0#32 = b
  by_cases h : (i 1).val = 0 <;> simp only [h, decide_true, decide_false, true_and, false_and] <;> revert b <;> decide

theorem cond2_iff (i : grid0.Coords) (v : BitVec 32) : cond0_2 i v ↔ Used v := by
  unfold cond0_2 Used
  generalize Scalar.cmpi .sgt v 0#32 = b
  revert b; decide

theorem select_used (v x y : BitVec 32) : Scalar.select (Scalar.cmpi .sgt v 0#32) x y = if Used v then x else y := rfl

/-- The word of the used-rows table, and of the experts' table, at a grid point. -/
def tvw (pf : pre0.Contents (Elt F)) (i : grid0.Coords) : BitVec 32 := pf 1 (cell (i 0).val (lt0 i))
def tew (pf : pre0.Contents (Elt F)) (i : grid0.Coords) : BitVec 32 := pf 0 (cell (i 0).val (lt0 i))

theorem at1 (pf : pre0.Contents (Elt F)) (i : grid0.Coords) :
    pf.at 1 (Rect.unit (s := S72) (k0_off1 i) S1.size (k0_off1_inb i)) numel1_S1 = tvw pf i := congrArg (pf 1) (emb1 i _ _)
theorem at0 (pf : pre0.Contents (Elt F)) (i : grid0.Coords) :
    pf.at 0 (Rect.unit (s := S72) (k0_off1 i) S1.size (k0_off1_inb i)) numel1_S1 = tew pf i := congrArg (pf 0) (emb1 i _ _)

/-- The four blocks the input windows are on, and the output's. -/
theorem tr0 (pf : pre0.Contents (Elt F)) (i : grid0.Coords) :
    cc0_transform_0 k0_off1_inb numel1_S1 pf i = ![if Used (tvw pf i) then (i 0).val else 0, 0] := by
  have h0 := lt0 i
  show ![(Scalar.select (Scalar.cmpi .sgt (pf.at 1 (Rect.unit (s := S72) (k0_off1 i) S1.size (k0_off1_inb i)) numel1_S1) 0#32)
    (BitVec.ofNat 32 (i 0).val) 0#32).toNat, 0] = _
  rw [at1, select_used]
  split_ifs
  · rw [BitVec.toNat_ofNat, Nat.mod_eq_of_lt (by omega)]
  · rfl

theorem tr1 (pf : pre0.Contents (Elt F)) (i : grid0.Coords) :
    cc0_transform_1 k0_off1_inb numel1_S1 pf i = ![(tew pf i).toNat, 0, if Used (tvw pf i) then (i 1).val else 0] := by
  have h1 := lt1 i
  show ![(pf.at 0 (Rect.unit (s := S72) (k0_off1 i) S1.size (k0_off1_inb i)) numel1_S1).toNat, 0,
    (Scalar.select (Scalar.cmpi .sgt (pf.at 1 (Rect.unit (s := S72) (k0_off1 i) S1.size (k0_off1_inb i)) numel1_S1) 0#32)
      (BitVec.ofNat 32 (i 1).val) 0#32).toNat] = _
  rw [at1, at0, select_used]
  split_ifs
  · rw [BitVec.toNat_ofNat, Nat.mod_eq_of_lt (by omega)]
  · rfl

theorem tr2 (pf : pre0.Contents (Elt F)) (i : grid0.Coords) :
    cc0_transform_2 k0_off1_inb numel1_S1 pf i = ![(tew pf i).toNat, 0, (if Used (tvw pf i) then (i 1).val else 0) + 7] := by
  have h1 := lt1 i
  show ![(pf.at 0 (Rect.unit (s := S72) (k0_off1 i) S1.size (k0_off1_inb i)) numel1_S1).toNat, 0,
    (Scalar.addi (Scalar.select (Scalar.cmpi .sgt (pf.at 1 (Rect.unit (s := S72) (k0_off1 i) S1.size (k0_off1_inb i)) numel1_S1) 0#32)
      (BitVec.ofNat 32 (i 1).val) 0#32) 7#32).toNat] = _
  rw [at1, at0, select_used]
  split_ifs
  · rw [show Scalar.addi (BitVec.ofNat 32 (i 1).val) 7#32 = BitVec.ofNat 32 (i 1).val + 7#32 from rfl, BitVec.toNat_add,
      BitVec.toNat_ofNat, Nat.mod_eq_of_lt (a := (i 1).val) (by omega), show (7#32).toNat = 7 from rfl, Nat.mod_eq_of_lt (by omega)]
  · rfl

theorem tr3 (pf : pre0.Contents (Elt F)) (i : grid0.Coords) :
    cc0_transform_3 k0_off1_inb numel1_S1 pf i = ![(tew pf i).toNat, if Used (tvw pf i) then (i 1).val else 0, 0] := by
  have h1 := lt1 i
  show ![(pf.at 0 (Rect.unit (s := S72) (k0_off1 i) S1.size (k0_off1_inb i)) numel1_S1).toNat,
    (Scalar.select (Scalar.cmpi .sgt (pf.at 1 (Rect.unit (s := S72) (k0_off1 i) S1.size (k0_off1_inb i)) numel1_S1) 0#32)
      (BitVec.ofNat 32 (i 1).val) 0#32).toNat, 0] = _
  rw [at1, at0, select_used]
  split_ifs
  · rw [BitVec.toNat_ofNat, Nat.mod_eq_of_lt (by omega)]
  · rfl

theorem tr4 (i : grid0.Coords) : cc0_transform_4 i = ![(i 0).val, 0] := by
  have h0 := lt0 i
  show ![(BitVec.ofNat 32 (i 0).val).toNat, 0] = _
  rw [BitVec.toNat_ofNat, Nat.mod_eq_of_lt (by omega)]

/-- A grid point's coordinates. -/
theorem coord0 (t : Fin grid0.N) : (grid0.coords t 0).val = t.val / 7 := by
  have h := t.isLt
  have hN : grid0.N = 504 := N_0
  rw [Pipeline.Grid.coords_val t 0 (S := 7) (B := 72) (by decide) rfl]
  omega

theorem coord1 (t : Fin grid0.N) : (grid0.coords t 1).val = t.val % 7 := by
  rw [Pipeline.Grid.coords_val t 1 (S := 1) (B := 7) (by decide) rfl]
  omega

/-! ## What the precondition says of the tables -/

/-- Every tile names one of the eight experts, and the first tile is used. -/
def Routed (pf : pre0.Contents (Elt F)) : Prop :=
  (∀ i : grid0.Coords, (tew pf i).toNat < 8) ∧ ∀ i : grid0.Coords, (i 0).val = 0 → Used (tvw pf i)

theorem routed_of (x0 : FVec F S73728x1024 .f32) (te tv : IVec S72 32) (x3 : FVec F S8x1024x7168 .f32) (x4 : FVec F S8x3584x1024 .f32)
    (h : Cert.Pre_routed.fn (F := F) x0 te tv x3 x4 = fun _ => 1#1) (n : ℕ) (hn : n < 72) :
    (te (cell n hn)).toNat < 8 ∧ (n = 0 → Used (tv (cell n hn))) := by
  have andi_one (a b : BitVec 1) : IntOp.andi a b = 1#1 ↔ a = 1#1 ∧ b = 1#1 := by revert a b; decide
  have ori_one (a b : BitVec 1) : IntOp.ori a b = 1#1 ↔ a = 1#1 ∨ b = 1#1 := by revert a b; decide
  have ofBool_eq_one (p : Bool) : (BitVec.ofBool p = 1#1) ↔ p = true := by cases p <;> decide
  have e := congrFun h (cell n hn)
  simp only [Cert.Pre_routed.fn, andi, ori, noti, cmpi, broadcastInDim, constantI, iotaInDim, andi_one, ori_one] at e
  obtain ⟨⟨h1, h2⟩, h3⟩ := e
  refine ⟨?_, ?_⟩
  · simp only [IntOp.cmpi, ofBool_eq_one, BitVec.sle, BitVec.slt, decide_eq_true_eq, BitVec.toInt, BitVec.toNat_ofNat] at h1 h2
    omega
  · rintro rfl
    rcases h3 with h3 | h3
    · exact h3
    · exact absurd (show ~~~(IntOp.cmpi .eq (BitVec.ofNat 32 0) 0#32) = 1#1 from h3) (by decide)

theorem ok_of (pf : pre0.Contents (Elt F)) (h : Routed pf) : ok0 pf := by
  refine ⟨fun i => ⟨?_, Or.inl rfl⟩, fun i => ⟨?_, Or.inl rfl⟩, fun i => ⟨?_, Or.inl rfl⟩, fun i => ⟨?_, Or.inl rfl⟩⟩
  all_goals
    have h0 := lt0 i
    have h1 := lt1 i
    have he := h.1 i
    intro a
  · rw [tr0]
    fin_cases a
    · show ((if _ then _ else _) + 1) * 1024 ≤ 73728
      split_ifs <;> omega
    · show (0 + 1) * 1024 ≤ 1024
      omega
  · rw [tr1]
    fin_cases a
    · show ((tew pf i).toNat + 1) * 1 ≤ 8
      omega
    · show (0 + 1) * 1024 ≤ 1024
      omega
    · show ((if _ then _ else _) + 1) * 512 ≤ 7168
      split_ifs <;> omega
  · rw [tr2]
    fin_cases a
    · show ((tew pf i).toNat + 1) * 1 ≤ 8
      omega
    · show (0 + 1) * 1024 ≤ 1024
      omega
    · show ((if _ then _ else _) + 7 + 1) * 512 ≤ 7168
      split_ifs <;> omega
  · rw [tr3]
    fin_cases a
    · show ((tew pf i).toNat + 1) * 1 ≤ 8
      omega
    · show ((if _ then _ else _) + 1) * 512 ≤ 3584
      split_ifs <;> omega
    · show (0 + 1) * 1024 ≤ 1024
      omega

theorem c1_iff (m : (ℓ : Loc nD τ sig) → Buf (Elt F) ℓ) (i : grid0.Coords) :
    cond0_1 i (tbM0_1.view.readAt (Elt F) (Rect.unit (s := S72) (k0_off1 i) S1.size (k0_off1_inb i)).toLoadRect (tbl m 1)
      (Shape.Idx.first (numel1_S1.symm ▸ Nat.one_pos))) ↔ (i 1).val = 0 ∧ Used (tvw (tbl m) i) :=
  (iff_of_eq (congrArg (cond0_1 i) (rd1 (F := F) i (0 : Dev nD) (tbl m 1) _))).trans (cond1_iff i _)

theorem c2_iff (m : (ℓ : Loc nD τ sig) → Buf (Elt F) ℓ) (i : grid0.Coords) :
    cond0_2 i (tbM0_1.view.readAt (Elt F) (Rect.unit (s := S72) (k0_off2 i) S1.size (k0_off2_inb i)).toLoadRect (tbl m 1)
      (Shape.Idx.first (numel1_S1.symm ▸ Nat.one_pos))) ↔ Used (tvw (tbl m) i) :=
  (iff_of_eq (congrArg (cond0_2 i) (rd2 (F := F) i (0 : Dev nD) (tbl m 1) _))).trans (cond2_iff i _)

theorem hyps_of (m : (ℓ : Loc nD τ sig) → Buf (Elt F) ℓ) (hO : Ok m) (h : Routed (tbl m)) : Hyps m hO := by
  have key (t : Fin (cfgM m hO).N) (h1 : ¬cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))) : ¬(t.val % 504 = 0) := by
    intro ht
    have hN : t.val < 504 := lt_of_lt_of_eq t.isLt N_0
    have hz : t.val = 0 := by omega
    have e0 := coord0 t
    have e1 := coord1 t
    rw [hz] at e0 e1
    exact h1 ((c1_iff m (grid0.coords t)).mpr ⟨e1, h.2 (grid0.coords t) e0⟩)
  exact Hyps.of (fun c t _ h1 _ _ => key t h1) (fun c t _ h1 _ _ => key t h1)

theorem routed_of_pre (m : (ℓ : Loc nD τ sig) → Buf (Elt F) ℓ)
    (h : ∀ c : Dev nD, Cert.Pre_routed.fn (F := F) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Routed (tbl m) :=
  ⟨fun i => (routed_of _ _ _ _ _ (h 0) (i 0).val (lt0 i)).1, fun i hi => (routed_of _ _ _ _ _ (h 0) (i 0).val (lt0 i)).2 hi⟩

end Moe
-- ==== Proof.MoeBlock.lean ====
/- What the expert kernel's body leaves, at one grid point, in its two carried buffers and in the output's block. -/
module

public import proofs.«01_k».proof.Proof.MoeTables
public import Idealize.ShloMosaic.Lib.Pipeline.ValueKit
public import Idealize.ShloMosaic.Lib.Pipeline.ReadBack

@[expose] public section

set_option maxRecDepth 16384

noncomputable section

namespace Moe

open Cert.Kernel2Ideal Cert.Kernel2Ideal.Gen Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A used tile's first point: the rows at the dots' width, and the first column tile's sum from zero. -/
theorem sA0 : @sout0_A_0 F _ = fun c i a4 h4 a5 h5 a6 h6 a7 h7 a8 h8 a9 h9 a10 h10 hc0 hc3 x0 x1 x2 x3 xt0 xt1 hc1 hc2 => k0_pay2 x0 := by
  funext c i a4 h4 a5 h5 a6 h6 a7 h7 a8 h8 a9 h9 a10 h10 hc0 hc3 x0 x1 x2 x3 xt0 xt1 hc1 hc2
  unfold sout0_A_0
  rw [View.read_writes_eq_canon _ _ _ (scover0_A_0 c i a4 h4 a5 h5 a6 h6 a7 h7 a8 h8 a9 h9 a10 h10 hc0 hc3 x0 x1 x2 x3 xt0 xt1 hc1 hc2)]
  unfold kernelRun0_A
  dsimp only
  sl_unfold_words
  rw [View.canon_cons_unit_zero (S := S1024x1024) hz2]
  simp only [View.readAt_eq_ld, h4.read_unread, View.ld_unit_zero (S := S1024x1024) hz2]

theorem sA1 : @sout0_A_1 F _ = fun c i a4 h4 a5 h5 a6 h6 a7 h7 a8 h8 a9 h9 a10 h10 hc0 hc3 x0 x1 x2 x3 xt0 xt1 hc1 hc2 => k0_pay3 (k0_pay2 x0) x1 x2 k0_pay1 x3 := by
  funext c i a4 h4 a5 h5 a6 h6 a7 h7 a8 h8 a9 h9 a10 h10 hc0 hc3 x0 x1 x2 x3 xt0 xt1 hc1 hc2
  unfold sout0_A_1
  rw [View.read_writes_eq_canon _ _ _ (scover0_A_1 c i a4 h4 a5 h5 a6 h6 a7 h7 a8 h8 a9 h9 a10 h10 hc0 hc3 x0 x1 x2 x3 xt0 xt1 hc1 hc2)]
  unfold kernelRun0_A
  dsimp only
  sl_unfold_words
  rw [View.canon_cons_unit_zero (S := S1024x1024) hz2]
  simp only [View.readAt_eq_ld, h4.read_unread, h5.read_unread, h6.read_unread, h7.read_unread, View.ld_unit_zero (S := S1024x1024) hz2,
    View.ld_unit_zero (S := S1x1024x512) hz3, View.ld_unit_zero (S := S1x512x1024) hz3, View.readCov_unit_zero (S := S1024x1024) _ hz2]

/-- An unused tile's first point: zero. -/
theorem sD1 : @sout0_D_1 F _ = fun c i a4 h4 a5 h5 a6 h6 a7 h7 a8 h8 a9 h9 a10 h10 hc0 hc3 x0 x1 x2 x3 xt0 xt1 xs0 hc1 hc2 => k0_pay1 := by
  funext c i a4 h4 a5 h5 a6 h6 a7 h7 a8 h8 a9 h9 a10 h10 hc0 hc3 x0 x1 x2 x3 xt0 xt1 xs0 hc1 hc2
  unfold sout0_D_1
  rw [View.read_writes_eq_canon _ _ _ (scover0_D_1 c i a4 h4 a5 h5 a6 h6 a7 h7 a8 h8 a9 h9 a10 h10 hc0 hc3 x0 x1 x2 x3 xt0 xt1 xs0 hc1 hc2)]
  unfold kernelRun0_D
  dsimp only
  sl_unfold_words
  rw [View.canon_cons_unit_zero (S := S1024x1024) hz2]

/-- A used tile's later points: the column tile's sum added. -/
theorem sG1 : @sout0_G_1 F _ = fun c i a4 h4 a5 h5 a6 h6 a7 h7 a8 h8 a9 h9 a10 h10 hc0 hc3 x0 x1 x2 x3 xt0 xt1 xs0 xs1 hc1 hc2 => k0_pay3 xs0 x1 x2 xs1 x3 := by
  funext c i a4 h4 a5 h5 a6 h6 a7 h7 a8 h8 a9 h9 a10 h10 hc0 hc3 x0 x1 x2 x3 xt0 xt1 xs0 xs1 hc1 hc2
  unfold sout0_G_1
  rw [View.read_writes_eq_canon _ _ _ (scover0_G_1 c i a4 h4 a5 h5 a6 h6 a7 h7 a8 h8 a9 h9 a10 h10 hc0 hc3 x0 x1 x2 x3 xt0 xt1 xs0 xs1 hc1 hc2)]
  unfold kernelRun0_G
  dsimp only
  sl_unfold_words
  rw [View.canon_cons_unit_zero (S := S1024x1024) hz2]
  simp only [View.readAt_eq_ld, h5.read_unread, h6.read_unread, h7.read_unread, h9.read_unread, h10.read_unread, View.ld_unit_zero (S := S1024x1024) hz2,
    View.ld_unit_zero (S := S1x1024x512) hz3, View.ld_unit_zero (S := S1x512x1024) hz3]

/-- A used tile's last point: the sum with the last column tile's, written out. -/
theorem oK : @out0_K_4 F _ = fun c i a4 h4 a5 h5 a6 h6 a7 h7 a8 h8 a9 h9 a10 h10 hc0 hc3 x0 x1 x2 x3 xt0 xt1 xs0 xs1 hc1 hc2 => k0_pay3 xs0 x1 x2 xs1 x3 := by
  funext c i a4 h4 a5 h5 a6 h6 a7 h7 a8 h8 a9 h9 a10 h10 hc0 hc3 x0 x1 x2 x3 xt0 xt1 xs0 xs1 hc1 hc2
  unfold out0_K_4
  rw [View.read_writes_eq_canon _ _ _ (cover0_K_4 c i a4 h4 a5 h5 a6 h6 a7 h7 a8 h8 a9 h9 a10 h10 hc0 hc3 x0 x1 x2 x3 xt0 xt1 xs0 xs1 hc1 hc2)]
  unfold kernelRun0_K
  dsimp only
  sl_unfold_words
  rw [View.canon_cons_unit_zero (S := S1024x1024) hz2]
  simp only [View.readAt_eq_ld, h5.read_unread, h6.read_unread, h7.read_unread, h9.read_unread, h10.read_unread, View.ld_unit_zero (S := S1024x1024) hz2,
    View.ld_unit_zero (S := S1x1024x512) hz3, View.ld_unit_zero (S := S1x512x1024) hz3, View.readCov_unit_zero (S := S1024x1024) _ hz2]

/-- An unused tile's last point: what was carried, written out. -/
theorem oL : @out0_L_4 F _ = fun c i a4 h4 a5 h5 a6 h6 a7 h7 a8 h8 a9 h9 a10 h10 hc0 hc3 x0 x1 x2 x3 xt0 xt1 xs0 xs1 hc1 hc2 => xs1 := by
  funext c i a4 h4 a5 h5 a6 h6 a7 h7 a8 h8 a9 h9 a10 h10 hc0 hc3 x0 x1 x2 x3 xt0 xt1 xs0 xs1 hc1 hc2
  unfold out0_L_4
  rw [View.read_writes_eq_canon _ _ _ (cover0_L_4 c i a4 h4 a5 h5 a6 h6 a7 h7 a8 h8 a9 h9 a10 h10 hc0 hc3 x0 x1 x2 x3 xt0 xt1 xs0 xs1 hc1 hc2)]
  unfold kernelRun0_L
  dsimp only
  sl_unfold_words
  rw [View.canon_cons_unit_zero (S := S1024x1024) hz2]
  simp only [View.readAt_eq_ld, h10.read_unread, View.ld_unit_zero (S := S1024x1024) hz2]

end Moe
-- ==== Proof.MoeValue.lean ====
/- The expert kernel's accumulation: over a used tile's seven column tiles the carried sum grows to the whole product of the
   tile's expert, and over an unused tile's it stays zero. -/
module

public import proofs.«01_k».proof.Proof.MoeBlock

@[expose] public section

set_option maxRecDepth 16384

noncomputable section

namespace Moe

open Cert.Kernel2Ideal Cert.Kernel2Ideal.Gen Idealize.ShloMosaic Idealize.ShloMosaic.TcCoe
open Hgrn (siluM)

/-! ## The mathematics of one row through one expert -/

/-- One column of a row's product with an expert's first matrix. -/
def up (x0 : Vec Ideal S73728x1024 .f32) (x3 : Vec Ideal S8x1024x7168 .f32) (n : Fin 73728) (e : Fin 8) (q : Fin 7168) : EReal :=
  ∑ k : Fin 1024, x0 (ix2 n k) * x3 (ix3 e k q)

/-- One gated column times the expert's second matrix (zero past the last column). -/
def term (x0 : Vec Ideal S73728x1024 .f32) (x3 : Vec Ideal S8x1024x7168 .f32) (x4 : Vec Ideal S8x3584x1024 .f32)
    (n : Fin 73728) (e : Fin 8) (col : Fin 1024) (q : ℕ) : EReal :=
  if h : q < 3584 then siluM (up x0 x3 n e ⟨q, by omega⟩) * up x0 x3 n e ⟨q + 3584, by omega⟩ * x4 (ix3 e ⟨q, h⟩ col) else 0

/-- A row through an expert. -/
def expert (x0 : Vec Ideal S73728x1024 .f32) (x3 : Vec Ideal S8x1024x7168 .f32) (x4 : Vec Ideal S8x3584x1024 .f32)
    (n : Fin 73728) (e : Fin 8) (col : Fin 1024) : EReal := ∑ q ∈ Finset.range 3584, term x0 x3 x4 n e col q

/-- A sum over columns, tile by tile. -/
theorem sum_tiles (T : ℕ → EReal) (n : ℕ) : ∑ q ∈ Finset.range (n * 512), T q = ∑ j ∈ Finset.range n, ∑ q : Fin 512, T (j * 512 + q.val) := by
  induction n with
  | zero => simp
  | succ n ih =>
    rw [Finset.sum_range_succ, ← ih, Nat.succ_mul, Finset.sum_range_add, Finset.sum_range (fun x => T (n * 512 + x))]

theorem pay1_apply (y : S1024x1024.Idx) : k0_pay1 (F := Ideal) y = 0 := by
  pointwise [k0_pay1]

theorem pay2_apply (a : Vec Ideal S1024x1024 .f32) (y : S1024x1024.Idx) : k0_pay2 (F := Ideal) a y = a y := by
  pointwise [k0_pay2]

theorem pay3_apply (a : Vec Ideal S1024x1024 .bf16) (b c : Vec Ideal S1x1024x512 .f32) (d : Vec Ideal S1024x1024 .f32)
    (e : Vec Ideal S1x512x1024 .f32) (y : S1024x1024.Idx) : k0_pay3 (F := Ideal) a b c d e y
      = d y + ∑ x : Fin 512, siluM (∑ k : Fin 1024, a (ix2 (y 0) k) * b (ix3 0 k x)) * (∑ k : Fin 1024, a (ix2 (y 0) k) * c (ix3 0 k x))
          * e (ix3 0 x (y 1)) := by
  pointwise [k0_pay3]
  rfl

/-! ## One grid point -/

section point

variable (m : (ℓ : Loc nD τ sig) → Buf (Elt Ideal) ℓ) (hO : Ok m) (hH : Hyps m hO) (hR : Routed (tbl m)) (c : Dev nD)
variable (t : Fin (cfgM m hO).N)

theorem t_lt : t.val < 504 := lt_of_lt_of_eq t.isLt N_0

/-- The point's row of the block, in the array. -/
abbrev rowAt (n : ℕ) (hn : n < 504) (r : Fin 1024) : Fin 73728 := ⟨n / 7 * 1024 + r.val, by omega⟩

/-- The point's tile is used, and its expert. -/
abbrev UsedAt (n : ℕ) (hn : n < 504) : Prop := Used (tbl m 1 (cell (n / 7) (by omega)))
abbrev expAt (n : ℕ) (hn : n < 504) : BitVec 32 := tbl m 0 (cell (n / 7) (by omega))

theorem cell_coord (n : ℕ) (hn : n < 504) (h : n < grid0.N) : cell (grid0.coords ⟨n, h⟩ 0).val (lt0 _) = cell (n / 7) (by omega) :=
  funext fun a => Fin.ext (coord0 ⟨n, h⟩)

theorem tvw_coord (n : ℕ) (hn : n < 504) (h : n < grid0.N) : tvw (tbl m) (grid0.coords ⟨n, h⟩) = tbl m 1 (cell (n / 7) (by omega)) :=
  congrArg (tbl m 1) (cell_coord n hn h)
theorem tew_coord (n : ℕ) (hn : n < 504) (h : n < grid0.N) : tew (tbl m) (grid0.coords ⟨n, h⟩) = tbl m 0 (cell (n / 7) (by omega)) :=
  congrArg (tbl m 0) (cell_coord n hn h)

include hR in
theorem exp_lt (n : ℕ) (hn : n < 504) : (expAt m n hn).toNat < 8 := by
  have h : n < grid0.N := lt_of_lt_of_eq hn N_0.symm
  have := hR.1 (grid0.coords ⟨n, h⟩)
  rwa [tew_coord m n hn h] at this

/-- The four blocks read at a point. -/
def b0 (n : ℕ) (h : n < (cfgM m hO).N) : Vec Ideal S1024x1024 .f32 := iblk m hO c 0 ⟨n, h⟩
def b1 (n : ℕ) (h : n < (cfgM m hO).N) : Vec Ideal S1x1024x512 .f32 := iblk m hO c 1 ⟨n, h⟩
def b2 (n : ℕ) (h : n < (cfgM m hO).N) : Vec Ideal S1x1024x512 .f32 := iblk m hO c 2 ⟨n, h⟩
def b3 (n : ℕ) (h : n < (cfgM m hO).N) : Vec Ideal S1x512x1024 .f32 := iblk m hO c 3 ⟨n, h⟩

theorem iblk0 (n : ℕ) (hn : n < 504) (h : n < (cfgM m hO).N) (hu : UsedAt m n hn) (r k : Fin 1024) :
    b0 m hO c n h (ix2 r k) = m ((c : Thread nD τ).loc main_arg0) (ix2 (rowAt n hn r) k) := by
  show m (c.tc.loc main_arg0) ((((cfgM m hO).win 0).blk ⟨n, h⟩).view.emb (ix2 r k)) = _
  congr 1
  funext a
  apply Fin.ext
  have e := tr0 (tbl m) (grid0.coords ⟨n, h⟩)
  rw [tvw_coord m n hn h, if_pos hu, coord0 ⟨n, h⟩] at e
  match a with
  | ⟨0, _⟩ => show cc0_transform_0 k0_off1_inb numel1_S1 (tbl m) (grid0.coords ⟨n, h⟩) 0 * 1024 + 1 * r.val = n / 7 * 1024 + r.val; rw [e]; show n / 7 * 1024 + 1 * r.val = _; omega
  | ⟨1, _⟩ => show cc0_transform_0 k0_off1_inb numel1_S1 (tbl m) (grid0.coords ⟨n, h⟩) 1 * 1024 + 1 * k.val = k.val; rw [e]; show 0 * 1024 + 1 * k.val = _; omega

theorem iblk1 (n : ℕ) (hn : n < 504) (h : n < (cfgM m hO).N) (hu : UsedAt m n hn) (he : (expAt m n hn).toNat < 8) (k : Fin 1024) (q : Fin 512) :
    b1 m hO c n h (ix3 0 k q)
      = m ((c : Thread nD τ).loc main_arg3) (ix3 ⟨(expAt m n hn).toNat, he⟩ k ⟨n % 7 * 512 + q.val, by omega⟩) := by
  show m (c.tc.loc main_arg3) ((((cfgM m hO).win 1).blk ⟨n, h⟩).view.emb (ix3 0 k q)) = _
  congr 1
  funext a
  apply Fin.ext
  have e := tr1 (tbl m) (grid0.coords ⟨n, h⟩)
  rw [tvw_coord m n hn h, tew_coord m n hn h, if_pos hu, coord1 ⟨n, h⟩] at e
  match a with
  | ⟨0, _⟩ => show cc0_transform_1 k0_off1_inb numel1_S1 (tbl m) (grid0.coords ⟨n, h⟩) 0 * 1 + 1 * 0 = (expAt m n hn).toNat; rw [e]; show (expAt m n hn).toNat * 1 + 1 * 0 = _; omega
  | ⟨1, _⟩ => show cc0_transform_1 k0_off1_inb numel1_S1 (tbl m) (grid0.coords ⟨n, h⟩) 1 * 1024 + 1 * k.val = k.val; rw [e]; show 0 * 1024 + 1 * k.val = _; omega
  | ⟨2, _⟩ => show cc0_transform_1 k0_off1_inb numel1_S1 (tbl m) (grid0.coords ⟨n, h⟩) 2 * 512 + 1 * q.val = n % 7 * 512 + q.val; rw [e]; show n % 7 * 512 + 1 * q.val = _; omega

theorem iblk2 (n : ℕ) (hn : n < 504) (h : n < (cfgM m hO).N) (hu : UsedAt m n hn) (he : (expAt m n hn).toNat < 8) (k : Fin 1024) (q : Fin 512) :
    b2 m hO c n h (ix3 0 k q)
      = m ((c : Thread nD τ).loc main_arg3) (ix3 ⟨(expAt m n hn).toNat, he⟩ k ⟨n % 7 * 512 + q.val + 3584, by omega⟩) := by
  show m (c.tc.loc main_arg3) ((((cfgM m hO).win 2).blk ⟨n, h⟩).view.emb (ix3 0 k q)) = _
  congr 1
  funext a
  apply Fin.ext
  have e := tr2 (tbl m) (grid0.coords ⟨n, h⟩)
  rw [tvw_coord m n hn h, tew_coord m n hn h, if_pos hu, coord1 ⟨n, h⟩] at e
  match a with
  | ⟨0, _⟩ => show cc0_transform_2 k0_off1_inb numel1_S1 (tbl m) (grid0.coords ⟨n, h⟩) 0 * 1 + 1 * 0 = (expAt m n hn).toNat; rw [e]; show (expAt m n hn).toNat * 1 + 1 * 0 = _; omega
  | ⟨1, _⟩ => show cc0_transform_2 k0_off1_inb numel1_S1 (tbl m) (grid0.coords ⟨n, h⟩) 1 * 1024 + 1 * k.val = k.val; rw [e]; show 0 * 1024 + 1 * k.val = _; omega
  | ⟨2, _⟩ => show cc0_transform_2 k0_off1_inb numel1_S1 (tbl m) (grid0.coords ⟨n, h⟩) 2 * 512 + 1 * q.val = n % 7 * 512 + q.val + 3584; rw [e]; show (n % 7 + 7) * 512 + 1 * q.val = _; omega

theorem iblk3 (n : ℕ) (hn : n < 504) (h : n < (cfgM m hO).N) (hu : UsedAt m n hn) (he : (expAt m n hn).toNat < 8) (q : Fin 512) (k : Fin 1024) :
    b3 m hO c n h (ix3 0 q k)
      = m ((c : Thread nD τ).loc main_arg4) (ix3 ⟨(expAt m n hn).toNat, he⟩ ⟨n % 7 * 512 + q.val, by omega⟩ k) := by
  show m (c.tc.loc main_arg4) ((((cfgM m hO).win 3).blk ⟨n, h⟩).view.emb (ix3 0 q k)) = _
  congr 1
  funext a
  apply Fin.ext
  have e := tr3 (tbl m) (grid0.coords ⟨n, h⟩)
  rw [tvw_coord m n hn h, tew_coord m n hn h, if_pos hu, coord1 ⟨n, h⟩] at e
  match a with
  | ⟨0, _⟩ => show cc0_transform_3 k0_off1_inb numel1_S1 (tbl m) (grid0.coords ⟨n, h⟩) 0 * 1 + 1 * 0 = (expAt m n hn).toNat; rw [e]; show (expAt m n hn).toNat * 1 + 1 * 0 = _; omega
  | ⟨1, _⟩ => show cc0_transform_3 k0_off1_inb numel1_S1 (tbl m) (grid0.coords ⟨n, h⟩) 1 * 512 + 1 * q.val = n % 7 * 512 + q.val; rw [e]; show n % 7 * 512 + 1 * q.val = _; omega
  | ⟨2, _⟩ => show cc0_transform_3 k0_off1_inb numel1_S1 (tbl m) (grid0.coords ⟨n, h⟩) 2 * 1024 + 1 * k.val = k.val; rw [e]; show 0 * 1024 + 1 * k.val = _; omega

/-- A used tile's point adds its column tile's part of the tile's expert. -/
theorem step_apply (n : ℕ) (hn : n < 504) (h : n < (cfgM m hO).N) (hu : UsedAt m n hn) (he : (expAt m n hn).toNat < 8)
    (a : Vec Ideal S1024x1024 .bf16) (d : Vec Ideal S1024x1024 .f32)
    (ha : ∀ r k, a (ix2 r k) = m ((c : Thread nD τ).loc main_arg0) (ix2 (rowAt n hn r) k)) (r col : Fin 1024) :
    k0_pay3 (F := Ideal) a (b1 m hO c n h) (b2 m hO c n h) d (b3 m hO c n h) (ix2 r col)
      = d (ix2 r col) + ∑ q : Fin 512, term (m ((c : Thread nD τ).loc main_arg0)) (m ((c : Thread nD τ).loc main_arg3)) (m ((c : Thread nD τ).loc main_arg4))
          (rowAt n hn r) ⟨(expAt m n hn).toNat, he⟩ col (n % 7 * 512 + q.val) := by
  refine (pay3_apply a (b1 m hO c n h) (b2 m hO c n h) d (b3 m hO c n h) (ix2 r col)).trans ?_
  congr 1
  refine Finset.sum_congr rfl fun q _ => ?_
  unfold term up
  rw [dif_pos (show n % 7 * 512 + q.val < 3584 by omega)]
  show siluM (∑ k : Fin 1024, a (ix2 r k) * b1 m hO c n h (ix3 0 k q))
    * (∑ k : Fin 1024, a (ix2 r k) * b2 m hO c n h (ix3 0 k q))
    * b3 m hO c n h (ix3 0 q col) = _
  rw [iblk3 m hO c n hn h hu he q col]
  congr 2
  · congr 1
    exact Finset.sum_congr rfl fun k _ => by rw [ha, iblk1 m hO c n hn h hu he k q]
  · exact Finset.sum_congr rfl fun k _ => by rw [ha, iblk2 m hO c n hn h hu he k q]

end point

end Moe
-- ==== Proof.MoeAcc.lean ====
/- The expert kernel's carried sum, point by point, and what a tile's last point writes. -/
module

public import proofs.«01_k».proof.Proof.MoeValue

@[expose] public section

set_option maxRecDepth 16384

noncomputable section

namespace Moe

open Cert.Kernel2Ideal Cert.Kernel2Ideal.Gen Idealize.ShloMosaic Idealize.ShloMosaic.TcCoe
open Hgrn (siluM)

variable (m : (ℓ : Loc nD τ sig) → Buf (Elt Ideal) ℓ) (hO : Ok m) (hH : Hyps m hO) (hR : Routed (tbl m)) (c : Dev nD)

/-- The point's expert. -/
abbrev eF (n : ℕ) (hn : n < 504) : Fin 8 := ⟨(expAt m n hn).toNat, exp_lt m hR n hn⟩

/-- One column tile's part of a row's product, at a point. -/
abbrev part (n : ℕ) (hn : n < 504) (r col : Fin 1024) (j : ℕ) : EReal :=
  ∑ q : Fin 512, term (m ((c : Thread nD τ).loc main_arg0)) (m ((c : Thread nD τ).loc main_arg3)) (m ((c : Thread nD τ).loc main_arg4))
    (rowAt n hn r) (eF m hR n hn) col (j * 512 + q.val)

theorem cell_succ (n : ℕ) (hn : n + 1 < 504) (h6 : (n + 1) % 7 ≠ 0) : cell ((n + 1) / 7) (by omega) = cell (n / 7) (by omega) :=
  funext fun a => Fin.ext (by show (n + 1) / 7 = n / 7; omega)

theorem used_succ (n : ℕ) (hn : n + 1 < 504) (h6 : (n + 1) % 7 ≠ 0) : UsedAt m (n + 1) hn ↔ UsedAt m n (by omega) := by
  unfold UsedAt; rw [cell_succ n hn h6]

theorem row_succ (n : ℕ) (hn : n + 1 < 504) (h6 : (n + 1) % 7 ≠ 0) (r : Fin 1024) : rowAt (n + 1) hn r = rowAt n (by omega) r :=
  Fin.ext (by show (n + 1) / 7 * 1024 + r.val = n / 7 * 1024 + r.val; omega)

theorem exp_succ (n : ℕ) (hn : n + 1 < 504) (h6 : (n + 1) % 7 ≠ 0) : eF m hR (n + 1) hn = eF m hR n (by omega) :=
  Fin.ext (congrArg (fun i => (tbl m 0 i : BitVec 32).toNat) (cell_succ n hn h6))

/-- The conditions the body branches on at a point, from the point's number and its tile's word. -/
theorem c1_at (n : ℕ) (hn : n < 504) (h : n < (cfgM m hO).N) (h0 : n % 7 = 0) (hu : UsedAt m n hn) :
    (grid0.coords ⟨n, h⟩ 1).val = 0 ∧ Used (tvw (tbl m) (grid0.coords ⟨n, h⟩)) :=
  ⟨(coord1 ⟨n, h⟩).trans h0, by rw [tvw_coord m n hn h]; exact hu⟩

theorem c2_at (n : ℕ) (hn : n < 504) (h : n < (cfgM m hO).N) : Used (tvw (tbl m) (grid0.coords ⟨n, h⟩)) ↔ UsedAt m n hn := by
  rw [tvw_coord m n hn h]

/-- A used tile's first point. -/
theorem first_used (n : ℕ) (hn : n < 504) (h : n < (cfgM m hO).N) (h0 : n % 7 = 0) (hu : UsedAt m n hn) :
    (outsAt0 m hO hH c n h).2.1 = k0_pay2 (b0 m hO c n h)
    ∧ (outsAt0 m hO hH c n h).2.2 = k0_pay3 (k0_pay2 (b0 m hO c n h)) (b1 m hO c n h) (b2 m hO c n h) (k0_pay1 (F := Ideal)) (b3 m hO c n h) := by
  have e := outsAt0_A m hO hH c ⟨n, h⟩ h0 ((c1_iff m _).mpr (c1_at m hO n hn h h0 hu)) ((c2_iff m _).mpr ((c2_at m hO n hn h).mpr hu)) (by show ¬n % 7 = 6; omega)
  rw [sA0, sA1] at e
  exact ⟨congrArg (fun p => p.2.1) e, congrArg (fun p => p.2.2) e⟩

/-- An unused tile's first point. -/
theorem first_unused (n : ℕ) (hn : n < 504) (h : n < (cfgM m hO).N) (h0 : n % 7 = 0) (hz : n ≠ 0) (hu : ¬UsedAt m n hn) :
    (outsAt0 m hO hH c n h).2.2 = k0_pay1 (F := Ideal) := by
  have e := outsAt0_D m hO hH c ⟨n, h⟩ h0 (fun q => hu ((c2_at m hO n hn h).mp ((c1_iff m _).mp q).2)) (fun q => hu ((c2_at m hO n hn h).mp ((c2_iff m _).mp q)))
    (by show ¬n % 7 = 6; omega) (by show ¬n % 504 = 0; omega)
  rw [sD1] at e
  exact congrArg (fun p => p.2.2) e

/-- A used tile's later points. -/
theorem mid_used (n : ℕ) (hn : n + 1 < 504) (h : n + 1 < (cfgM m hO).N) (h0 : (n + 1) % 7 ≠ 0) (h6 : (n + 1) % 7 ≠ 6) (hu : UsedAt m (n + 1) hn) :
    (outsAt0 m hO hH c (n + 1) h).2.1 = (outsAt0 m hO hH c n (Nat.lt_of_succ_lt h)).2.1
    ∧ (outsAt0 m hO hH c (n + 1) h).2.2 = k0_pay3 (outsAt0 m hO hH c n (Nat.lt_of_succ_lt h)).2.1 (b1 m hO c (n + 1) h) (b2 m hO c (n + 1) h)
        (outsAt0 m hO hH c n (Nat.lt_of_succ_lt h)).2.2 (b3 m hO c (n + 1) h) := by
  have e := outsAt0_G m hO hH c ⟨n + 1, h⟩ h0 (fun q => h0 ((coord1 ⟨n + 1, h⟩).symm.trans ((c1_iff m _).mp q).1)) ((c2_iff m _).mpr ((c2_at m hO _ hn h).mpr hu)) h6
  rw [sG1] at e
  exact ⟨congrArg (fun p => p.2.1) e, congrArg (fun p => p.2.2) e⟩

/-- An unused tile's later points. -/
theorem mid_unused (n : ℕ) (hn : n + 1 < 504) (h : n + 1 < (cfgM m hO).N) (h0 : (n + 1) % 7 ≠ 0) (h6 : (n + 1) % 7 ≠ 6) (hu : ¬UsedAt m (n + 1) hn) :
    (outsAt0 m hO hH c (n + 1) h).2.2 = (outsAt0 m hO hH c n (Nat.lt_of_succ_lt h)).2.2 := by
  have e := outsAt0_H m hO hH c ⟨n + 1, h⟩ h0 (fun q => hu ((c2_at m hO _ hn h).mp ((c1_iff m _).mp q).2)) (fun q => hu ((c2_at m hO _ hn h).mp ((c2_iff m _).mp q))) h6
  exact congrArg (fun p => p.2.2) e

/-- A tile's last point. -/
theorem last_used (n : ℕ) (hn : n + 1 < 504) (h : n + 1 < (cfgM m hO).N) (h6 : (n + 1) % 7 = 6) (hu : UsedAt m (n + 1) hn) :
    (outsAt0 m hO hH c (n + 1) h).1 = k0_pay3 (outsAt0 m hO hH c n (Nat.lt_of_succ_lt h)).2.1 (b1 m hO c (n + 1) h) (b2 m hO c (n + 1) h)
        (outsAt0 m hO hH c n (Nat.lt_of_succ_lt h)).2.2 (b3 m hO c (n + 1) h) := by
  have h0 : (n + 1) % 7 ≠ 0 := by omega
  have e := outsAt0_K m hO hH c ⟨n + 1, h⟩ h0 (fun q => h0 ((coord1 ⟨n + 1, h⟩).symm.trans ((c1_iff m _).mp q).1)) ((c2_iff m _).mpr ((c2_at m hO _ hn h).mpr hu)) h6
  rw [oK] at e
  exact congrArg (fun p => p.1) e

theorem last_unused (n : ℕ) (hn : n + 1 < 504) (h : n + 1 < (cfgM m hO).N) (h6 : (n + 1) % 7 = 6) (hu : ¬UsedAt m (n + 1) hn) :
    (outsAt0 m hO hH c (n + 1) h).1 = (outsAt0 m hO hH c n (Nat.lt_of_succ_lt h)).2.2 := by
  have h0 : (n + 1) % 7 ≠ 0 := by omega
  have e := outsAt0_L m hO hH c ⟨n + 1, h⟩ h0 (fun q => hu ((c2_at m hO _ hn h).mp ((c1_iff m _).mp q).2)) (fun q => hu ((c2_at m hO _ hn h).mp ((c2_iff m _).mp q))) h6
  rw [oL] at e
  exact congrArg (fun p => p.1) e

theorem part_succ (n : ℕ) (hn : n + 1 < 504) (h6 : (n + 1) % 7 ≠ 0) (r col : Fin 1024) (j : ℕ) :
    part m hR c (n + 1) hn r col j = part m hR c n (by omega) r col j := by
  unfold part
  rw [row_succ n hn h6 r, exp_succ m hR n hn h6]

theorem step_part (n : ℕ) (hn : n < 504) (h : n < (cfgM m hO).N) (hu : UsedAt m n hn)
    (a : Vec Ideal S1024x1024 .bf16) (d : Vec Ideal S1024x1024 .f32)
    (ha : ∀ r k, a (ix2 r k) = m ((c : Thread nD τ).loc main_arg0) (ix2 (rowAt n hn r) k)) (r col : Fin 1024) :
    k0_pay3 (F := Ideal) a (b1 m hO c n h) (b2 m hO c n h) d (b3 m hO c n h) (ix2 r col) = d (ix2 r col) + part m hR c n hn r col (n % 7) :=
  step_apply m hO c n hn h hu (exp_lt m hR n hn) a d ha r col

/-- What a used tile carries: its rows, and the sum over the column tiles so far. -/
theorem carry_used (n : ℕ) (hn : n < 504) (h : n < (cfgM m hO).N) (h6 : n % 7 ≠ 6) (hu : UsedAt m n hn) :
    (∀ r k, (outsAt0 m hO hH c n h).2.1 (ix2 r k) = m ((c : Thread nD τ).loc main_arg0) (ix2 (rowAt n hn r) k))
    ∧ ∀ r col, (outsAt0 m hO hH c n h).2.2 (ix2 r col) = ∑ j ∈ Finset.range (n % 7 + 1), part m hR c n hn r col j := by
  induction n with
  | zero =>
    obtain ⟨e1, e2⟩ := first_used m hO hH c 0 hn h rfl hu
    have ha : ∀ r k, k0_pay2 (b0 m hO c 0 h) (ix2 r k) = m ((c : Thread nD τ).loc main_arg0) (ix2 (rowAt 0 hn r) k) :=
      fun r k => (pay2_apply _ _).trans (iblk0 m hO c 0 hn h hu r k)
    refine ⟨fun r k => (congrFun e1 _).trans (ha r k), fun r col => (congrFun e2 _).trans ((step_part m hO hR c 0 hn h hu _ _ ha r col).trans ?_)⟩
    rw [pay1_apply, zero_add]
    exact (Finset.sum_range_one (fun j => part m hR c 0 hn r col j)).symm
  | succ n ih =>
    by_cases h0 : (n + 1) % 7 = 0
    · obtain ⟨e1, e2⟩ := first_used m hO hH c (n + 1) hn h h0 hu
      have ha : ∀ r k, k0_pay2 (b0 m hO c (n + 1) h) (ix2 r k) = m ((c : Thread nD τ).loc main_arg0) (ix2 (rowAt (n + 1) hn r) k) :=
        fun r k => (pay2_apply _ _).trans (iblk0 m hO c (n + 1) hn h hu r k)
      refine ⟨fun r k => (congrFun e1 _).trans (ha r k), fun r col => (congrFun e2 _).trans ((step_part m hO hR c (n + 1) hn h hu _ _ ha r col).trans ?_)⟩
      rw [pay1_apply, zero_add, h0]
      exact (Finset.sum_range_one (fun j => part m hR c (n + 1) hn r col j)).symm
    · obtain ⟨e1, e2⟩ := mid_used m hO hH c n hn h h0 h6 hu
      obtain ⟨i1, i2⟩ := ih (by omega) (Nat.lt_of_succ_lt h) (by omega) ((used_succ m n hn h0).mp hu)
      have ha : ∀ r k, (outsAt0 m hO hH c n (Nat.lt_of_succ_lt h)).2.1 (ix2 r k) = m ((c : Thread nD τ).loc main_arg0) (ix2 (rowAt (n + 1) hn r) k) :=
        fun r k => (i1 r k).trans (by rw [row_succ n hn h0 r])
      refine ⟨fun r k => (congrFun e1 _).trans (ha r k), fun r col => (congrFun e2 _).trans ((step_part m hO hR c (n + 1) hn h hu _ _ ha r col).trans ?_)⟩
      have hm : n % 7 + 1 = (n + 1) % 7 := by omega
      rw [Finset.sum_range_succ, i2 r col, hm]
      exact congrArg (fun z : EReal => z + part m hR c (n + 1) hn r col ((n + 1) % 7))
        (Finset.sum_congr rfl fun j _ => (part_succ m hR c n hn h0 r col j).symm)

include hR in
theorem zero_used (hn : 0 < 504) : UsedAt m 0 hn := by
  have h : 0 < grid0.N := lt_of_lt_of_eq hn N_0.symm
  have := hR.2 (grid0.coords ⟨0, h⟩) ((coord0 ⟨0, h⟩).trans (Nat.zero_div 7))
  rwa [tvw_coord m 0 hn h] at this

include hR in
/-- An unused tile carries zero. -/
theorem carry_unused (n : ℕ) (hn : n < 504) (h : n < (cfgM m hO).N) (h6 : n % 7 ≠ 6) (hu : ¬UsedAt m n hn) (y : S1024x1024.Idx) :
    (outsAt0 m hO hH c n h).2.2 y = 0 := by
  induction n with
  | zero => exact absurd (zero_used m hR hn) hu
  | succ n ih =>
    by_cases h0 : (n + 1) % 7 = 0
    · exact (congrFun (first_unused m hO hH c (n + 1) hn h h0 (by omega) hu) y).trans (pay1_apply y)
    · exact (congrFun (mid_unused m hO hH c n hn h h0 h6 hu) y).trans
        (ih (by omega) (Nat.lt_of_succ_lt h) (by omega) (fun q => hu ((used_succ m n hn h0).mpr q)))

open Classical in
/-- What a tile's last point writes: its rows through its expert if it is used, else zero. -/
theorem last_apply (n : ℕ) (hn : n < 504) (h : n < (cfgM m hO).N) (h6 : n % 7 = 6) (r col : Fin 1024) :
    (outsAt0 m hO hH c n h).1 (ix2 r col) = if UsedAt m n hn then
      expert (m ((c : Thread nD τ).loc main_arg0)) (m ((c : Thread nD τ).loc main_arg3)) (m ((c : Thread nD τ).loc main_arg4)) (rowAt n hn r) (eF m hR n hn) col else 0 := by
  obtain _ | n := n
  · omega
  have h0 : (n + 1) % 7 ≠ 0 := by omega
  by_cases hu : UsedAt m (n + 1) hn
  · rw [if_pos hu]
    obtain ⟨i1, i2⟩ := carry_used m hO hH hR c n (by omega) (Nat.lt_of_succ_lt h) (by omega) ((used_succ m n hn h0).mp hu)
    have ha : ∀ r k, (outsAt0 m hO hH c n (Nat.lt_of_succ_lt h)).2.1 (ix2 r k) = m ((c : Thread nD τ).loc main_arg0) (ix2 (rowAt (n + 1) hn r) k) :=
      fun r k => (i1 r k).trans (by rw [row_succ n hn h0 r])
    refine (congrFun (last_used m hO hH c n hn h h6 hu) _).trans ((step_part m hO hR c (n + 1) hn h hu _ _ ha r col).trans ?_)
    have hm : n % 7 + 1 = 6 := by omega
    rw [i2 r col, hm, h6]
    refine Eq.trans ?_ (sum_tiles _ 7).symm
    refine Eq.trans ?_ (Finset.sum_range_succ _ 6).symm
    exact congrArg (fun z : EReal => z + part m hR c (n + 1) hn r col 6)
      (Finset.sum_congr rfl fun j _ => (part_succ m hR c n hn h0 r col j).symm)
  · rw [if_neg hu]
    exact (congrFun (last_unused m hO hH c n hn h h6 hu) _).trans
      (carry_unused m hO hH hR c n (by omega) (Nat.lt_of_succ_lt h) (by omega) (fun q => hu ((used_succ m n hn h0).mpr q)) _)

end Moe
-- ==== Proof.MoeRef.lean ====
/- The expert reference, read entry by entry: each expert's contribution, the weight each row gives each expert, and the row's
   result: its tile's expert applied to it, or zero if its tile is unused. -/
module

public import proofs.«01_k».proof.Proof.MoeAcc
public import proofs.«01_k».proof.Proof.Gen.Reference2Ideal.Read

@[expose] public section

set_option maxRecDepth 16384

noncomputable section

namespace Moe

open Cert.Reference2Ideal Cert.Reference2Ideal.Read Cert.Reference2Ideal.Gen Idealize.ShloMosaic Idealize.ShloMosaic.TcCoe
open Hgrn (siluM)

/-- The activation with its argument's negation written as such. -/
theorem silu_neg (x : EReal) : x * Ideal.div 1 (1 + Ideal.exp (-x)) = siluM x := (Hgrn.siluM_eq x).symm

/-- A row through an expert, column by column. -/
theorem expert_fin (x0 : Vec Ideal S73728x1024 .f32) (x3 : Vec Ideal S8x1024x7168 .f32) (x4 : Vec Ideal S8x3584x1024 .f32)
    (n : Fin 73728) (e : Fin 8) (col : Fin 1024) : expert x0 x3 x4 n e col
      = ∑ q : Fin 3584, siluM (up x0 x3 n e ⟨q.val, by omega⟩) * up x0 x3 n e ⟨3584 + q.val, by omega⟩ * x4 (ix3 e q col) := by
  unfold expert
  rw [Finset.sum_range]
  refine Finset.sum_congr rfl fun q _ => ?_
  unfold term
  rw [dif_pos q.isLt]
  congr 3
  exact Fin.ext (Nat.add_comm _ _)

theorem v11_apply (y : S73728x1024.Idx) : val_main_v11 (F := Ideal) y = 0 := by
  pointwise [val_main_v11, val_main_cst_0]

theorem up_0 (x0 : Vec Ideal S73728x1024 .f32) (x3 : Vec Ideal S8x1024x7168 .f32) (y : S73728x7168.Idx) :
    val_main_v14 (F := Ideal) x0 x3 y = up x0 x3 (y 0) 0 (y 1) := by
  pointwise [val_main_v14, val_main_v13, val_main_v12]
  rfl

theorem gate_0 (x0 : Vec Ideal S73728x1024 .f32) (x3 : Vec Ideal S8x1024x7168 .f32) (y : S73728x3584.Idx) :
    val_main_v19 (F := Ideal) x0 x3 y = siluM (up x0 x3 (y 0) 0 ⟨(y 1).val, (y 1).isLt.trans (by decide)⟩)
      * up x0 x3 (y 0) 0 ⟨3584 + (y 1).val, Nat.add_lt_add_left (y 1).isLt 3584⟩ := by
  pointwise [val_main_v19, val_main_v18, val_main_v15, val_main_v16, val_main_call2_v0, val_main_call2_v1, val_main_call2_v2,
    val_main_call2_v3, val_main_call2_v4, val_main_call2_v5, val_main_call2_cst, val_main_call2_cst_0, up_0]
  rw [silu_neg]

theorem add_0 (x0 : Vec Ideal S73728x1024 .f32) (x1 x2 : Vec Ideal S72 .i32) (x3 : Vec Ideal S8x1024x7168 .f32)
    (x4 : Vec Ideal S8x3584x1024 .f32) (y : S73728x1024.Idx) : val_main_v25 (F := Ideal) x0 x1 x2 x3 x4 y
      = val_main_v11 (F := Ideal) y + val_main_v10 (F := Ideal) x1 x2 (ix2 (y 0) 0) * expert x0 x3 x4 (y 0) 0 (y 1) := by
  pointwise [val_main_v25, val_main_v24, val_main_v23, val_main_v22, val_main_v20, val_main_v21, val_main_v17, gate_0, expert_fin]

theorem up_1 (x0 : Vec Ideal S73728x1024 .f32) (x3 : Vec Ideal S8x1024x7168 .f32) (y : S73728x7168.Idx) :
    val_main_v28 (F := Ideal) x0 x3 y = up x0 x3 (y 0) 1 (y 1) := by
  pointwise [val_main_v28, val_main_v27, val_main_v26]
  rfl

theorem gate_1 (x0 : Vec Ideal S73728x1024 .f32) (x3 : Vec Ideal S8x1024x7168 .f32) (y : S73728x3584.Idx) :
    val_main_v33 (F := Ideal) x0 x3 y = siluM (up x0 x3 (y 0) 1 ⟨(y 1).val, (y 1).isLt.trans (by decide)⟩)
      * up x0 x3 (y 0) 1 ⟨3584 + (y 1).val, Nat.add_lt_add_left (y 1).isLt 3584⟩ := by
  pointwise [val_main_v33, val_main_v32, val_main_v29, val_main_v30, val_main_call3_v0, val_main_call3_v1, val_main_call3_v2,
    val_main_call3_v3, val_main_call3_v4, val_main_call3_v5, val_main_call3_cst, val_main_call3_cst_0, up_1]
  rw [silu_neg]

theorem add_1 (x0 : Vec Ideal S73728x1024 .f32) (x1 x2 : Vec Ideal S72 .i32) (x3 : Vec Ideal S8x1024x7168 .f32)
    (x4 : Vec Ideal S8x3584x1024 .f32) (y : S73728x1024.Idx) : val_main_v39 (F := Ideal) x0 x1 x2 x3 x4 y
      = val_main_v25 (F := Ideal) x0 x1 x2 x3 x4 y + val_main_v10 (F := Ideal) x1 x2 (ix2 (y 0) 1) * expert x0 x3 x4 (y 0) 1 (y 1) := by
  pointwise [val_main_v39, val_main_v38, val_main_v37, val_main_v36, val_main_v34, val_main_v35, val_main_v31, gate_1, expert_fin]

theorem up_2 (x0 : Vec Ideal S73728x1024 .f32) (x3 : Vec Ideal S8x1024x7168 .f32) (y : S73728x7168.Idx) :
    val_main_v42 (F := Ideal) x0 x3 y = up x0 x3 (y 0) 2 (y 1) := by
  pointwise [val_main_v42, val_main_v41, val_main_v40]
  rfl

theorem gate_2 (x0 : Vec Ideal S73728x1024 .f32) (x3 : Vec Ideal S8x1024x7168 .f32) (y : S73728x3584.Idx) :
    val_main_v47 (F := Ideal) x0 x3 y = siluM (up x0 x3 (y 0) 2 ⟨(y 1).val, (y 1).isLt.trans (by decide)⟩)
      * up x0 x3 (y 0) 2 ⟨3584 + (y 1).val, Nat.add_lt_add_left (y 1).isLt 3584⟩ := by
  pointwise [val_main_v47, val_main_v46, val_main_v43, val_main_v44, val_main_call4_v0, val_main_call4_v1, val_main_call4_v2,
    val_main_call4_v3, val_main_call4_v4, val_main_call4_v5, val_main_call4_cst, val_main_call4_cst_0, up_2]
  rw [silu_neg]

theorem add_2 (x0 : Vec Ideal S73728x1024 .f32) (x1 x2 : Vec Ideal S72 .i32) (x3 : Vec Ideal S8x1024x7168 .f32)
    (x4 : Vec Ideal S8x3584x1024 .f32) (y : S73728x1024.Idx) : val_main_v53 (F := Ideal) x0 x1 x2 x3 x4 y
      = val_main_v39 (F := Ideal) x0 x1 x2 x3 x4 y + val_main_v10 (F := Ideal) x1 x2 (ix2 (y 0) 2) * expert x0 x3 x4 (y 0) 2 (y 1) := by
  pointwise [val_main_v53, val_main_v52, val_main_v51, val_main_v50, val_main_v48, val_main_v49, val_main_v45, gate_2, expert_fin]

theorem up_3 (x0 : Vec Ideal S73728x1024 .f32) (x3 : Vec Ideal S8x1024x7168 .f32) (y : S73728x7168.Idx) :
    val_main_v56 (F := Ideal) x0 x3 y = up x0 x3 (y 0) 3 (y 1) := by
  pointwise [val_main_v56, val_main_v55, val_main_v54]
  rfl

theorem gate_3 (x0 : Vec Ideal S73728x1024 .f32) (x3 : Vec Ideal S8x1024x7168 .f32) (y : S73728x3584.Idx) :
    val_main_v61 (F := Ideal) x0 x3 y = siluM (up x0 x3 (y 0) 3 ⟨(y 1).val, (y 1).isLt.trans (by decide)⟩)
      * up x0 x3 (y 0) 3 ⟨3584 + (y 1).val, Nat.add_lt_add_left (y 1).isLt 3584⟩ := by
  pointwise [val_main_v61, val_main_v60, val_main_v57, val_main_v58, val_main_call5_v0, val_main_call5_v1, val_main_call5_v2,
    val_main_call5_v3, val_main_call5_v4, val_main_call5_v5, val_main_call5_cst, val_main_call5_cst_0, up_3]
  rw [silu_neg]

theorem add_3 (x0 : Vec Ideal S73728x1024 .f32) (x1 x2 : Vec Ideal S72 .i32) (x3 : Vec Ideal S8x1024x7168 .f32)
    (x4 : Vec Ideal S8x3584x1024 .f32) (y : S73728x1024.Idx) : val_main_v67 (F := Ideal) x0 x1 x2 x3 x4 y
      = val_main_v53 (F := Ideal) x0 x1 x2 x3 x4 y + val_main_v10 (F := Ideal) x1 x2 (ix2 (y 0) 3) * expert x0 x3 x4 (y 0) 3 (y 1) := by
  pointwise [val_main_v67, val_main_v66, val_main_v65, val_main_v64, val_main_v62, val_main_v63, val_main_v59, gate_3, expert_fin]

theorem up_4 (x0 : Vec Ideal S73728x1024 .f32) (x3 : Vec Ideal S8x1024x7168 .f32) (y : S73728x7168.Idx) :
    val_main_v70 (F := Ideal) x0 x3 y = up x0 x3 (y 0) 4 (y 1) := by
  pointwise [val_main_v70, val_main_v69, val_main_v68]
  rfl

theorem gate_4 (x0 : Vec Ideal S73728x1024 .f32) (x3 : Vec Ideal S8x1024x7168 .f32) (y : S73728x3584.Idx) :
    val_main_v75 (F := Ideal) x0 x3 y = siluM (up x0 x3 (y 0) 4 ⟨(y 1).val, (y 1).isLt.trans (by decide)⟩)
      * up x0 x3 (y 0) 4 ⟨3584 + (y 1).val, Nat.add_lt_add_left (y 1).isLt 3584⟩ := by
  pointwise [val_main_v75, val_main_v74, val_main_v71, val_main_v72, val_main_call6_v0, val_main_call6_v1, val_main_call6_v2,
    val_main_call6_v3, val_main_call6_v4, val_main_call6_v5, val_main_call6_cst, val_main_call6_cst_0, up_4]
  rw [silu_neg]

theorem add_4 (x0 : Vec Ideal S73728x1024 .f32) (x1 x2 : Vec Ideal S72 .i32) (x3 : Vec Ideal S8x1024x7168 .f32)
    (x4 : Vec Ideal S8x3584x1024 .f32) (y : S73728x1024.Idx) : val_main_v81 (F := Ideal) x0 x1 x2 x3 x4 y
      = val_main_v67 (F := Ideal) x0 x1 x2 x3 x4 y + val_main_v10 (F := Ideal) x1 x2 (ix2 (y 0) 4) * expert x0 x3 x4 (y 0) 4 (y 1) := by
  pointwise [val_main_v81, val_main_v80, val_main_v79, val_main_v78, val_main_v76, val_main_v77, val_main_v73, gate_4, expert_fin]

theorem up_5 (x0 : Vec Ideal S73728x1024 .f32) (x3 : Vec Ideal S8x1024x7168 .f32) (y : S73728x7168.Idx) :
    val_main_v84 (F := Ideal) x0 x3 y = up x0 x3 (y 0) 5 (y 1) := by
  pointwise [val_main_v84, val_main_v83, val_main_v82]
  rfl

theorem gate_5 (x0 : Vec Ideal S73728x1024 .f32) (x3 : Vec Ideal S8x1024x7168 .f32) (y : S73728x3584.Idx) :
    val_main_v89 (F := Ideal) x0 x3 y = siluM (up x0 x3 (y 0) 5 ⟨(y 1).val, (y 1).isLt.trans (by decide)⟩)
      * up x0 x3 (y 0) 5 ⟨3584 + (y 1).val, Nat.add_lt_add_left (y 1).isLt 3584⟩ := by
  pointwise [val_main_v89, val_main_v88, val_main_v85, val_main_v86, val_main_call7_v0, val_main_call7_v1, val_main_call7_v2,
    val_main_call7_v3, val_main_call7_v4, val_main_call7_v5, val_main_call7_cst, val_main_call7_cst_0, up_5]
  rw [silu_neg]

theorem add_5 (x0 : Vec Ideal S73728x1024 .f32) (x1 x2 : Vec Ideal S72 .i32) (x3 : Vec Ideal S8x1024x7168 .f32)
    (x4 : Vec Ideal S8x3584x1024 .f32) (y : S73728x1024.Idx) : val_main_v95 (F := Ideal) x0 x1 x2 x3 x4 y
      = val_main_v81 (F := Ideal) x0 x1 x2 x3 x4 y + val_main_v10 (F := Ideal) x1 x2 (ix2 (y 0) 5) * expert x0 x3 x4 (y 0) 5 (y 1) := by
  pointwise [val_main_v95, val_main_v94, val_main_v93, val_main_v92, val_main_v90, val_main_v91, val_main_v87, gate_5, expert_fin]

theorem up_6 (x0 : Vec Ideal S73728x1024 .f32) (x3 : Vec Ideal S8x1024x7168 .f32) (y : S73728x7168.Idx) :
    val_main_v98 (F := Ideal) x0 x3 y = up x0 x3 (y 0) 6 (y 1) := by
  pointwise [val_main_v98, val_main_v97, val_main_v96]
  rfl

theorem gate_6 (x0 : Vec Ideal S73728x1024 .f32) (x3 : Vec Ideal S8x1024x7168 .f32) (y : S73728x3584.Idx) :
    val_main_v103 (F := Ideal) x0 x3 y = siluM (up x0 x3 (y 0) 6 ⟨(y 1).val, (y 1).isLt.trans (by decide)⟩)
      * up x0 x3 (y 0) 6 ⟨3584 + (y 1).val, Nat.add_lt_add_left (y 1).isLt 3584⟩ := by
  pointwise [val_main_v103, val_main_v102, val_main_v99, val_main_v100, val_main_call8_v0, val_main_call8_v1, val_main_call8_v2,
    val_main_call8_v3, val_main_call8_v4, val_main_call8_v5, val_main_call8_cst, val_main_call8_cst_0, up_6]
  rw [silu_neg]

theorem add_6 (x0 : Vec Ideal S73728x1024 .f32) (x1 x2 : Vec Ideal S72 .i32) (x3 : Vec Ideal S8x1024x7168 .f32)
    (x4 : Vec Ideal S8x3584x1024 .f32) (y : S73728x1024.Idx) : val_main_v109 (F := Ideal) x0 x1 x2 x3 x4 y
      = val_main_v95 (F := Ideal) x0 x1 x2 x3 x4 y + val_main_v10 (F := Ideal) x1 x2 (ix2 (y 0) 6) * expert x0 x3 x4 (y 0) 6 (y 1) := by
  pointwise [val_main_v109, val_main_v108, val_main_v107, val_main_v106, val_main_v104, val_main_v105, val_main_v101, gate_6, expert_fin]

theorem up_7 (x0 : Vec Ideal S73728x1024 .f32) (x3 : Vec Ideal S8x1024x7168 .f32) (y : S73728x7168.Idx) :
    val_main_v112 (F := Ideal) x0 x3 y = up x0 x3 (y 0) 7 (y 1) := by
  pointwise [val_main_v112, val_main_v111, val_main_v110]
  rfl

theorem gate_7 (x0 : Vec Ideal S73728x1024 .f32) (x3 : Vec Ideal S8x1024x7168 .f32) (y : S73728x3584.Idx) :
    val_main_v117 (F := Ideal) x0 x3 y = siluM (up x0 x3 (y 0) 7 ⟨(y 1).val, (y 1).isLt.trans (by decide)⟩)
      * up x0 x3 (y 0) 7 ⟨3584 + (y 1).val, Nat.add_lt_add_left (y 1).isLt 3584⟩ := by
  pointwise [val_main_v117, val_main_v116, val_main_v113, val_main_v114, val_main_call9_v0, val_main_call9_v1, val_main_call9_v2,
    val_main_call9_v3, val_main_call9_v4, val_main_call9_v5, val_main_call9_cst, val_main_call9_cst_0, up_7]
  rw [silu_neg]

theorem add_7 (x0 : Vec Ideal S73728x1024 .f32) (x1 x2 : Vec Ideal S72 .i32) (x3 : Vec Ideal S8x1024x7168 .f32)
    (x4 : Vec Ideal S8x3584x1024 .f32) (y : S73728x1024.Idx) : val_main_v123 (F := Ideal) x0 x1 x2 x3 x4 y
      = val_main_v109 (F := Ideal) x0 x1 x2 x3 x4 y + val_main_v10 (F := Ideal) x1 x2 (ix2 (y 0) 7) * expert x0 x3 x4 (y 0) 7 (y 1) := by
  pointwise [val_main_v123, val_main_v122, val_main_v121, val_main_v120, val_main_v118, val_main_v119, val_main_v115, gate_7, expert_fin]

/-- The weight a row gives an expert: one at its tile's expert if the tile is used, else zero. -/
theorem weight (x1 x2 : Vec Ideal S72 .i32) (n : Fin 73728) (k : Fin 8) (e : Fin 8)
    (he : (x1 (ix1 ⟨n.val / 1024, Nat.div_lt_of_lt_mul n.isLt⟩) : BitVec 32).toNat = e.val)
    (hu : Used (x2 (ix1 ⟨n.val / 1024, Nat.div_lt_of_lt_mul n.isLt⟩))) :
    val_main_v10 (F := Ideal) x1 x2 (ix2 n k) = if k = e then 1 else 0 := by
  pointwise [val_main_v0, val_main_v1, val_main_v2, val_main_call0_v0, val_main_call0_v1, val_main_call0_v2, val_main_call0_v3, val_main_call0_v4,
    val_main_v3, val_main_v4, val_main_v5, val_main_v6, val_main_v7, val_main_v8, val_main_v9, val_main_v10, val_main_c, val_main_cst, val_main_call1_v0,
    val_main_call1_v1, val_main_call1_v2]
  have hu' : IntOp.cmpi CmpIPredicate.sgt (x2 (ix1 ⟨n.val / 1024, Nat.div_lt_of_lt_mul n.isLt⟩)) 0#32 = 1#1 := hu
  rw [hu']
  have h1 : k.val < 8 := k.isLt
  have h2 := e.isLt
  by_cases hc : k = e
  · rw [if_pos hc]
    have : x1 (ix1 ⟨n.val / 1024, Nat.div_lt_of_lt_mul n.isLt⟩) = BitVec.ofNat 32 k.val :=
      BitVec.eq_of_toNat_eq (by rw [he, hc, BitVec.toNat_ofNat, Nat.mod_eq_of_lt (by omega)])
    rw [this]
    simp [Scalar.select, IntOp.cmpi, FloatOps.uitofp]
  · rw [if_neg hc]
    have : x1 (ix1 ⟨n.val / 1024, Nat.div_lt_of_lt_mul n.isLt⟩) ≠ BitVec.ofNat 32 k.val := fun q => hc (Fin.ext (by
      have := congrArg BitVec.toNat q
      rw [he, BitVec.toNat_ofNat, Nat.mod_eq_of_lt (by omega)] at this
      exact this.symm))
    simp [Scalar.select, IntOp.cmpi, FloatOps.uitofp, this]

theorem weight_unused (x1 x2 : Vec Ideal S72 .i32) (n : Fin 73728) (k : Fin 8)
    (hu : ¬Used (x2 (ix1 ⟨n.val / 1024, Nat.div_lt_of_lt_mul n.isLt⟩))) :
    val_main_v10 (F := Ideal) x1 x2 (ix2 n k) = 0 := by
  pointwise [val_main_v0, val_main_v1, val_main_v2, val_main_call0_v0, val_main_call0_v1, val_main_call0_v2, val_main_call0_v3, val_main_call0_v4,
    val_main_v3, val_main_v4, val_main_v5, val_main_v6, val_main_v7, val_main_v8, val_main_v9, val_main_v10, val_main_c, val_main_cst, val_main_call1_v0,
    val_main_call1_v1, val_main_call1_v2]
  have hu' : ¬IntOp.cmpi CmpIPredicate.sgt (x2 (ix1 ⟨n.val / 1024, Nat.div_lt_of_lt_mul n.isLt⟩)) 0#32 = 1#1 := hu
  exact (if_neg hu').trans Ideal.ofBits_zero_f32

/-- The reference's result, row by row. -/
theorem result_used (x0 : Vec Ideal S73728x1024 .f32) (x1 x2 : Vec Ideal S72 .i32) (x3 : Vec Ideal S8x1024x7168 .f32)
    (x4 : Vec Ideal S8x3584x1024 .f32) (y : S73728x1024.Idx) (e : Fin 8)
    (he : (x1 (ix1 ⟨(y 0).val / 1024, Nat.div_lt_of_lt_mul (y 0).isLt⟩) : BitVec 32).toNat = e.val)
    (hu : Used (x2 (ix1 ⟨(y 0).val / 1024, Nat.div_lt_of_lt_mul (y 0).isLt⟩))) :
    val_main_v123 (F := Ideal) x0 x1 x2 x3 x4 y = expert x0 x3 x4 (y 0) e (y 1) := by
  have w : ∀ k : Fin 8, val_main_v10 (F := Ideal) x1 x2 (ix2 (y 0) k) = if k = e then 1 else 0 := fun k => weight x1 x2 (y 0) k e he hu
  rw [add_7, add_6, add_5, add_4, add_3, add_2, add_1, add_0, v11_apply]
  simp only [w]
  fin_cases e <;> simp

theorem result_unused (x0 : Vec Ideal S73728x1024 .f32) (x1 x2 : Vec Ideal S72 .i32) (x3 : Vec Ideal S8x1024x7168 .f32)
    (x4 : Vec Ideal S8x3584x1024 .f32) (y : S73728x1024.Idx)
    (hu : ¬Used (x2 (ix1 ⟨(y 0).val / 1024, Nat.div_lt_of_lt_mul (y 0).isLt⟩))) :
    val_main_v123 (F := Ideal) x0 x1 x2 x3 x4 y = 0 := by
  have w : ∀ k : Fin 8, val_main_v10 (F := Ideal) x1 x2 (ix2 (y 0) k) = 0 := fun k => weight_unused x1 x2 (y 0) k hu
  rw [add_7, add_6, add_5, add_4, add_3, add_2, add_1, add_0, v11_apply]
  simp only [w, zero_mul, add_zero]

end Moe
-- ==== Proof.MoeRun.lean ====
/- The expert kernel's result array is the reference's, and its run. -/
module

public import proofs.«01_k».proof.Proof.MoeRef
public import Idealize.ShloMosaic.Lib.Pipeline.Covers
public import Idealize.ShloMosaic.Lib.Pipeline.ValueKit

@[expose] public section

set_option maxRecDepth 16384

noncomputable section

namespace Moe

open Cert.Kernel2Ideal Cert.Kernel2Ideal.Gen Idealize.ShloMosaic Idealize.ShloMosaic.TcCoe

variable (m : (ℓ : Loc nD τ sig) → Buf (Elt Ideal) ℓ) (ρ : Dev nD → PrngReg) (hR : Routed (tbl m)) (c : Dev nD)

/-- The reference's result of the kernel's arguments. -/
abbrev result (c : Dev nD) : Vec Ideal S73728x1024 .f32 :=
  Cert.Reference2Ideal.Read.val_main_v123 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

include hR in
/-- What a tile's last point writes is the reference's rows of that tile. -/
theorem last_result (hO : Ok m) (hH : Hyps m hO) (n : ℕ) (hn : n < 504) (h : n < (cfgM m hO).N) (h6 : n % 7 = 6) (r col : Fin 1024) :
    (outsAt0 m hO hH c n h).1 (ix2 r col) = result m c (ix2 (rowAt n hn r) col) := by
  have hc : c = 0 := Subsingleton.elim _ _
  subst hc
  have hcell : (ix1 ⟨(rowAt n hn r).val / 1024, Nat.div_lt_of_lt_mul (rowAt n hn r).isLt⟩ : S72.Idx) = cell (n / 7) (by omega) :=
    funext fun a => Fin.ext (by
      match a with
      | ⟨0, _⟩ => show (n / 7 * 1024 + r.val) / 1024 = n / 7; omega)
  refine (last_apply m hO hH hR 0 n hn h h6 r col).trans ?_
  by_cases hu : UsedAt m n hn
  · rw [if_pos hu]
    refine (result_used _ _ _ _ _ (ix2 (rowAt n hn r) col) (eF m hR n hn) ?_ ?_).symm
    · exact congrArg (fun i => (tbl m 0 i : BitVec 32).toNat) hcell
    · have e : tbl m 1 (ix1 ⟨(rowAt n hn r).val / 1024, Nat.div_lt_of_lt_mul (rowAt n hn r).isLt⟩) = tbl m 1 (cell (n / 7) (by omega)) := congrArg (tbl m 1) hcell
      exact (congrArg Used e).mpr hu
  · rw [if_neg hu]
    refine (result_unused _ _ _ _ _ (ix2 (rowAt n hn r) col) ?_).symm
    have e : tbl m 1 (ix1 ⟨(rowAt n hn r).val / 1024, Nat.div_lt_of_lt_mul (rowAt n hn r).isLt⟩) = tbl m 1 (cell (n / 7) (by omega)) := congrArg (tbl m 1) hcell
    exact fun q => hu ((congrArg Used e).mp q)

/-- Every tile of the result array is some grid point's. -/
theorem covers4 (hO : Ok m) : ((cfgM m hO).win 4).Covers :=
  ((cfgM m hO).win 4).covers_of_indexMap_surj rfl
    (fun a => match a with
      | ⟨0, _⟩ => (by decide : 0 < 1024)
      | ⟨1, _⟩ => (by decide : 0 < 1024))
    fun β => by
      have l0 : (β ⟨0, Nat.zero_lt_two⟩).val < 72 :=
        lt_of_lt_of_eq (show (β ⟨0, Nat.zero_lt_two⟩).val < (73728 + 1024 - 1) / 1024 from (β ⟨0, Nat.zero_lt_two⟩).isLt) (by decide)
      have l1 : (β ⟨1, Nat.one_lt_two⟩).val < 1 :=
        lt_of_lt_of_eq (show (β ⟨1, Nat.one_lt_two⟩).val < (1024 + 1024 - 1) / 1024 from (β ⟨1, Nat.one_lt_two⟩).isLt) (by decide)
      refine ⟨(fun a => match a with
        | ⟨0, _⟩ => ⟨(β ⟨0, Nat.zero_lt_two⟩).val, l0⟩
        | ⟨1, _⟩ => ⟨0, (by decide : 0 < 7)⟩ : grid0.Coords), fun a => ?_⟩
      have e := tr4 (fun a => match a with
        | ⟨0, _⟩ => ⟨(β ⟨0, Nat.zero_lt_two⟩).val, l0⟩
        | ⟨1, _⟩ => ⟨0, (by decide : 0 < 7)⟩ : grid0.Coords)
      match a with
      | ⟨0, _⟩ => exact congrFun e 0
      | ⟨1, _⟩ => exact (congrFun e 1).trans (by show 0 = (β ⟨1, Nat.one_lt_two⟩).val; omega)

include hR in
/-- The result array ends holding the reference's result. -/
theorem arr4 (hO : Ok m) (hH : Hyps m hO) : (dats m hO hH 0 c).arrAt 4 (cfgM m hO).N = result m c := by
  refine (dats m hO hH 0 c).arrAt_eq_of_covers 4 _ (covers4 m hO) fun t hf (y : S1024x1024.Idx) => ?_
  have h6 : t.val % 7 = 6 := (flush0_4 _ t).mp hf
  have hn : t.val < 504 := lt_of_lt_of_eq t.isLt N_0
  have e := tr4 (grid0.coords t)
  rw [coord0 t] at e
  have hy : (((cfgM m hO).win 4).blk t).view.emb y = (ix2 (rowAt t.val hn (y 0)) (y 1) : S73728x1024.Idx) := by
    funext a
    apply Fin.ext
    match a with
    | ⟨0, _⟩ => show cc0_transform_4 (grid0.coords t) 0 * 1024 + 1 * (y 0).val = t.val / 7 * 1024 + (y 0).val; rw [e]; show t.val / 7 * 1024 + 1 * (y 0).val = _; omega
    | ⟨1, _⟩ => show cc0_transform_4 (grid0.coords t) 1 * 1024 + 1 * (y 1).val = (y 1).val; rw [e]; show 0 * 1024 + 1 * (y 1).val = _; omega
  refine Eq.trans ?_ (congrArg (result m c) hy).symm
  refine Eq.trans ?_ (last_result m hR c hO hH t.val hn t.isLt h6 (y 0) (y 1))
  refine (congrFun (after0_4 m hO hH c t) y).trans (congrArg (outsAt0 m hO hH c t.val t.isLt).1 ?_)
  funext a
  match a with
  | ⟨0, _⟩ => rfl
  | ⟨1, _⟩ => rfl

include hR in
/-- The kernel leaves its result as the reference's, and the arguments as they were. -/
theorem run (hO : Ok m) (hH : Hyps m hO) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 4).trans (arr4 m hR c hO hH), h.2 c⟩) (θ_run_and (run_main m ρ hO hH) (unchanged m ρ hO hH))

end Moe
-- ==== Proof.Moe.lean ====
/- The expert kernel's claims: that it runs and leaves its arguments, its value against the reference, and the reference's run. -/
module

public import proofs.«01_k».proof.Proof.MoeTables2
public import proofs.«01_k».proof.Proof.Gen.Reference2Ideal.Run
public import proofs.«01_k».proof.Defs

@[expose] public section

set_option maxRecDepth 16384

noncomputable section

namespace Moe

open Idealize.ShloMosaic Idealize.ShloMosaic.TcCoe

/-- The kernel as written runs under the precondition. -/
theorem quiescent : Cert.quiescent_Kernel2 (hKernel2 := Cert.Kernel2.Gen.facts) (hPre_routed := Cert.Pre_routed.Gen.facts) := fun m ρ hpre =>
  have h := Moe2.routed_of_pre m hpre
  Cert.Kernel2.Gen.frame m ρ (Moe2.ok_of (Cert.Kernel2.Gen.tbl m) h) (Moe2.hyps_of m _ h)

theorem quiescent_ideal : Cert.quiescent_Kernel2Ideal (hKernel2Ideal := Cert.Kernel2Ideal.Gen.facts) (hPre_routed := Cert.Pre_routed.Gen.facts) := fun m ρ hpre =>
  have h := routed_of_pre m hpre
  Cert.Kernel2Ideal.Gen.frame m ρ (ok_of (Cert.Kernel2Ideal.Gen.tbl m) h) (hyps_of m _ h)

theorem algebraic : Cert.algebraic_Kernel2Ideal_Reference2Ideal (hKernel2Ideal := Cert.Kernel2Ideal.Gen.facts)
    (hReference2Ideal := Cert.Reference2Ideal.Gen.facts) (hPre_routed := Cert.Pre_routed.Gen.facts) := fun m ρ m' ρ' hpre hag =>
  have hR := routed_of_pre m hpre
  ⟨fun c => result m c, run m ρ hR (ok_of (Cert.Kernel2Ideal.Gen.tbl m) hR) (hyps_of m _ hR),
   (θ_run _ _ _).mono (fun r h c => by
      obtain ⟨h1, h2⟩ := h c
      obtain ⟨a0, a1, a2, a3, a4⟩ := hag c
      refine ⟨h1.trans ((Cert.Reference2Ideal.Read.val_main_v123_eq _).trans ?_), h2⟩
      exact congr (congr (congr (congr (congrArg (Cert.Reference2Ideal.Read.val_main_v123 (F := Ideal)) a0) a1) a2) a3) a4)
    (Cert.Reference2Ideal.Value.run m' ρ')⟩

/-- The reference runs, leaves its arguments, and declares no semaphore. -/
theorem frame_ref (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, sem_eq_zero_of_no_sems (by decide) r.2⟩) (Cert.Reference2Ideal.Value.run m ρ)

end Moe

end
-- ==== Proof.Norm5.lean ====
/- The final norm's call over the prompt: its result array is the reference's, and its claims. -/
module

public import proofs.«01_k».proof.Proof.Moe
public import proofs.«01_k».proof.Proof.Gen.Kernel5Ideal.Value
public import proofs.«01_k».proof.Proof.Gen.Reference5Ideal.Read
public import proofs.«01_k».proof.Proof.Gen.Reference5Ideal.Run

@[expose] public section

set_option maxRecDepth 16384

noncomputable section

namespace Norm5

open Cert.Kernel5Ideal Cert.Kernel5Ideal.Gen Idealize.ShloMosaic Idealize.ShloMosaic.TcCoe

/-- A row divided by the root of its mean square, times a weight. -/
def normed (row : Fin 1024 → EReal) (g : EReal) (k : Fin 1024) : EReal :=
  row k * Ideal.rsqrt (Ideal.div (∑ x, row x * row x) (Ideal.ofBits FTy.f32 0x44800000#32) + Ideal.ofBits FTy.f32 0x358637BD#32) * g

theorem pay_apply (P0 : Vec Ideal S512x1024 .f32) (P1 : Vec Ideal S1x1024 .f32) (r : Fin 512) (k : Fin 1024) :
    k0_pay1 (F := Ideal) P0 P1 (ix2 r k) = normed (fun x => P0 (ix2 r x)) (P1 (ix2 0 k)) k := by
  unfold k0_pay1
  pointwise
  rfl

open Cert.Reference5Ideal.Read in
theorem ref_apply (P0 : Vec Ideal S32768x1024 .f32) (P1 : Vec Ideal S1024 .f32) (r : Fin 32768) (k : Fin 1024) :
    val_main_v12 (F := Ideal) P0 P1 (ix2 r k) = normed (fun x => P0 (ix2 r x)) (P1 (ix1 k)) k := by
  pointwise [val_main_v0, val_main_v1, val_main_v2, val_main_v3, val_main_v4, val_main_v5, val_main_v6, val_main_v7, val_main_v8, val_main_v9,
    val_main_v10, val_main_v11, val_main_v12, val_main_cst, val_main_cst_0, val_main_cst_1]
  rfl

variable (m : (ℓ : Loc nD τ sig) → Buf (Elt Ideal) ℓ) (ρ : Dev nD → PrngReg) (c : Dev nD)

theorem v0_apply (k : Fin 1024) : (V m c main_v0 : Vec Ideal S1x1024 .f32) (ix2 0 k) = (m ((c : Thread nD τ).loc main_arg1) : Vec Ideal S1024 .f32) (ix1 k) := by
  have e : V m c main_v0 = shapeCast S1x1024 (m ((c : Thread nD τ).loc main_arg1)) shapeCasts_S1024_S1x1024 := by
    show StableHlo.after hostOps0 _ (Proc.devRef .tc main_v0) = _
    after_results
    rfl
  rw [e]
  pointwise []

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- A row of a grid point's block among the array's rows. -/
def rowAt (t : Fin cfg0.N) (r : Fin 512) : Fin 32768 := ⟨t.val * 512 + r.val, by have := lt_of_lt_of_eq t.isLt (show cfg0.N = 64 from N_0); omega⟩

def b0 (t : Fin cfg0.N) : Vec Ideal S512x1024 .f32 := iblk m c 0 t
def b1 (t : Fin cfg0.N) : Vec Ideal S1x1024 .f32 := iblk m c 1 t

theorem b0_apply (t : Fin cfg0.N) (r : Fin 512) (k : Fin 1024) :
    b0 m c t (ix2 r k) = (m ((c : Thread nD τ).loc main_arg0) : Vec Ideal S32768x1024 .f32) (ix2 (rowAt t r) k) := by
  show V m c main_arg0 (((cfg0.win 0).blk t).view.emb (ix2 r k : S512x1024.Idx)) = _
  rw [V_main_arg0]
  congr 1
  funext a
  match a with
  | ⟨0, _⟩ => exact Fin.ext (by blk_simp [e0]; rfl)
  | ⟨1, _⟩ => exact Fin.ext (by blk_simp [e0])

theorem b1_apply (t : Fin cfg0.N) (k : Fin 1024) :
    b1 m c t (ix2 0 k) = (m ((c : Thread nD τ).loc main_arg1) : Vec Ideal S1024 .f32) (ix1 k) := by
  show V m c main_v0 (((cfg0.win 1).blk t).view.emb (ix2 0 k : S1x1024.Idx)) = _
  refine Eq.trans ?_ (v0_apply m c k)
  congr 1
  funext a
  match a with
  | ⟨0, _⟩ => exact Subsingleton.elim (α := Fin 1) _ _
  | ⟨1, _⟩ => exact Fin.ext (by blk_simp [e1])

/-- The reference's result of the kernel's arguments. -/
abbrev result (c : Dev nD) : Vec Ideal S32768x1024 .f32 :=
  Cert.Reference5Ideal.Read.val_main_v12 (F := Ideal) (m ((c : Thread nD τ).loc main_arg0)) (m ((c : Thread nD τ).loc main_arg1))

theorem out_apply (t : Fin cfg0.N) (r : Fin 512) (k : Fin 1024) : out0_2 (b0 m c t) (b1 m c t) (ix2 r k) = result m c (ix2 (rowAt t r) k) := by
  unfold out0_2 r0_0 r0_1
  rw [View.canon_cons_unit_zero (S := S512x1024) Moe.hz2]
  simp only [View.ld_unit_zero (S := S512x1024) Moe.hz2, View.ld_unit_zero (S := S1x1024) Moe.hz2]
  rw [pay_apply, b1_apply]
  simp only [b0_apply]
  exact (ref_apply _ _ _ _).symm

theorem arr2 : (dats m 0 c).arrAt 2 cfg0.N = result m c := by
  refine (dats m 0 c).arrAt_eq_of_covers 2 _ (by decide +kernel) fun t hf (y : S512x1024.Idx) => ?_
  refine (congrFun (Cert.Kernel5Ideal.Value.flushed2 m c t) y).trans ?_
  have hy : y = (ix2 (y 0) (y 1) : S512x1024.Idx) := by
    funext a
    match a with
    | ⟨0, _⟩ => rfl
    | ⟨1, _⟩ => rfl
  refine (congrArg (out0_2 (b0 m c t) (b1 m c t)) hy).trans ((out_apply m c t (y 0) (y 1)).trans ?_)
  show result m c _ = result m c (((cfg0.win 2).blk t).view.emb y)
  congr 1
  funext a
  match a with
  | ⟨0, _⟩ => exact Fin.ext (by blk_simp [e2]; rfl)
  | ⟨1, _⟩ => exact Fin.ext (by blk_simp [e2]; rfl)

theorem algebraic : Cert.algebraic_Kernel5Ideal_Reference5Ideal (hKernel5Ideal := Cert.Kernel5Ideal.Gen.facts)
    (hReference5Ideal := Cert.Reference5Ideal.Gen.facts) := fun m ρ m' ρ' _ hag =>
  ⟨fun c => result m c,
   (θ_run _ _ _).mono (fun _ h c => ⟨(h c).1.trans (arr2 m c), (h c).2⟩) (Cert.Kernel5Ideal.Value.run_blocks m ρ),
   (θ_run _ _ _).mono (fun r h c => by
      obtain ⟨h1, h2⟩ := h c
      obtain ⟨a0, a1⟩ := hag c
      exact ⟨h1.trans ((Cert.Reference5Ideal.Read.val_main_v12_eq _ _).trans (congr (congrArg (Cert.Reference5Ideal.Read.val_main_v12 (F := Ideal)) a0) a1)), h2⟩)
    (Cert.Reference5Ideal.Value.run m' ρ')⟩

theorem quiescent_ref : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

end Norm5

end
-- ==== Proof.Norm6.lean ====
/- The final norm's call over the sample: its result array is the reference's, and its claims. -/
module

public import proofs.«01_k».proof.Proof.Norm5
public import proofs.«01_k».proof.Proof.Gen.Kernel6Ideal.Value
public import proofs.«01_k».proof.Proof.Gen.Reference6Ideal.Read
public import proofs.«01_k».proof.Proof.Gen.Reference6Ideal.Run

@[expose] public section

set_option maxRecDepth 16384

noncomputable section

namespace Norm6

open Cert.Kernel6Ideal Cert.Kernel6Ideal.Gen Idealize.ShloMosaic Idealize.ShloMosaic.TcCoe

theorem pay_apply (P0 : Vec Ideal S256x1024 .f32) (P1 : Vec Ideal S1x1024 .f32) (r : Fin 256) (k : Fin 1024) :
    k0_pay1 (F := Ideal) P0 P1 (ix2 r k) = Norm5.normed (fun x => P0 (ix2 r x)) (P1 (ix2 0 k)) k := by
  unfold k0_pay1
  pointwise
  rfl

open Cert.Reference6Ideal.Read in
theorem ref_apply (P0 : Vec Ideal S256x1024 .f32) (P1 : Vec Ideal S1024 .f32) (r : Fin 256) (k : Fin 1024) :
    val_main_v12 (F := Ideal) P0 P1 (ix2 r k) = Norm5.normed (fun x => P0 (ix2 r x)) (P1 (ix1 k)) k := by
  pointwise [val_main_v0, val_main_v1, val_main_v2, val_main_v3, val_main_v4, val_main_v5, val_main_v6, val_main_v7, val_main_v8, val_main_v9,
    val_main_v10, val_main_v11, val_main_v12, val_main_cst, val_main_cst_0, val_main_cst_1]
  rfl

variable (m : (ℓ : Loc nD τ sig) → Buf (Elt Ideal) ℓ) (ρ : Dev nD → PrngReg) (c : Dev nD)

theorem v0_apply (k : Fin 1024) : (V m c main_v0 : Vec Ideal S1x1024 .f32) (ix2 0 k) = (m ((c : Thread nD τ).loc main_arg1) : Vec Ideal S1024 .f32) (ix1 k) := by
  have e : V m c main_v0 = shapeCast S1x1024 (m ((c : Thread nD τ).loc main_arg1)) shapeCasts_S1024_S1x1024 := by
    show StableHlo.after hostOps0 _ (Proc.devRef .tc main_v0) = _
    after_results
    rfl
  rw [e]
  pointwise []

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- A row of a grid point's block among the array's rows. -/
def rowAt (t : Fin cfg0.N) (r : Fin 256) : Fin 256 := ⟨t.val * 256 + r.val, by have := lt_of_lt_of_eq t.isLt (show cfg0.N = 1 from N_0); omega⟩

def b0 (t : Fin cfg0.N) : Vec Ideal S256x1024 .f32 := iblk m c 0 t
def b1 (t : Fin cfg0.N) : Vec Ideal S1x1024 .f32 := iblk m c 1 t

theorem b0_apply (t : Fin cfg0.N) (r : Fin 256) (k : Fin 1024) :
    b0 m c t (ix2 r k) = (m ((c : Thread nD τ).loc main_arg0) : Vec Ideal S256x1024 .f32) (ix2 (rowAt t r) k) := by
  show V m c main_arg0 (((cfg0.win 0).blk t).view.emb (ix2 r k : S256x1024.Idx)) = _
  rw [V_main_arg0]
  congr 1
  funext a
  match a with
  | ⟨0, _⟩ => exact Fin.ext (by blk_simp [e0]; show r.val = t.val * 256 + r.val; have := lt_of_lt_of_eq t.isLt (show cfg0.N = 1 from N_0); omega)
  | ⟨1, _⟩ => exact Fin.ext (by blk_simp [e0])

theorem b1_apply (t : Fin cfg0.N) (k : Fin 1024) :
    b1 m c t (ix2 0 k) = (m ((c : Thread nD τ).loc main_arg1) : Vec Ideal S1024 .f32) (ix1 k) := by
  show V m c main_v0 (((cfg0.win 1).blk t).view.emb (ix2 0 k : S1x1024.Idx)) = _
  refine Eq.trans ?_ (v0_apply m c k)
  congr 1
  funext a
  match a with
  | ⟨0, _⟩ => exact Subsingleton.elim (α := Fin 1) _ _
  | ⟨1, _⟩ => exact Fin.ext (by blk_simp [e1])

/-- The reference's result of the kernel's arguments. -/
abbrev result (c : Dev nD) : Vec Ideal S256x1024 .f32 :=
  Cert.Reference6Ideal.Read.val_main_v12 (F := Ideal) (m ((c : Thread nD τ).loc main_arg0)) (m ((c : Thread nD τ).loc main_arg1))

theorem out_apply (t : Fin cfg0.N) (r : Fin 256) (k : Fin 1024) : out0_2 (b0 m c t) (b1 m c t) (ix2 r k) = result m c (ix2 (rowAt t r) k) := by
  unfold out0_2 r0_0 r0_1
  rw [View.canon_cons_unit_zero (S := S256x1024) Moe.hz2]
  simp only [View.ld_unit_zero (S := S256x1024) Moe.hz2, View.ld_unit_zero (S := S1x1024) Moe.hz2]
  rw [pay_apply, b1_apply]
  simp only [b0_apply]
  exact (ref_apply _ _ _ _).symm

theorem arr2 : (dats m 0 c).arrAt 2 cfg0.N = result m c := by
  refine (dats m 0 c).arrAt_eq_of_covers 2 _ (by decide +kernel) fun t hf (y : S256x1024.Idx) => ?_
  refine (congrFun (Cert.Kernel6Ideal.Value.flushed2 m c t) y).trans ?_
  have hy : y = (ix2 (y 0) (y 1) : S256x1024.Idx) := by
    funext a
    match a with
    | ⟨0, _⟩ => rfl
    | ⟨1, _⟩ => rfl
  refine (congrArg (out0_2 (b0 m c t) (b1 m c t)) hy).trans ((out_apply m c t (y 0) (y 1)).trans ?_)
  show result m c _ = result m c (((cfg0.win 2).blk t).view.emb y)
  congr 1
  funext a
  match a with
  | ⟨0, _⟩ => exact Fin.ext (by blk_simp [e2]; show t.val * 256 + (y 0).val = (y 0).val; have := lt_of_lt_of_eq t.isLt (show cfg0.N = 1 from N_0); omega)
  | ⟨1, _⟩ => exact Fin.ext (by blk_simp [e2]; rfl)

theorem algebraic : Cert.algebraic_Kernel6Ideal_Reference6Ideal (hKernel6Ideal := Cert.Kernel6Ideal.Gen.facts)
    (hReference6Ideal := Cert.Reference6Ideal.Gen.facts) := fun m ρ m' ρ' _ hag =>
  ⟨fun c => result m c,
   (θ_run _ _ _).mono (fun _ h c => ⟨(h c).1.trans (arr2 m c), (h c).2⟩) (Cert.Kernel6Ideal.Value.run_blocks m ρ),
   (θ_run _ _ _).mono (fun r h c => by
      obtain ⟨h1, h2⟩ := h c
      obtain ⟨a0, a1⟩ := hag c
      exact ⟨h1.trans ((Cert.Reference6Ideal.Read.val_main_v12_eq _ _).trans (congr (congrArg (Cert.Reference6Ideal.Read.val_main_v12 (F := Ideal)) a0) a1)), h2⟩)
    (Cert.Reference6Ideal.Value.run m' ρ')⟩

theorem quiescent_ref : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

end Norm6

end
-- ==== Proof.Proj3Ref.lean ====
/- The attention layer's input projection over the prompt: the reference's entries. -/
module

public import proofs.«01_k».proof.Proof.Norm6
public import proofs.«01_k».proof.Proof.Gen.Reference3Ideal.Read

@[expose] public section

set_option maxRecDepth 16384

noncomputable section

namespace Proj3

open Idealize.ShloMosaic Idealize.ShloMosaic.TcCoe

/-- A normed row scaled and shifted. -/
def modded (row : Fin 1024 → EReal) (g sh sc : EReal) (k : Fin 1024) : EReal := Norm5.normed row g k * (1 + sc) + sh

/-- A column of the projection's weight matrix. -/
def col {n : ℕ} (o : ℕ) (ho : o + n ≤ 3656) (k : Fin n) : Fin 3656 := ⟨o + k.val, by omega⟩

theorem none_zero : (FloatOps.sitofp (F := Ideal) FTy.f32 0#32 : EReal) = 0 := by
  simp [FloatOps.sitofp]

/-! ## The reference's entries -/

section
open Cert.Reference3Ideal Cert.Reference3Ideal.Read
variable (x0 : Vec Ideal S8x4096x1024 .f32) (x1 : Vec Ideal S1024 .f32) (x2 x3 : Vec Ideal S8x1024 .f32) (x4 : Vec Ideal S1024x3656 .f32)

def grp (r : Fin 32768) : Fin 8 := ⟨r.val / 4096, Nat.div_lt_of_lt_mul r.isLt⟩
def pos (r : Fin 32768) : Fin 4096 := ⟨r.val % 4096, Nat.mod_lt _ (by decide)⟩

theorem mod_apply (b : Fin 8) (s : Fin 4096) (k : Fin 1024) :
    val_main_v20 (F := Ideal) x0 x1 x2 x3 (ix3 b s k) = modded (fun x => x0 (ix3 b s x)) (x1 (ix1 k)) (x2 (ix2 b k)) (x3 (ix2 b k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

theorem ref_q (r : Fin 32768) (k : Fin 1024) :
    val_main_v30 (F := Ideal) x0 x1 x2 x3 x4 (ix2 r k)
      = ∑ x, val_main_v20 (F := Ideal) x0 x1 x2 x3 (ix3 (grp r) (pos r) x) * x4 (ix2 x (col 0 (by decide) k)) := by
  pointwise [val_main_v21, val_main_v22, val_main_v30]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_k (r : Fin 32768) (k : Fin 1024) :
    val_main_v31 (F := Ideal) x0 x1 x2 x3 x4 (ix2 r k)
      = ∑ x, val_main_v20 (F := Ideal) x0 x1 x2 x3 (ix3 (grp r) (pos r) x) * x4 (ix2 x (col 1024 (by decide) k)) := by
  pointwise [val_main_v21, val_main_v23, val_main_v31]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_v (r : Fin 32768) (k : Fin 1024) :
    val_main_v32 (F := Ideal) x0 x1 x2 x3 x4 (ix2 r k)
      = ∑ x, val_main_v20 (F := Ideal) x0 x1 x2 x3 (ix3 (grp r) (pos r) x) * x4 (ix2 x (col 2048 (by decide) k)) := by
  pointwise [val_main_v21, val_main_v24, val_main_v32]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_qi (r : Fin 32768) (k : Fin 512) :
    val_main_v33 (F := Ideal) x0 x1 x2 x3 x4 (ix2 r k)
      = ∑ x, val_main_v20 (F := Ideal) x0 x1 x2 x3 (ix3 (grp r) (pos r) x) * x4 (ix2 x (col 3072 (by decide) k)) := by
  pointwise [val_main_v21, val_main_v25, val_main_v33]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_kw (r : Fin 32768) (k : Fin 128) :
    val_main_v34 (F := Ideal) x0 x1 x2 x3 x4 (ix2 r k)
      = if h : k.val < 72 then ∑ x, val_main_v20 (F := Ideal) x0 x1 x2 x3 (ix3 (grp r) (pos r) x) * x4 (ix2 x (col 3584 (by decide) (⟨k.val, h⟩ : Fin 72))) else 0 := by
  pointwise [val_main_v21, val_main_v26, val_main_v27, val_main_v28, val_main_v29, val_main_v34, val_main_c, val_main_call0_v0]
  by_cases h : k.val < 72
  · refine (dif_pos (show _ ∧ _ ∧ _ from ⟨(grp r).isLt, (pos r).isLt, h⟩)).trans (Eq.trans ?_ (dif_pos h).symm)
    by_cases h1 : k.val < 64
    · exact (dif_pos h1).trans (Finset.sum_congr rfl fun x _ => rfl)
    · refine (dif_neg h1).trans ?_
      exact Finset.sum_congr rfl fun x _ => congrArg (fun z => val_main_v20 (F := Ideal) x0 x1 x2 x3 (ix3 (grp r) (pos r) x) * x4 (ix2 x z)) (Fin.ext (by first | rfl | (simp only [col]; omega) | simp [col]))
  · refine (dif_neg (fun q => h q.2.2)).trans (none_zero.trans ?_)
    exact (dif_neg (c := k.val < 72) (e := fun _ => (0 : EReal)) h).symm

theorem ref_ki (r : Fin 32768) (k : Fin 64) :
    val_main_v35 (F := Ideal) x0 x1 x2 x3 x4 (ix2 r k)
      = ∑ x, val_main_v20 (F := Ideal) x0 x1 x2 x3 (ix3 (grp r) (pos r) x) * x4 (ix2 x (col 3584 (by decide) k)) := by
  pointwise [val_main_v21, val_main_v26, val_main_v35]
  exact Finset.sum_congr rfl fun x _ => congrArg (fun z => val_main_v20 (F := Ideal) x0 x1 x2 x3 (ix3 (grp r) (pos r) x) * x4 (ix2 x z)) (Fin.ext (by first | rfl | (simp only [col]; omega) | simp [col]))
end

end Proj3

end
-- ==== Proof.Proj3.lean ====
/- The attention layer's input projection over the prompt: its six result arrays are the reference's, and its claims. -/
module

public import proofs.«01_k».proof.Proof.Proj3Ref
public import proofs.«01_k».proof.Proof.Gen.Kernel3Ideal.Value
public import proofs.«01_k».proof.Proof.Gen.Reference3Ideal.Run

@[expose] public section

set_option maxRecDepth 16384

noncomputable section

namespace Proj3

open Cert.Kernel3Ideal Cert.Kernel3Ideal.Gen Idealize.ShloMosaic Idealize.ShloMosaic.TcCoe

/-! ## The kernel's stores -/

theorem pay5_apply (P0 : Vec Ideal S512x1024 .f32) (P1 : Vec Ideal S1x1024 .f32) (P2 P3 : Vec Ideal S1x1x1024 .f32) (r : Fin 512) (k : Fin 1024) :
    k0_pay5 (F := Ideal) P0 P1 P2 P3 (ix2 r k) = modded (fun x => P0 (ix2 r x)) (P1 (ix2 0 k)) (P2 (ix3 0 0 k)) (P3 (ix3 0 0 k)) k := by
  unfold k0_pay5
  pointwise
  rfl

section
variable (x0 : Vec Ideal S512x1024 .f32) (x1 : Vec Ideal S1x1024 .f32) (x2 x3 : Vec Ideal S1x1x1024 .f32) (x4 x5 x6 : Vec Ideal S1024x1024 .bf16)
  (x7 : Vec Ideal S1024x512 .bf16) (x8 : Vec Ideal S1024x128 .bf16) (x9 : Vec Ideal S1024x64 .bf16)

theorem pay8_eq : k0_pay8 (F := Ideal) x0 x1 x2 x3 x4 x5 x6 x7 x8 x9 = k0_pay5 x0 x1 x2 x3 := by
  unfold k0_pay8 r0_0 r0_1 r0_2
  simp only [View.ld_unit_zero (S := S512x1024) Moe.hz2, View.ld_unit_zero (S := S1x1024) Moe.hz2, View.ld_unit_zero (S := S1x1x1024) Moe.hz3]

theorem out_q (r : Fin 512) (k : Fin 1024) : out0_10 (F := Ideal) x0 x1 x2 x3 x4 x5 x6 x7 x8 x9 (ix2 r k)
    = ∑ x, k0_pay5 (F := Ideal) x0 x1 x2 x3 (ix2 r x) * x4 (ix2 x k) := by
  unfold out0_10 r0_0 r0_1 r0_2 r0_3
  rw [View.canon_cons_unit_zero (S := S512x1024) Moe.hz2]
  simp only [View.ld_unit_zero (S := S1024x1024) Moe.hz2, View.ld_unit_zero (S := S512x1024) Moe.hz2, View.ld_unit_zero (S := S1x1024) Moe.hz2, View.ld_unit_zero (S := S1x1x1024) Moe.hz3]
  unfold k0_pay6
  pointwise

theorem out_k (r : Fin 512) (k : Fin 1024) : out0_11 (F := Ideal) x0 x1 x2 x3 x4 x5 x6 x7 x8 x9 (ix2 r k)
    = ∑ x, k0_pay5 (F := Ideal) x0 x1 x2 x3 (ix2 r x) * x5 (ix2 x k) := by
  unfold out0_11 r0_0 r0_1 r0_2 r0_3
  rw [View.canon_cons_unit_zero (S := S512x1024) Moe.hz2]
  simp only [View.ld_unit_zero (S := S1024x1024) Moe.hz2, View.ld_unit_zero (S := S512x1024) Moe.hz2, View.ld_unit_zero (S := S1x1024) Moe.hz2, View.ld_unit_zero (S := S1x1x1024) Moe.hz3]
  unfold k0_pay7
  pointwise

theorem out_v (r : Fin 512) (k : Fin 1024) : out0_12 (F := Ideal) x0 x1 x2 x3 x4 x5 x6 x7 x8 x9 (ix2 r k)
    = ∑ x, k0_pay5 (F := Ideal) x0 x1 x2 x3 (ix2 r x) * x6 (ix2 x k) := by
  unfold out0_12 r0_0 r0_3
  rw [View.canon_cons_unit_zero (S := S512x1024) Moe.hz2]
  simp only [View.ld_unit_zero (S := S1024x1024) Moe.hz2]
  rw [pay8_eq]
  unfold k0_pay1
  pointwise

theorem out_qi (r : Fin 512) (k : Fin 512) : out0_13 (F := Ideal) x0 x1 x2 x3 x4 x5 x6 x7 x8 x9 (ix2 r k)
    = ∑ x, k0_pay5 (F := Ideal) x0 x1 x2 x3 (ix2 r x) * x7 (ix2 x k) := by
  unfold out0_13 r0_4 r0_5
  rw [View.canon_cons_unit_zero (S := S512x512) Moe.hz2]
  simp only [View.ld_unit_zero (S := S1024x512) Moe.hz2]
  rw [pay8_eq]
  unfold k0_pay2
  pointwise

theorem out_kw (r : Fin 512) (k : Fin 128) : out0_14 (F := Ideal) x0 x1 x2 x3 x4 x5 x6 x7 x8 x9 (ix2 r k)
    = ∑ x, k0_pay5 (F := Ideal) x0 x1 x2 x3 (ix2 r x) * x8 (ix2 x k) := by
  unfold out0_14 r0_6 r0_7
  rw [View.canon_cons_unit_zero (S := S512x128) Moe.hz2]
  simp only [View.ld_unit_zero (S := S1024x128) Moe.hz2]
  rw [pay8_eq]
  unfold k0_pay3
  pointwise

theorem out_ki (r : Fin 512) (k : Fin 64) : out0_15 (F := Ideal) x0 x1 x2 x3 x4 x5 x6 x7 x8 x9 (ix2 r k)
    = ∑ x, k0_pay5 (F := Ideal) x0 x1 x2 x3 (ix2 r x) * x9 (ix2 x k) := by
  unfold out0_15 r0_8 r0_9
  rw [View.canon_cons_unit_zero (S := S512x64) Moe.hz2]
  simp only [View.ld_unit_zero (S := S1024x64) Moe.hz2]
  rw [pay8_eq]
  unfold k0_pay4
  pointwise
end

/-! ## The arrays the call reads -/

variable (m : (ℓ : Loc nD τ sig) → Buf (Elt Ideal) ℓ) (ρ : Dev nD → PrngReg) (c : Dev nD)

abbrev A0 : Vec Ideal S8x4096x1024 .f32 := m ((c : Thread nD τ).loc main_arg0)
abbrev A1 : Vec Ideal S1024 .f32 := m ((c : Thread nD τ).loc main_arg1)
abbrev A2 : Vec Ideal S8x1024 .f32 := m ((c : Thread nD τ).loc main_arg2)
abbrev A3 : Vec Ideal S8x1024 .f32 := m ((c : Thread nD τ).loc main_arg3)
abbrev A4 : Vec Ideal S1024x3656 .f32 := m ((c : Thread nD τ).loc main_arg4)

theorem V_x : V m c main_v0 = shapeCast S32768x1024 (A0 m c) shapeCasts_S8x4096x1024_S32768x1024 := by
  unfold V
  simp only [hostOps0, hostOps0_1, hostOps0_2, List.flatten_cons, List.flatten_nil, List.append_nil, List.cons_append, List.nil_append]
  after_results
  rfl

theorem V_sh : V m c main_v1 = shapeCast S8x1x1024 (A2 m c) shapeCasts_S8x1024_S8x1x1024 := by
  unfold V
  simp only [hostOps0, hostOps0_1, hostOps0_2, List.flatten_cons, List.flatten_nil, List.append_nil, List.cons_append, List.nil_append]
  after_results
  rfl

theorem V_sc : V m c main_v2 = shapeCast S8x1x1024 (A3 m c) shapeCasts_S8x1024_S8x1x1024 := by
  unfold V
  simp only [hostOps0, hostOps0_1, hostOps0_2, List.flatten_cons, List.flatten_nil, List.append_nil, List.cons_append, List.nil_append]
  after_results
  rfl

theorem V_g : V m c main_v16 = shapeCast S1x1024 (A1 m c) shapeCasts_S1024_S1x1024 := by
  unfold V
  simp only [hostOps0, hostOps0_1, hostOps0_2, List.flatten_cons, List.flatten_nil, List.append_nil, List.cons_append, List.nil_append]
  after_results
  rfl

theorem x_apply (r : Fin 32768) (k : Fin 1024) : (V m c main_v0 : Vec Ideal S32768x1024 .f32) (ix2 r k) = A0 m c (ix3 (grp r) (pos r) k) := by
  rw [V_x]
  pointwise []
  rfl

theorem sh_apply (b : Fin 8) (k : Fin 1024) : (V m c main_v1 : Vec Ideal S8x1x1024 .f32) (ix3 b 0 k) = A2 m c (ix2 b k) := by
  rw [V_sh]
  pointwise []

theorem sc_apply (b : Fin 8) (k : Fin 1024) : (V m c main_v2 : Vec Ideal S8x1x1024 .f32) (ix3 b 0 k) = A3 m c (ix2 b k) := by
  rw [V_sc]
  pointwise []

theorem g_apply (k : Fin 1024) : (V m c main_v16 : Vec Ideal S1x1024 .f32) (ix2 0 k) = A1 m c (ix1 k) := by
  rw [V_g]
  pointwise []

theorem V_q : V m c main_v10 = truncf (F := Ideal) .bf16 (extractStridedSlice S1024x1024 ![0, 0] (A4 m c) slices_S1024x3656_S1024x1024_0_0) bitsLt_bf16_f32 := by
  unfold V
  simp only [hostOps0, hostOps0_1, hostOps0_2, List.flatten_cons, List.flatten_nil, List.append_nil, List.cons_append, List.nil_append]
  after_results

theorem w_q (x : Fin 1024) (k : Fin 1024) : (V m c main_v10 : Vec Ideal S1024x1024 .bf16) (ix2 x k) = A4 m c (ix2 x (col 0 (by decide) k)) := by
  rw [V_q]
  pointwise
  exact congrArg (fun z => A4 m c (ix2 x z)) (Fin.ext (by first | rfl | (simp only [col]; omega) | simp [col]))

theorem V_k : V m c main_v11 = truncf (F := Ideal) .bf16 (extractStridedSlice S1024x1024 ![0, 1024] (A4 m c) slices_S1024x3656_S1024x1024_0_1024) bitsLt_bf16_f32 := by
  unfold V
  simp only [hostOps0, hostOps0_1, hostOps0_2, List.flatten_cons, List.flatten_nil, List.append_nil, List.cons_append, List.nil_append]
  after_results

theorem w_k (x : Fin 1024) (k : Fin 1024) : (V m c main_v11 : Vec Ideal S1024x1024 .bf16) (ix2 x k) = A4 m c (ix2 x (col 1024 (by decide) k)) := by
  rw [V_k]
  pointwise
  exact congrArg (fun z => A4 m c (ix2 x z)) (Fin.ext (by first | rfl | (simp only [col]; omega) | simp [col]))

theorem V_v : V m c main_v12 = truncf (F := Ideal) .bf16 (extractStridedSlice S1024x1024 ![0, 2048] (A4 m c) slices_S1024x3656_S1024x1024_0_2048) bitsLt_bf16_f32 := by
  unfold V
  simp only [hostOps0, hostOps0_1, hostOps0_2, List.flatten_cons, List.flatten_nil, List.append_nil, List.cons_append, List.nil_append]
  after_results

theorem w_v (x : Fin 1024) (k : Fin 1024) : (V m c main_v12 : Vec Ideal S1024x1024 .bf16) (ix2 x k) = A4 m c (ix2 x (col 2048 (by decide) k)) := by
  rw [V_v]
  pointwise
  exact congrArg (fun z => A4 m c (ix2 x z)) (Fin.ext (by first | rfl | (simp only [col]; omega) | simp [col]))

theorem V_qi : V m c main_v13 = truncf (F := Ideal) .bf16 (extractStridedSlice S1024x512 ![0, 3072] (A4 m c) slices_S1024x3656_S1024x512_0_3072) bitsLt_bf16_f32 := by
  unfold V
  simp only [hostOps0, hostOps0_1, hostOps0_2, List.flatten_cons, List.flatten_nil, List.append_nil, List.cons_append, List.nil_append]
  after_results

theorem w_qi (x : Fin 1024) (k : Fin 512) : (V m c main_v13 : Vec Ideal S1024x512 .bf16) (ix2 x k) = A4 m c (ix2 x (col 3072 (by decide) k)) := by
  rw [V_qi]
  pointwise
  exact congrArg (fun z => A4 m c (ix2 x z)) (Fin.ext (by first | rfl | (simp only [col]; omega) | simp [col]))

theorem V_kw : V m c main_v14 = truncf (F := Ideal) .bf16 (pad S1024x128 ![0, 0] ![0, 56] ![0, 0]
    (extractStridedSlice S1024x72 ![0, 3584] (A4 m c) slices_S1024x3656_S1024x72_0_3584) (sitofp (F := Ideal) .f32 (constantI S_ 32 0#32))
    pads_S1024x72_S1024x128_000_0560 h_S_) bitsLt_bf16_f32 := by
  unfold V
  simp only [hostOps0, hostOps0_1, hostOps0_2, List.flatten_cons, List.flatten_nil, List.append_nil, List.cons_append, List.nil_append]
  after_results
  rfl

theorem w_kw (x : Fin 1024) (k : Fin 128) : (V m c main_v14 : Vec Ideal S1024x128 .bf16) (ix2 x k)
    = (if h : k.val < 72 then A4 m c (ix2 x (col 3584 (by decide) (⟨k.val, h⟩ : Fin 72))) else 0 : EReal) := by
  rw [V_kw]
  pointwise
  by_cases h : k.val < 72
  · rw [dif_pos h, dif_pos h]
    rfl
  · rw [dif_neg h, dif_neg h]
    exact none_zero

theorem V_ki : V m c main_v15 = truncf (F := Ideal) .bf16 (extractStridedSlice S1024x64 ![0, 3584] (A4 m c) slices_S1024x3656_S1024x64_0_3584) bitsLt_bf16_f32 := by
  unfold V
  simp only [hostOps0, hostOps0_1, hostOps0_2, List.flatten_cons, List.flatten_nil, List.append_nil, List.cons_append, List.nil_append]
  after_results

theorem w_ki (x : Fin 1024) (k : Fin 64) : (V m c main_v15 : Vec Ideal S1024x64 .bf16) (ix2 x k) = A4 m c (ix2 x (col 3584 (by decide) k)) := by
  rw [V_ki]
  pointwise
  exact congrArg (fun z => A4 m c (ix2 x z)) (Fin.ext (by first | rfl | (simp only [col]; omega) | simp [col]))

/-! ## The blocks -/

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val / 8, 0, 0] := by decide +kernel
theorem e3 : ∀ t : Fin grid0.N, win0_3.index t = ![t.val / 8, 0, 0] := by decide +kernel
theorem e4 : ∀ t : Fin grid0.N, win0_4.index t = ![0, 0] := by decide +kernel
theorem e5 : ∀ t : Fin grid0.N, win0_5.index t = ![0, 0] := by decide +kernel
theorem e6 : ∀ t : Fin grid0.N, win0_6.index t = ![0, 0] := by decide +kernel
theorem e7 : ∀ t : Fin grid0.N, win0_7.index t = ![0, 0] := by decide +kernel
theorem e8 : ∀ t : Fin grid0.N, win0_8.index t = ![0, 0] := by decide +kernel
theorem e9 : ∀ t : Fin grid0.N, win0_9.index t = ![0, 0] := by decide +kernel
theorem e10 : ∀ t : Fin grid0.N, win0_10.index t = ![t.val, 0] := by decide +kernel
theorem e11 : ∀ t : Fin grid0.N, win0_11.index t = ![t.val, 0] := by decide +kernel
theorem e12 : ∀ t : Fin grid0.N, win0_12.index t = ![t.val, 0] := by decide +kernel
theorem e13 : ∀ t : Fin grid0.N, win0_13.index t = ![t.val, 0] := by decide +kernel
theorem e14 : ∀ t : Fin grid0.N, win0_14.index t = ![t.val, 0] := by decide +kernel
theorem e15 : ∀ t : Fin grid0.N, win0_15.index t = ![t.val, 0] := by decide +kernel

theorem lt64 (t : Fin cfg0.N) : t.val < 64 := lt_of_lt_of_eq t.isLt (show cfg0.N = 64 from N_0)

/-- A row of a grid point's block among the array's rows. -/
def rowAt (t : Fin cfg0.N) (r : Fin 512) : Fin 32768 := ⟨t.val * 512 + r.val, by have := lt64 t; omega⟩

theorem grp_rowAt (t : Fin cfg0.N) (r : Fin 512) : (grp (rowAt t r)).val = t.val / 8 := by
  show (t.val * 512 + r.val) / 4096 = t.val / 8
  omega

def b0 (t : Fin cfg0.N) : Vec Ideal S512x1024 .f32 := iblk m c 0 t
def b1 (t : Fin cfg0.N) : Vec Ideal S1x1024 .f32 := iblk m c 1 t
def b2 (t : Fin cfg0.N) : Vec Ideal S1x1x1024 .f32 := iblk m c 2 t
def b3 (t : Fin cfg0.N) : Vec Ideal S1x1x1024 .f32 := iblk m c 3 t
def b4 (t : Fin cfg0.N) : Vec Ideal S1024x1024 .bf16 := iblk m c 4 t
def b5 (t : Fin cfg0.N) : Vec Ideal S1024x1024 .bf16 := iblk m c 5 t
def b6 (t : Fin cfg0.N) : Vec Ideal S1024x1024 .bf16 := iblk m c 6 t
def b7 (t : Fin cfg0.N) : Vec Ideal S1024x512 .bf16 := iblk m c 7 t
def b8 (t : Fin cfg0.N) : Vec Ideal S1024x128 .bf16 := iblk m c 8 t
def b9 (t : Fin cfg0.N) : Vec Ideal S1024x64 .bf16 := iblk m c 9 t

theorem b0_apply (t : Fin cfg0.N) (r : Fin 512) (k : Fin 1024) : b0 m c t (ix2 r k) = A0 m c (ix3 (grp (rowAt t r)) (pos (rowAt t r)) k) := by
  show V m c main_v0 (((cfg0.win 0).blk t).view.emb (ix2 r k : S512x1024.Idx)) = _
  refine Eq.trans ?_ (x_apply m c (rowAt t r) k)
  congr 1
  funext a
  match a with
  | ⟨0, _⟩ => exact Fin.ext (by blk_simp [e0]; rfl)
  | ⟨1, _⟩ => exact Fin.ext (by blk_simp [e0])

theorem b1_apply (t : Fin cfg0.N) (k : Fin 1024) : b1 m c t (ix2 0 k) = A1 m c (ix1 k) := by
  show V m c main_v16 (((cfg0.win 1).blk t).view.emb (ix2 0 k : S1x1024.Idx)) = _
  refine Eq.trans ?_ (g_apply m c k)
  congr 1
  funext a
  match a with
  | ⟨0, _⟩ => exact Subsingleton.elim (α := Fin 1) _ _
  | ⟨1, _⟩ => exact Fin.ext (by blk_simp [e1])

theorem b2_apply (t : Fin cfg0.N) (r : Fin 512) (k : Fin 1024) : b2 m c t (ix3 0 0 k) = A2 m c (ix2 (grp (rowAt t r)) k) := by
  show V m c main_v1 (((cfg0.win 2).blk t).view.emb (ix3 0 0 k : S1x1x1024.Idx)) = _
  refine Eq.trans ?_ (sh_apply m c (grp (rowAt t r)) k)
  congr 1
  funext a
  match a with
  | ⟨0, _⟩ => exact Fin.ext ((show _ = t.val / 8 by blk_simp [e2]; rfl).trans (grp_rowAt t r).symm)
  | ⟨1, _⟩ => exact Subsingleton.elim (α := Fin 1) _ _
  | ⟨2, _⟩ => exact Fin.ext (by blk_simp [e2])

theorem b3_apply (t : Fin cfg0.N) (r : Fin 512) (k : Fin 1024) : b3 m c t (ix3 0 0 k) = A3 m c (ix2 (grp (rowAt t r)) k) := by
  show V m c main_v2 (((cfg0.win 3).blk t).view.emb (ix3 0 0 k : S1x1x1024.Idx)) = _
  refine Eq.trans ?_ (sc_apply m c (grp (rowAt t r)) k)
  congr 1
  funext a
  match a with
  | ⟨0, _⟩ => exact Fin.ext ((show _ = t.val / 8 by blk_simp [e3]; rfl).trans (grp_rowAt t r).symm)
  | ⟨1, _⟩ => exact Subsingleton.elim (α := Fin 1) _ _
  | ⟨2, _⟩ => exact Fin.ext (by blk_simp [e3])

theorem b4_apply (t : Fin cfg0.N) (x : Fin 1024) (k : Fin 1024) : b4 m c t (ix2 x k) = A4 m c (ix2 x (col 0 (by decide) k)) := by
  show V m c main_v10 (((cfg0.win 4).blk t).view.emb (ix2 x k : S1024x1024.Idx)) = _
  refine Eq.trans ?_ (w_q m c x k)
  congr 1
  funext a
  match a with
  | ⟨0, _⟩ => exact Fin.ext (by blk_simp [e4])
  | ⟨1, _⟩ => exact Fin.ext (by blk_simp [e4])

theorem b5_apply (t : Fin cfg0.N) (x : Fin 1024) (k : Fin 1024) : b5 m c t (ix2 x k) = A4 m c (ix2 x (col 1024 (by decide) k)) := by
  show V m c main_v11 (((cfg0.win 5).blk t).view.emb (ix2 x k : S1024x1024.Idx)) = _
  refine Eq.trans ?_ (w_k m c x k)
  congr 1
  funext a
  match a with
  | ⟨0, _⟩ => exact Fin.ext (by blk_simp [e5])
  | ⟨1, _⟩ => exact Fin.ext (by blk_simp [e5])

theorem b6_apply (t : Fin cfg0.N) (x : Fin 1024) (k : Fin 1024) : b6 m c t (ix2 x k) = A4 m c (ix2 x (col 2048 (by decide) k)) := by
  show V m c main_v12 (((cfg0.win 6).blk t).view.emb (ix2 x k : S1024x1024.Idx)) = _
  refine Eq.trans ?_ (w_v m c x k)
  congr 1
  funext a
  match a with
  | ⟨0, _⟩ => exact Fin.ext (by blk_simp [e6])
  | ⟨1, _⟩ => exact Fin.ext (by blk_simp [e6])

theorem b7_apply (t : Fin cfg0.N) (x : Fin 1024) (k : Fin 512) : b7 m c t (ix2 x k) = A4 m c (ix2 x (col 3072 (by decide) k)) := by
  show V m c main_v13 (((cfg0.win 7).blk t).view.emb (ix2 x k : S1024x512.Idx)) = _
  refine Eq.trans ?_ (w_qi m c x k)
  congr 1
  funext a
  match a with
  | ⟨0, _⟩ => exact Fin.ext (by blk_simp [e7])
  | ⟨1, _⟩ => exact Fin.ext (by blk_simp [e7])

theorem b8_apply (t : Fin cfg0.N) (x : Fin 1024) (k : Fin 128) : b8 m c t (ix2 x k) = (if h : k.val < 72 then A4 m c (ix2 x (col 3584 (by decide) (⟨k.val, h⟩ : Fin 72))) else 0 : EReal) := by
  show V m c main_v14 (((cfg0.win 8).blk t).view.emb (ix2 x k : S1024x128.Idx)) = _
  refine Eq.trans ?_ (w_kw m c x k)
  congr 1
  funext a
  match a with
  | ⟨0, _⟩ => exact Fin.ext (by blk_simp [e8])
  | ⟨1, _⟩ => exact Fin.ext (by blk_simp [e8])

theorem b9_apply (t : Fin cfg0.N) (x : Fin 1024) (k : Fin 64) : b9 m c t (ix2 x k) = A4 m c (ix2 x (col 3584 (by decide) k)) := by
  show V m c main_v15 (((cfg0.win 9).blk t).view.emb (ix2 x k : S1024x64.Idx)) = _
  refine Eq.trans ?_ (w_ki m c x k)
  congr 1
  funext a
  match a with
  | ⟨0, _⟩ => exact Fin.ext (by blk_simp [e9])
  | ⟨1, _⟩ => exact Fin.ext (by blk_simp [e9])

/-- The modulated rows of a grid point are the reference's. -/
theorem h_apply (t : Fin cfg0.N) (r : Fin 512) (k : Fin 1024) : k0_pay5 (F := Ideal) (b0 m c t) (b1 m c t) (b2 m c t) (b3 m c t) (ix2 r k)
    = Cert.Reference3Ideal.Read.val_main_v20 (F := Ideal) (A0 m c) (A1 m c) (A2 m c) (A3 m c) (ix3 (grp (rowAt t r)) (pos (rowAt t r)) k) := by
  rw [pay5_apply, mod_apply, b1_apply, b2_apply m c t r, b3_apply m c t r]
  simp only [b0_apply]

/-! ## The result arrays -/

abbrev R_q : Vec Ideal S32768x1024 .f32 := Cert.Reference3Ideal.Read.val_main_v30 (F := Ideal) (A0 m c) (A1 m c) (A2 m c) (A3 m c) (A4 m c)

theorem at_q (t : Fin cfg0.N) (r : Fin 512) (k : Fin 1024) :
    out0_10 (b0 m c t) (b1 m c t) (b2 m c t) (b3 m c t) (b4 m c t) (b5 m c t) (b6 m c t) (b7 m c t) (b8 m c t) (b9 m c t) (ix2 r k) = R_q m c (ix2 (rowAt t r) k) := by
  rw [out_q]
  simp only [h_apply, b4_apply]
  exact (ref_q _ _ _ _ _ _ _).symm

theorem arr_q : (dats m 0 c).arrAt 10 cfg0.N = R_q m c := by
  refine (dats m 0 c).arrAt_eq_of_covers 10 _ (by decide +kernel) fun t hf (y : S512x1024.Idx) => ?_
  refine (congrFun (Cert.Kernel3Ideal.Value.flushed10 m c t) y).trans ?_
  have hy : y = (ix2 (y 0) (y 1) : S512x1024.Idx) := by
    funext a
    match a with
    | ⟨0, _⟩ => rfl
    | ⟨1, _⟩ => rfl
  refine (congrArg (out0_10 (b0 m c t) (b1 m c t) (b2 m c t) (b3 m c t) (b4 m c t) (b5 m c t) (b6 m c t) (b7 m c t) (b8 m c t) (b9 m c t)) hy).trans
    ((at_q m c t (y 0) (y 1)).trans ?_)
  show R_q m c _ = R_q m c (((cfg0.win 10).blk t).view.emb y)
  congr 1
  funext a
  match a with
  | ⟨0, _⟩ => exact Fin.ext (by blk_simp [e10]; rfl)
  | ⟨1, _⟩ => exact Fin.ext (by blk_simp [e10]; rfl)

abbrev R_k : Vec Ideal S32768x1024 .f32 := Cert.Reference3Ideal.Read.val_main_v31 (F := Ideal) (A0 m c) (A1 m c) (A2 m c) (A3 m c) (A4 m c)

theorem at_k (t : Fin cfg0.N) (r : Fin 512) (k : Fin 1024) :
    out0_11 (b0 m c t) (b1 m c t) (b2 m c t) (b3 m c t) (b4 m c t) (b5 m c t) (b6 m c t) (b7 m c t) (b8 m c t) (b9 m c t) (ix2 r k) = R_k m c (ix2 (rowAt t r) k) := by
  rw [out_k]
  simp only [h_apply, b5_apply]
  exact (ref_k _ _ _ _ _ _ _).symm

theorem arr_k : (dats m 0 c).arrAt 11 cfg0.N = R_k m c := by
  refine (dats m 0 c).arrAt_eq_of_covers 11 _ (by decide +kernel) fun t hf (y : S512x1024.Idx) => ?_
  refine (congrFun (Cert.Kernel3Ideal.Value.flushed11 m c t) y).trans ?_
  have hy : y = (ix2 (y 0) (y 1) : S512x1024.Idx) := by
    funext a
    match a with
    | ⟨0, _⟩ => rfl
    | ⟨1, _⟩ => rfl
  refine (congrArg (out0_11 (b0 m c t) (b1 m c t) (b2 m c t) (b3 m c t) (b4 m c t) (b5 m c t) (b6 m c t) (b7 m c t) (b8 m c t) (b9 m c t)) hy).trans
    ((at_k m c t (y 0) (y 1)).trans ?_)
  show R_k m c _ = R_k m c (((cfg0.win 11).blk t).view.emb y)
  congr 1
  funext a
  match a with
  | ⟨0, _⟩ => exact Fin.ext (by blk_simp [e11]; rfl)
  | ⟨1, _⟩ => exact Fin.ext (by blk_simp [e11]; rfl)

abbrev R_v : Vec Ideal S32768x1024 .f32 := Cert.Reference3Ideal.Read.val_main_v32 (F := Ideal) (A0 m c) (A1 m c) (A2 m c) (A3 m c) (A4 m c)

theorem at_v (t : Fin cfg0.N) (r : Fin 512) (k : Fin 1024) :
    out0_12 (b0 m c t) (b1 m c t) (b2 m c t) (b3 m c t) (b4 m c t) (b5 m c t) (b6 m c t) (b7 m c t) (b8 m c t) (b9 m c t) (ix2 r k) = R_v m c (ix2 (rowAt t r) k) := by
  rw [out_v]
  simp only [h_apply, b6_apply]
  exact (ref_v _ _ _ _ _ _ _).symm

theorem arr_v : (dats m 0 c).arrAt 12 cfg0.N = R_v m c := by
  refine (dats m 0 c).arrAt_eq_of_covers 12 _ (by decide +kernel) fun t hf (y : S512x1024.Idx) => ?_
  refine (congrFun (Cert.Kernel3Ideal.Value.flushed12 m c t) y).trans ?_
  have hy : y = (ix2 (y 0) (y 1) : S512x1024.Idx) := by
    funext a
    match a with
    | ⟨0, _⟩ => rfl
    | ⟨1, _⟩ => rfl
  refine (congrArg (out0_12 (b0 m c t) (b1 m c t) (b2 m c t) (b3 m c t) (b4 m c t) (b5 m c t) (b6 m c t) (b7 m c t) (b8 m c t) (b9 m c t)) hy).trans
    ((at_v m c t (y 0) (y 1)).trans ?_)
  show R_v m c _ = R_v m c (((cfg0.win 12).blk t).view.emb y)
  congr 1
  funext a
  match a with
  | ⟨0, _⟩ => exact Fin.ext (by blk_simp [e12]; rfl)
  | ⟨1, _⟩ => exact Fin.ext (by blk_simp [e12]; rfl)

abbrev R_qi : Vec Ideal S32768x512 .f32 := Cert.Reference3Ideal.Read.val_main_v33 (F := Ideal) (A0 m c) (A1 m c) (A2 m c) (A3 m c) (A4 m c)

theorem at_qi (t : Fin cfg0.N) (r : Fin 512) (k : Fin 512) :
    out0_13 (b0 m c t) (b1 m c t) (b2 m c t) (b3 m c t) (b4 m c t) (b5 m c t) (b6 m c t) (b7 m c t) (b8 m c t) (b9 m c t) (ix2 r k) = R_qi m c (ix2 (rowAt t r) k) := by
  rw [out_qi]
  simp only [h_apply, b7_apply]
  exact (ref_qi _ _ _ _ _ _ _).symm

theorem arr_qi : (dats m 0 c).arrAt 13 cfg0.N = R_qi m c := by
  refine (dats m 0 c).arrAt_eq_of_covers 13 _ (by decide +kernel) fun t hf (y : S512x512.Idx) => ?_
  refine (congrFun (Cert.Kernel3Ideal.Value.flushed13 m c t) y).trans ?_
  have hy : y = (ix2 (y 0) (y 1) : S512x512.Idx) := by
    funext a
    match a with
    | ⟨0, _⟩ => rfl
    | ⟨1, _⟩ => rfl
  refine (congrArg (out0_13 (b0 m c t) (b1 m c t) (b2 m c t) (b3 m c t) (b4 m c t) (b5 m c t) (b6 m c t) (b7 m c t) (b8 m c t) (b9 m c t)) hy).trans
    ((at_qi m c t (y 0) (y 1)).trans ?_)
  show R_qi m c _ = R_qi m c (((cfg0.win 13).blk t).view.emb y)
  congr 1
  funext a
  match a with
  | ⟨0, _⟩ => exact Fin.ext (by blk_simp [e13]; rfl)
  | ⟨1, _⟩ => exact Fin.ext (by blk_simp [e13]; rfl)

abbrev R_kw : Vec Ideal S32768x128 .f32 := Cert.Reference3Ideal.Read.val_main_v34 (F := Ideal) (A0 m c) (A1 m c) (A2 m c) (A3 m c) (A4 m c)

theorem at_kw (t : Fin cfg0.N) (r : Fin 512) (k : Fin 128) :
    out0_14 (b0 m c t) (b1 m c t) (b2 m c t) (b3 m c t) (b4 m c t) (b5 m c t) (b6 m c t) (b7 m c t) (b8 m c t) (b9 m c t) (ix2 r k) = R_kw m c (ix2 (rowAt t r) k) := by
  rw [out_kw]
  refine Eq.trans ?_ (ref_kw _ _ _ _ _ _ _).symm
  simp only [h_apply, b8_apply]
  by_cases h : k.val < 72
  · simp only [dif_pos h]
  · simp only [dif_neg h, mul_zero, Finset.sum_const_zero]

theorem arr_kw : (dats m 0 c).arrAt 14 cfg0.N = R_kw m c := by
  refine (dats m 0 c).arrAt_eq_of_covers 14 _ (by decide +kernel) fun t hf (y : S512x128.Idx) => ?_
  refine (congrFun (Cert.Kernel3Ideal.Value.flushed14 m c t) y).trans ?_
  have hy : y = (ix2 (y 0) (y 1) : S512x128.Idx) := by
    funext a
    match a with
    | ⟨0, _⟩ => rfl
    | ⟨1, _⟩ => rfl
  refine (congrArg (out0_14 (b0 m c t) (b1 m c t) (b2 m c t) (b3 m c t) (b4 m c t) (b5 m c t) (b6 m c t) (b7 m c t) (b8 m c t) (b9 m c t)) hy).trans
    ((at_kw m c t (y 0) (y 1)).trans ?_)
  show R_kw m c _ = R_kw m c (((cfg0.win 14).blk t).view.emb y)
  congr 1
  funext a
  match a with
  | ⟨0, _⟩ => exact Fin.ext (by blk_simp [e14]; rfl)
  | ⟨1, _⟩ => exact Fin.ext (by blk_simp [e14]; rfl)

abbrev R_ki : Vec Ideal S32768x64 .f32 := Cert.Reference3Ideal.Read.val_main_v35 (F := Ideal) (A0 m c) (A1 m c) (A2 m c) (A3 m c) (A4 m c)

theorem at_ki (t : Fin cfg0.N) (r : Fin 512) (k : Fin 64) :
    out0_15 (b0 m c t) (b1 m c t) (b2 m c t) (b3 m c t) (b4 m c t) (b5 m c t) (b6 m c t) (b7 m c t) (b8 m c t) (b9 m c t) (ix2 r k) = R_ki m c (ix2 (rowAt t r) k) := by
  rw [out_ki]
  simp only [h_apply, b9_apply]
  exact (ref_ki _ _ _ _ _ _ _).symm

theorem arr_ki : (dats m 0 c).arrAt 15 cfg0.N = R_ki m c := by
  refine (dats m 0 c).arrAt_eq_of_covers 15 _ (by decide +kernel) fun t hf (y : S512x64.Idx) => ?_
  refine (congrFun (Cert.Kernel3Ideal.Value.flushed15 m c t) y).trans ?_
  have hy : y = (ix2 (y 0) (y 1) : S512x64.Idx) := by
    funext a
    match a with
    | ⟨0, _⟩ => rfl
    | ⟨1, _⟩ => rfl
  refine (congrArg (out0_15 (b0 m c t) (b1 m c t) (b2 m c t) (b3 m c t) (b4 m c t) (b5 m c t) (b6 m c t) (b7 m c t) (b8 m c t) (b9 m c t)) hy).trans
    ((at_ki m c t (y 0) (y 1)).trans ?_)
  show R_ki m c _ = R_ki m c (((cfg0.win 15).blk t).view.emb y)
  congr 1
  funext a
  match a with
  | ⟨0, _⟩ => exact Fin.ext (by blk_simp [e15]; rfl)
  | ⟨1, _⟩ => exact Fin.ext (by blk_simp [e15]; rfl)

/-! ## The claims -/

theorem algebraic : Cert.algebraic_Kernel3Ideal_Reference3Ideal (hKernel3Ideal := Cert.Kernel3Ideal.Gen.facts)
    (hReference3Ideal := Cert.Reference3Ideal.Gen.facts) := fun m ρ m' ρ' _ hag =>
  ⟨fun c => R_q m c, fun c => R_k m c, fun c => R_v m c, fun c => R_qi m c, fun c => R_kw m c, fun c => R_ki m c,
   (θ_run _ _ _).mono (fun _ h c => by
      obtain ⟨h0, h1, h2, h3, h4, h5, hr⟩ := h c
      exact ⟨h0.trans (arr_q m c), h1.trans (arr_k m c), h2.trans (arr_v m c), h3.trans (arr_qi m c), h4.trans (arr_kw m c), h5.trans (arr_ki m c), hr⟩) (Cert.Kernel3Ideal.Value.run_blocks m ρ),
   (θ_run _ _ _).mono (fun r h c => by
      obtain ⟨h0, h1, h2, h3, h4, h5, hr⟩ := h c
      obtain ⟨a0, a1, a2, a3, a4⟩ := hag c
      refine ⟨h0.trans ((Cert.Reference3Ideal.Read.val_main_v30_eq _ _ _ _ _).trans ?_), h1.trans ((Cert.Reference3Ideal.Read.val_main_v31_eq _ _ _ _ _).trans ?_), h2.trans ((Cert.Reference3Ideal.Read.val_main_v32_eq _ _ _ _ _).trans ?_), h3.trans ((Cert.Reference3Ideal.Read.val_main_v33_eq _ _ _ _ _).trans ?_), h4.trans ((Cert.Reference3Ideal.Read.val_main_v34_eq _ _ _ _ _).trans ?_), h5.trans ((Cert.Reference3Ideal.Read.val_main_v35_eq _ _ _ _ _).trans ?_), hr⟩
      · exact congr (congr (congr (congr (congrArg (Cert.Reference3Ideal.Read.val_main_v30 (F := Ideal)) a0) a1) a2) a3) a4
      · exact congr (congr (congr (congr (congrArg (Cert.Reference3Ideal.Read.val_main_v31 (F := Ideal)) a0) a1) a2) a3) a4
      · exact congr (congr (congr (congr (congrArg (Cert.Reference3Ideal.Read.val_main_v32 (F := Ideal)) a0) a1) a2) a3) a4
      · exact congr (congr (congr (congr (congrArg (Cert.Reference3Ideal.Read.val_main_v33 (F := Ideal)) a0) a1) a2) a3) a4
      · exact congr (congr (congr (congr (congrArg (Cert.Reference3Ideal.Read.val_main_v34 (F := Ideal)) a0) a1) a2) a3) a4
      · exact congr (congr (congr (congr (congrArg (Cert.Reference3Ideal.Read.val_main_v35 (F := Ideal)) a0) a1) a2) a3) a4)
    (Cert.Reference3Ideal.Value.run m' ρ')⟩

theorem quiescent_ref : Cert.quiescent_Reference3Ideal (hReference3Ideal := Cert.Reference3Ideal.Gen.facts) := fun m ρ _ =>
  (θ_run _ _ _).mono (fun r h => ⟨fun c => (h c).2.2.2.2.2.2, sem_eq_zero_of_no_sems (by decide) r.2⟩) (Cert.Reference3Ideal.Value.run m ρ)

end Proj3

end
-- ==== Proof.Proj4Ref.lean ====
/- The attention layer's input projection over the sample: the reference's entries. -/
module

public import proofs.«01_k».proof.Proof.Proj3
public import proofs.«01_k».proof.Proof.Gen.Reference4Ideal.Read

@[expose] public section

set_option maxRecDepth 16384

noncomputable section

namespace Proj4

open Idealize.ShloMosaic Idealize.ShloMosaic.TcCoe

open Proj3 (modded col none_zero)

/-! ## The reference's entries -/

section
open Cert.Reference4Ideal Cert.Reference4Ideal.Read
variable (x0 : Vec Ideal S16x16x1024 .f32) (x1 : Vec Ideal S1024 .f32) (x2 x3 : Vec Ideal S16x1024 .f32) (x4 : Vec Ideal S1024x3656 .f32)

def grp (r : Fin 256) : Fin 16 := ⟨r.val / 16, Nat.div_lt_of_lt_mul r.isLt⟩
def pos (r : Fin 256) : Fin 16 := ⟨r.val % 16, Nat.mod_lt _ (by decide)⟩

theorem mod_apply (b : Fin 16) (s : Fin 16) (k : Fin 1024) :
    val_main_v20 (F := Ideal) x0 x1 x2 x3 (ix3 b s k) = modded (fun x => x0 (ix3 b s x)) (x1 (ix1 k)) (x2 (ix2 b k)) (x3 (ix2 b k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

theorem ref_q (r : Fin 256) (k : Fin 1024) :
    val_main_v30 (F := Ideal) x0 x1 x2 x3 x4 (ix2 r k)
      = ∑ x, val_main_v20 (F := Ideal) x0 x1 x2 x3 (ix3 (grp r) (pos r) x) * x4 (ix2 x (col 0 (by decide) k)) := by
  pointwise [val_main_v21, val_main_v22, val_main_v30]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_k (r : Fin 256) (k : Fin 1024) :
    val_main_v31 (F := Ideal) x0 x1 x2 x3 x4 (ix2 r k)
      = ∑ x, val_main_v20 (F := Ideal) x0 x1 x2 x3 (ix3 (grp r) (pos r) x) * x4 (ix2 x (col 1024 (by decide) k)) := by
  pointwise [val_main_v21, val_main_v23, val_main_v31]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_v (r : Fin 256) (k : Fin 1024) :
    val_main_v32 (F := Ideal) x0 x1 x2 x3 x4 (ix2 r k)
      = ∑ x, val_main_v20 (F := Ideal) x0 x1 x2 x3 (ix3 (grp r) (pos r) x) * x4 (ix2 x (col 2048 (by decide) k)) := by
  pointwise [val_main_v21, val_main_v24, val_main_v32]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_qi (r : Fin 256) (k : Fin 512) :
    val_main_v33 (F := Ideal) x0 x1 x2 x3 x4 (ix2 r k)
      = ∑ x, val_main_v20 (F := Ideal) x0 x1 x2 x3 (ix3 (grp r) (pos r) x) * x4 (ix2 x (col 3072 (by decide) k)) := by
  pointwise [val_main_v21, val_main_v25, val_main_v33]
  exact Finset.sum_congr rfl fun x _ => congrArg (fun z => val_main_v20 (F := Ideal) x0 x1 x2 x3 (ix3 (grp r) (pos r) x) * x4 (ix2 x z)) (Fin.ext (by first | rfl | (simp only [col]; omega) | simp [col]))

theorem ref_kw (r : Fin 256) (k : Fin 128) :
    val_main_v34 (F := Ideal) x0 x1 x2 x3 x4 (ix2 r k)
      = if h : k.val < 72 then ∑ x, val_main_v20 (F := Ideal) x0 x1 x2 x3 (ix3 (grp r) (pos r) x) * x4 (ix2 x (col 3584 (by decide) (⟨k.val, h⟩ : Fin 72))) else 0 := by
  pointwise [val_main_v21, val_main_v26, val_main_v27, val_main_v28, val_main_v29, val_main_v34, val_main_c, val_main_call0_v0]
  by_cases h : k.val < 72
  · refine (dif_pos (show _ ∧ _ ∧ _ from ⟨(grp r).isLt, (pos r).isLt, h⟩)).trans (Eq.trans ?_ (dif_pos h).symm)
    by_cases h1 : k.val < 64
    · exact (dif_pos h1).trans (Finset.sum_congr rfl fun x _ => rfl)
    · refine (dif_neg h1).trans ?_
      exact Finset.sum_congr rfl fun x _ => congrArg (fun z => val_main_v20 (F := Ideal) x0 x1 x2 x3 (ix3 (grp r) (pos r) x) * x4 (ix2 x z)) (Fin.ext (by first | rfl | (simp only [col]; omega) | simp [col]))
  · refine (dif_neg (fun q => h q.2.2)).trans (none_zero.trans ?_)
    exact (dif_neg (c := k.val < 72) (e := fun _ => (0 : EReal)) h).symm

theorem ref_ki (r : Fin 256) (k : Fin 64) :
    val_main_v35 (F := Ideal) x0 x1 x2 x3 x4 (ix2 r k)
      = ∑ x, val_main_v20 (F := Ideal) x0 x1 x2 x3 (ix3 (grp r) (pos r) x) * x4 (ix2 x (col 3584 (by decide) k)) := by
  pointwise [val_main_v21, val_main_v26, val_main_v35]
  exact Finset.sum_congr rfl fun x _ => congrArg (fun z => val_main_v20 (F := Ideal) x0 x1 x2 x3 (ix3 (grp r) (pos r) x) * x4 (ix2 x z)) (Fin.ext (by first | rfl | (simp only [col]; omega) | simp [col]))
end

end Proj4

end
-- ==== Proof.Proj4.lean ====
/- The attention layer's input projection over the sample: its six result arrays are the reference's, and its claims. -/
module

public import proofs.«01_k».proof.Proof.Proj4Ref
public import proofs.«01_k».proof.Proof.Gen.Kernel4Ideal.Value
public import proofs.«01_k».proof.Proof.Gen.Reference4Ideal.Run

@[expose] public section

set_option maxRecDepth 16384

noncomputable section

namespace Proj4

open Cert.Kernel4Ideal Cert.Kernel4Ideal.Gen Idealize.ShloMosaic Idealize.ShloMosaic.TcCoe

open Proj3 (modded col none_zero)

/-! ## The kernel's stores -/

theorem pay5_apply (P0 : Vec Ideal S256x1024 .f32) (P1 : Vec Ideal S1x1024 .f32) (P2 P3 : Vec Ideal S1x256x1024 .f32) (r : Fin 256) (k : Fin 1024) :
    k0_pay5 (F := Ideal) P0 P1 P2 P3 (ix2 r k) = modded (fun x => P0 (ix2 r x)) (P1 (ix2 0 k)) (P2 (ix3 0 r k)) (P3 (ix3 0 r k)) k := by
  unfold k0_pay5
  pointwise
  rfl

section
variable (x0 : Vec Ideal S256x1024 .f32) (x1 : Vec Ideal S1x1024 .f32) (x2 x3 : Vec Ideal S1x256x1024 .f32) (x4 x5 x6 : Vec Ideal S1024x1024 .bf16)
  (x7 : Vec Ideal S1024x512 .bf16) (x8 : Vec Ideal S1024x128 .bf16) (x9 : Vec Ideal S1024x64 .bf16)

theorem pay8_eq : k0_pay8 (F := Ideal) x0 x1 x2 x3 x4 x5 x6 x7 x8 x9 = k0_pay5 x0 x1 x2 x3 := by
  unfold k0_pay8 r0_0 r0_1 r0_2
  simp only [View.ld_unit_zero (S := S256x1024) Moe.hz2, View.ld_unit_zero (S := S1x1024) Moe.hz2, View.ld_unit_zero (S := S1x256x1024) Moe.hz3]

theorem out_q (r : Fin 256) (k : Fin 1024) : out0_10 (F := Ideal) x0 x1 x2 x3 x4 x5 x6 x7 x8 x9 (ix2 r k)
    = ∑ x, k0_pay5 (F := Ideal) x0 x1 x2 x3 (ix2 r x) * x4 (ix2 x k) := by
  unfold out0_10 r0_0 r0_1 r0_2 r0_3
  rw [View.canon_cons_unit_zero (S := S256x1024) Moe.hz2]
  simp only [View.ld_unit_zero (S := S1024x1024) Moe.hz2, View.ld_unit_zero (S := S256x1024) Moe.hz2, View.ld_unit_zero (S := S1x1024) Moe.hz2, View.ld_unit_zero (S := S1x256x1024) Moe.hz3]
  unfold k0_pay6
  pointwise

theorem out_k (r : Fin 256) (k : Fin 1024) : out0_11 (F := Ideal) x0 x1 x2 x3 x4 x5 x6 x7 x8 x9 (ix2 r k)
    = ∑ x, k0_pay5 (F := Ideal) x0 x1 x2 x3 (ix2 r x) * x5 (ix2 x k) := by
  unfold out0_11 r0_0 r0_1 r0_2 r0_3
  rw [View.canon_cons_unit_zero (S := S256x1024) Moe.hz2]
  simp only [View.ld_unit_zero (S := S1024x1024) Moe.hz2, View.ld_unit_zero (S := S256x1024) Moe.hz2, View.ld_unit_zero (S := S1x1024) Moe.hz2, View.ld_unit_zero (S := S1x256x1024) Moe.hz3]
  unfold k0_pay7
  pointwise

theorem out_v (r : Fin 256) (k : Fin 1024) : out0_12 (F := Ideal) x0 x1 x2 x3 x4 x5 x6 x7 x8 x9 (ix2 r k)
    = ∑ x, k0_pay5 (F := Ideal) x0 x1 x2 x3 (ix2 r x) * x6 (ix2 x k) := by
  unfold out0_12 r0_0 r0_3
  rw [View.canon_cons_unit_zero (S := S256x1024) Moe.hz2]
  simp only [View.ld_unit_zero (S := S1024x1024) Moe.hz2]
  rw [pay8_eq]
  unfold k0_pay1
  pointwise

theorem out_qi (r : Fin 256) (k : Fin 512) : out0_13 (F := Ideal) x0 x1 x2 x3 x4 x5 x6 x7 x8 x9 (ix2 r k)
    = ∑ x, k0_pay5 (F := Ideal) x0 x1 x2 x3 (ix2 r x) * x7 (ix2 x k) := by
  unfold out0_13 r0_4 r0_5
  rw [View.canon_cons_unit_zero (S := S256x512) Moe.hz2]
  simp only [View.ld_unit_zero (S := S1024x512) Moe.hz2]
  rw [pay8_eq]
  unfold k0_pay2
  pointwise

theorem out_kw (r : Fin 256) (k : Fin 128) : out0_14 (F := Ideal) x0 x1 x2 x3 x4 x5 x6 x7 x8 x9 (ix2 r k)
    = ∑ x, k0_pay5 (F := Ideal) x0 x1 x2 x3 (ix2 r x) * x8 (ix2 x k) := by
  unfold out0_14 r0_6 r0_7
  rw [View.canon_cons_unit_zero (S := S256x128) Moe.hz2]
  simp only [View.ld_unit_zero (S := S1024x128) Moe.hz2]
  rw [pay8_eq]
  unfold k0_pay3
  pointwise

theorem out_ki (r : Fin 256) (k : Fin 64) : out0_15 (F := Ideal) x0 x1 x2 x3 x4 x5 x6 x7 x8 x9 (ix2 r k)
    = ∑ x, k0_pay5 (F := Ideal) x0 x1 x2 x3 (ix2 r x) * x9 (ix2 x k) := by
  unfold out0_15 r0_8 r0_9
  rw [View.canon_cons_unit_zero (S := S256x64) Moe.hz2]
  simp only [View.ld_unit_zero (S := S1024x64) Moe.hz2]
  rw [pay8_eq]
  unfold k0_pay4
  pointwise
end

/-! ## The arrays the call reads -/

variable (m : (ℓ : Loc nD τ sig) → Buf (Elt Ideal) ℓ) (ρ : Dev nD → PrngReg) (c : Dev nD)

abbrev A0 : Vec Ideal S16x16x1024 .f32 := m ((c : Thread nD τ).loc main_arg0)
abbrev A1 : Vec Ideal S1024 .f32 := m ((c : Thread nD τ).loc main_arg1)
abbrev A2 : Vec Ideal S16x1024 .f32 := m ((c : Thread nD τ).loc main_arg2)
abbrev A3 : Vec Ideal S16x1024 .f32 := m ((c : Thread nD τ).loc main_arg3)
abbrev A4 : Vec Ideal S1024x3656 .f32 := m ((c : Thread nD τ).loc main_arg4)

theorem V_x : V m c main_v0 = shapeCast S256x1024 (A0 m c) shapeCasts_S16x16x1024_S256x1024 := by
  unfold V
  simp only [hostOps0, hostOps0_1, hostOps0_2, List.flatten_cons, List.flatten_nil, List.append_nil, List.cons_append, List.nil_append]
  after_results
  rfl

theorem V_sh : V m c main_v3 = shapeCast S1x256x1024 (shapeCast S256x1024 (broadcastInDim S16x16x1024 ![0, 2] bcast_S16x1024_S16x16x1024_0_2 (A2 m c))
    shapeCasts_S16x16x1024_S256x1024) shapeCasts_S256x1024_S1x256x1024 := by
  unfold V
  simp only [hostOps0, hostOps0_1, hostOps0_2, List.flatten_cons, List.flatten_nil, List.append_nil, List.cons_append, List.nil_append]
  after_results
  rfl

theorem V_sc : V m c main_v6 = shapeCast S1x256x1024 (shapeCast S256x1024 (broadcastInDim S16x16x1024 ![0, 2] bcast_S16x1024_S16x16x1024_0_2 (A3 m c))
    shapeCasts_S16x16x1024_S256x1024) shapeCasts_S256x1024_S1x256x1024 := by
  unfold V
  simp only [hostOps0, hostOps0_1, hostOps0_2, List.flatten_cons, List.flatten_nil, List.append_nil, List.cons_append, List.nil_append]
  after_results
  rfl

theorem V_g : V m c main_v20 = shapeCast S1x1024 (A1 m c) shapeCasts_S1024_S1x1024 := by
  unfold V
  simp only [hostOps0, hostOps0_1, hostOps0_2, List.flatten_cons, List.flatten_nil, List.append_nil, List.cons_append, List.nil_append]
  after_results
  rfl

theorem x_apply (r : Fin 256) (k : Fin 1024) : (V m c main_v0 : Vec Ideal S256x1024 .f32) (ix2 r k) = A0 m c (ix3 (grp r) (pos r) k) := by
  rw [V_x]
  pointwise []
  rfl

theorem sh_apply (r : Fin 256) (k : Fin 1024) : (V m c main_v3 : Vec Ideal S1x256x1024 .f32) (ix3 0 r k) = A2 m c (ix2 (grp r) k) := by
  rw [V_sh]
  pointwise []
  rfl

theorem sc_apply (r : Fin 256) (k : Fin 1024) : (V m c main_v6 : Vec Ideal S1x256x1024 .f32) (ix3 0 r k) = A3 m c (ix2 (grp r) k) := by
  rw [V_sc]
  pointwise []
  rfl

theorem g_apply (k : Fin 1024) : (V m c main_v20 : Vec Ideal S1x1024 .f32) (ix2 0 k) = A1 m c (ix1 k) := by
  rw [V_g]
  pointwise []

theorem V_q : V m c main_v14 = truncf (F := Ideal) .bf16 (extractStridedSlice S1024x1024 ![0, 0] (A4 m c) slices_S1024x3656_S1024x1024_0_0) bitsLt_bf16_f32 := by
  unfold V
  simp only [hostOps0, hostOps0_1, hostOps0_2, List.flatten_cons, List.flatten_nil, List.append_nil, List.cons_append, List.nil_append]
  after_results

theorem w_q (x : Fin 1024) (k : Fin 1024) : (V m c main_v14 : Vec Ideal S1024x1024 .bf16) (ix2 x k) = A4 m c (ix2 x (col 0 (by decide) k)) := by
  rw [V_q]
  pointwise
  exact congrArg (fun z => A4 m c (ix2 x z)) (Fin.ext (by first | rfl | (simp only [col]; omega) | simp [col]))

theorem V_k : V m c main_v15 = truncf (F := Ideal) .bf16 (extractStridedSlice S1024x1024 ![0, 1024] (A4 m c) slices_S1024x3656_S1024x1024_0_1024) bitsLt_bf16_f32 := by
  unfold V
  simp only [hostOps0, hostOps0_1, hostOps0_2, List.flatten_cons, List.flatten_nil, List.append_nil, List.cons_append, List.nil_append]
  after_results

theorem w_k (x : Fin 1024) (k : Fin 1024) : (V m c main_v15 : Vec Ideal S1024x1024 .bf16) (ix2 x k) = A4 m c (ix2 x (col 1024 (by decide) k)) := by
  rw [V_k]
  pointwise
  exact congrArg (fun z => A4 m c (ix2 x z)) (Fin.ext (by first | rfl | (simp only [col]; omega) | simp [col]))

theorem V_v : V m c main_v16 = truncf (F := Ideal) .bf16 (extractStridedSlice S1024x1024 ![0, 2048] (A4 m c) slices_S1024x3656_S1024x1024_0_2048) bitsLt_bf16_f32 := by
  unfold V
  simp only [hostOps0, hostOps0_1, hostOps0_2, List.flatten_cons, List.flatten_nil, List.append_nil, List.cons_append, List.nil_append]
  after_results

theorem w_v (x : Fin 1024) (k : Fin 1024) : (V m c main_v16 : Vec Ideal S1024x1024 .bf16) (ix2 x k) = A4 m c (ix2 x (col 2048 (by decide) k)) := by
  rw [V_v]
  pointwise
  exact congrArg (fun z => A4 m c (ix2 x z)) (Fin.ext (by first | rfl | (simp only [col]; omega) | simp [col]))

theorem V_qi : V m c main_v17 = truncf (F := Ideal) .bf16 (extractStridedSlice S1024x512 ![0, 3072] (A4 m c) slices_S1024x3656_S1024x512_0_3072) bitsLt_bf16_f32 := by
  unfold V
  simp only [hostOps0, hostOps0_1, hostOps0_2, List.flatten_cons, List.flatten_nil, List.append_nil, List.cons_append, List.nil_append]
  after_results

theorem w_qi (x : Fin 1024) (k : Fin 512) : (V m c main_v17 : Vec Ideal S1024x512 .bf16) (ix2 x k) = A4 m c (ix2 x (col 3072 (by decide) k)) := by
  rw [V_qi]
  pointwise
  exact congrArg (fun z => A4 m c (ix2 x z)) (Fin.ext (by first | rfl | (simp only [col]; omega) | simp [col]))

theorem V_kw : V m c main_v18 = truncf (F := Ideal) .bf16 (pad S1024x128 ![0, 0] ![0, 56] ![0, 0]
    (extractStridedSlice S1024x72 ![0, 3584] (A4 m c) slices_S1024x3656_S1024x72_0_3584) (sitofp (F := Ideal) .f32 (constantI S_ 32 0#32))
    pads_S1024x72_S1024x128_000_0560 h_S_) bitsLt_bf16_f32 := by
  unfold V
  simp only [hostOps0, hostOps0_1, hostOps0_2, List.flatten_cons, List.flatten_nil, List.append_nil, List.cons_append, List.nil_append]
  after_results
  rfl

theorem w_kw (x : Fin 1024) (k : Fin 128) : (V m c main_v18 : Vec Ideal S1024x128 .bf16) (ix2 x k)
    = (if h : k.val < 72 then A4 m c (ix2 x (col 3584 (by decide) (⟨k.val, h⟩ : Fin 72))) else 0 : EReal) := by
  rw [V_kw]
  pointwise
  by_cases h : k.val < 72
  · rw [dif_pos h, dif_pos h]
    rfl
  · rw [dif_neg h, dif_neg h]
    exact none_zero

theorem V_ki : V m c main_v19 = truncf (F := Ideal) .bf16 (extractStridedSlice S1024x64 ![0, 3584] (A4 m c) slices_S1024x3656_S1024x64_0_3584) bitsLt_bf16_f32 := by
  unfold V
  simp only [hostOps0, hostOps0_1, hostOps0_2, List.flatten_cons, List.flatten_nil, List.append_nil, List.cons_append, List.nil_append]
  after_results

theorem w_ki (x : Fin 1024) (k : Fin 64) : (V m c main_v19 : Vec Ideal S1024x64 .bf16) (ix2 x k) = A4 m c (ix2 x (col 3584 (by decide) k)) := by
  rw [V_ki]
  pointwise
  exact congrArg (fun z => A4 m c (ix2 x z)) (Fin.ext (by first | rfl | (simp only [col]; omega) | simp [col]))

/-! ## The blocks -/

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0, 0] := by decide +kernel
theorem e3 : ∀ t : Fin grid0.N, win0_3.index t = ![0, 0, 0] := by decide +kernel
theorem e4 : ∀ t : Fin grid0.N, win0_4.index t = ![0, 0] := by decide +kernel
theorem e5 : ∀ t : Fin grid0.N, win0_5.index t = ![0, 0] := by decide +kernel
theorem e6 : ∀ t : Fin grid0.N, win0_6.index t = ![0, 0] := by decide +kernel
theorem e7 : ∀ t : Fin grid0.N, win0_7.index t = ![0, 0] := by decide +kernel
theorem e8 : ∀ t : Fin grid0.N, win0_8.index t = ![0, 0] := by decide +kernel
theorem e9 : ∀ t : Fin grid0.N, win0_9.index t = ![0, 0] := by decide +kernel
theorem e10 : ∀ t : Fin grid0.N, win0_10.index t = ![t.val, 0] := by decide +kernel
theorem e11 : ∀ t : Fin grid0.N, win0_11.index t = ![t.val, 0] := by decide +kernel
theorem e12 : ∀ t : Fin grid0.N, win0_12.index t = ![t.val, 0] := by decide +kernel
theorem e13 : ∀ t : Fin grid0.N, win0_13.index t = ![t.val, 0] := by decide +kernel
theorem e14 : ∀ t : Fin grid0.N, win0_14.index t = ![t.val, 0] := by decide +kernel
theorem e15 : ∀ t : Fin grid0.N, win0_15.index t = ![t.val, 0] := by decide +kernel

theorem lt1 (t : Fin cfg0.N) : t.val < 1 := lt_of_lt_of_eq t.isLt (show cfg0.N = 1 from N_0)

/-- A row of a grid point's block among the array's rows. -/
def rowAt (t : Fin cfg0.N) (r : Fin 256) : Fin 256 := ⟨t.val * 256 + r.val, by have := lt1 t; omega⟩

theorem rowAt_eq (t : Fin cfg0.N) (r : Fin 256) : rowAt t r = r := Fin.ext (by show t.val * 256 + r.val = r.val; have := lt1 t; omega)

def b0 (t : Fin cfg0.N) : Vec Ideal S256x1024 .f32 := iblk m c 0 t
def b1 (t : Fin cfg0.N) : Vec Ideal S1x1024 .f32 := iblk m c 1 t
def b2 (t : Fin cfg0.N) : Vec Ideal S1x256x1024 .f32 := iblk m c 2 t
def b3 (t : Fin cfg0.N) : Vec Ideal S1x256x1024 .f32 := iblk m c 3 t
def b4 (t : Fin cfg0.N) : Vec Ideal S1024x1024 .bf16 := iblk m c 4 t
def b5 (t : Fin cfg0.N) : Vec Ideal S1024x1024 .bf16 := iblk m c 5 t
def b6 (t : Fin cfg0.N) : Vec Ideal S1024x1024 .bf16 := iblk m c 6 t
def b7 (t : Fin cfg0.N) : Vec Ideal S1024x512 .bf16 := iblk m c 7 t
def b8 (t : Fin cfg0.N) : Vec Ideal S1024x128 .bf16 := iblk m c 8 t
def b9 (t : Fin cfg0.N) : Vec Ideal S1024x64 .bf16 := iblk m c 9 t

theorem b0_apply (t : Fin cfg0.N) (r : Fin 256) (k : Fin 1024) : b0 m c t (ix2 r k) = A0 m c (ix3 (grp (rowAt t r)) (pos (rowAt t r)) k) := by
  show V m c main_v0 (((cfg0.win 0).blk t).view.emb (ix2 r k : S256x1024.Idx)) = _
  rw [rowAt_eq]
  refine Eq.trans ?_ (x_apply m c r k)
  congr 1
  funext a
  match a with
  | ⟨0, _⟩ => exact Fin.ext (by blk_simp [e0])
  | ⟨1, _⟩ => exact Fin.ext (by blk_simp [e0])

theorem b1_apply (t : Fin cfg0.N) (k : Fin 1024) : b1 m c t (ix2 0 k) = A1 m c (ix1 k) := by
  show V m c main_v20 (((cfg0.win 1).blk t).view.emb (ix2 0 k : S1x1024.Idx)) = _
  refine Eq.trans ?_ (g_apply m c k)
  congr 1
  funext a
  match a with
  | ⟨0, _⟩ => exact Subsingleton.elim (α := Fin 1) _ _
  | ⟨1, _⟩ => exact Fin.ext (by blk_simp [e1])

theorem b2_apply (t : Fin cfg0.N) (r : Fin 256) (k : Fin 1024) : b2 m c t (ix3 0 r k) = A2 m c (ix2 (grp (rowAt t r)) k) := by
  show V m c main_v3 (((cfg0.win 2).blk t).view.emb (ix3 0 r k : S1x256x1024.Idx)) = _
  rw [rowAt_eq]
  refine Eq.trans ?_ (sh_apply m c r k)
  congr 1
  funext a
  match a with
  | ⟨0, _⟩ => exact Subsingleton.elim (α := Fin 1) _ _
  | ⟨1, _⟩ => exact Fin.ext (by blk_simp [e2])
  | ⟨2, _⟩ => exact Fin.ext (by blk_simp [e2])

theorem b3_apply (t : Fin cfg0.N) (r : Fin 256) (k : Fin 1024) : b3 m c t (ix3 0 r k) = A3 m c (ix2 (grp (rowAt t r)) k) := by
  show V m c main_v6 (((cfg0.win 3).blk t).view.emb (ix3 0 r k : S1x256x1024.Idx)) = _
  rw [rowAt_eq]
  refine Eq.trans ?_ (sc_apply m c r k)
  congr 1
  funext a
  match a with
  | ⟨0, _⟩ => exact Subsingleton.elim (α := Fin 1) _ _
  | ⟨1, _⟩ => exact Fin.ext (by blk_simp [e3])
  | ⟨2, _⟩ => exact Fin.ext (by blk_simp [e3])

theorem b4_apply (t : Fin cfg0.N) (x : Fin 1024) (k : Fin 1024) : b4 m c t (ix2 x k) = A4 m c (ix2 x (col 0 (by decide) k)) := by
  show V m c main_v14 (((cfg0.win 4).blk t).view.emb (ix2 x k : S1024x1024.Idx)) = _
  refine Eq.trans ?_ (w_q m c x k)
  congr 1
  funext a
  match a with
  | ⟨0, _⟩ => exact Fin.ext (by blk_simp [e4])
  | ⟨1, _⟩ => exact Fin.ext (by blk_simp [e4])

theorem b5_apply (t : Fin cfg0.N) (x : Fin 1024) (k : Fin 1024) : b5 m c t (ix2 x k) = A4 m c (ix2 x (col 1024 (by decide) k)) := by
  show V m c main_v15 (((cfg0.win 5).blk t).view.emb (ix2 x k : S1024x1024.Idx)) = _
  refine Eq.trans ?_ (w_k m c x k)
  congr 1
  funext a
  match a with
  | ⟨0, _⟩ => exact Fin.ext (by blk_simp [e5])
  | ⟨1, _⟩ => exact Fin.ext (by blk_simp [e5])

theorem b6_apply (t : Fin cfg0.N) (x : Fin 1024) (k : Fin 1024) : b6 m c t (ix2 x k) = A4 m c (ix2 x (col 2048 (by decide) k)) := by
  show V m c main_v16 (((cfg0.win 6).blk t).view.emb (ix2 x k : S1024x1024.Idx)) = _
  refine Eq.trans ?_ (w_v m c x k)
  congr 1
  funext a
  match a with
  | ⟨0, _⟩ => exact Fin.ext (by blk_simp [e6])
  | ⟨1, _⟩ => exact Fin.ext (by blk_simp [e6])

theorem b7_apply (t : Fin cfg0.N) (x : Fin 1024) (k : Fin 512) : b7 m c t (ix2 x k) = A4 m c (ix2 x (col 3072 (by decide) k)) := by
  show V m c main_v17 (((cfg0.win 7).blk t).view.emb (ix2 x k : S1024x512.Idx)) = _
  refine Eq.trans ?_ (w_qi m c x k)
  congr 1
  funext a
  match a with
  | ⟨0, _⟩ => exact Fin.ext (by blk_simp [e7])
  | ⟨1, _⟩ => exact Fin.ext (by blk_simp [e7])

theorem b8_apply (t : Fin cfg0.N) (x : Fin 1024) (k : Fin 128) : b8 m c t (ix2 x k) = (if h : k.val < 72 then A4 m c (ix2 x (col 3584 (by decide) (⟨k.val, h⟩ : Fin 72))) else 0 : EReal) := by
  show V m c main_v18 (((cfg0.win 8).blk t).view.emb (ix2 x k : S1024x128.Idx)) = _
  refine Eq.trans ?_ (w_kw m c x k)
  congr 1
  funext a
  match a with
  | ⟨0, _⟩ => exact Fin.ext (by blk_simp [e8])
  | ⟨1, _⟩ => exact Fin.ext (by blk_simp [e8])

theorem b9_apply (t : Fin cfg0.N) (x : Fin 1024) (k : Fin 64) : b9 m c t (ix2 x k) = A4 m c (ix2 x (col 3584 (by decide) k)) := by
  show V m c main_v19 (((cfg0.win 9).blk t).view.emb (ix2 x k : S1024x64.Idx)) = _
  refine Eq.trans ?_ (w_ki m c x k)
  congr 1
  funext a
  match a with
  | ⟨0, _⟩ => exact Fin.ext (by blk_simp [e9])
  | ⟨1, _⟩ => exact Fin.ext (by blk_simp [e9])

/-- The modulated rows of a grid point are the reference's. -/
theorem h_apply (t : Fin cfg0.N) (r : Fin 256) (k : Fin 1024) : k0_pay5 (F := Ideal) (b0 m c t) (b1 m c t) (b2 m c t) (b3 m c t) (ix2 r k)
    = Cert.Reference4Ideal.Read.val_main_v20 (F := Ideal) (A0 m c) (A1 m c) (A2 m c) (A3 m c) (ix3 (grp (rowAt t r)) (pos (rowAt t r)) k) := by
  rw [pay5_apply, mod_apply, b1_apply, b2_apply m c t r, b3_apply m c t r]
  simp only [b0_apply]

/-! ## The result arrays -/

abbrev R_q : Vec Ideal S256x1024 .f32 := Cert.Reference4Ideal.Read.val_main_v30 (F := Ideal) (A0 m c) (A1 m c) (A2 m c) (A3 m c) (A4 m c)

theorem at_q (t : Fin cfg0.N) (r : Fin 256) (k : Fin 1024) :
    out0_10 (b0 m c t) (b1 m c t) (b2 m c t) (b3 m c t) (b4 m c t) (b5 m c t) (b6 m c t) (b7 m c t) (b8 m c t) (b9 m c t) (ix2 r k) = R_q m c (ix2 (rowAt t r) k) := by
  rw [out_q]
  simp only [h_apply, b4_apply]
  exact (ref_q _ _ _ _ _ _ _).symm

theorem arr_q : (dats m 0 c).arrAt 10 cfg0.N = R_q m c := by
  refine (dats m 0 c).arrAt_eq_of_covers 10 _ (by decide +kernel) fun t hf (y : S256x1024.Idx) => ?_
  refine (congrFun (Cert.Kernel4Ideal.Value.flushed10 m c t) y).trans ?_
  have hy : y = (ix2 (y 0) (y 1) : S256x1024.Idx) := by
    funext a
    match a with
    | ⟨0, _⟩ => rfl
    | ⟨1, _⟩ => rfl
  refine (congrArg (out0_10 (b0 m c t) (b1 m c t) (b2 m c t) (b3 m c t) (b4 m c t) (b5 m c t) (b6 m c t) (b7 m c t) (b8 m c t) (b9 m c t)) hy).trans
    ((at_q m c t (y 0) (y 1)).trans ?_)
  show R_q m c _ = R_q m c (((cfg0.win 10).blk t).view.emb y)
  congr 1
  funext a
  match a with
  | ⟨0, _⟩ => exact (rowAt_eq t (y 0)).trans (Fin.ext (by blk_simp [e10]; rfl))
  | ⟨1, _⟩ => exact Fin.ext (by blk_simp [e10]; rfl)

abbrev R_k : Vec Ideal S256x1024 .f32 := Cert.Reference4Ideal.Read.val_main_v31 (F := Ideal) (A0 m c) (A1 m c) (A2 m c) (A3 m c) (A4 m c)

theorem at_k (t : Fin cfg0.N) (r : Fin 256) (k : Fin 1024) :
    out0_11 (b0 m c t) (b1 m c t) (b2 m c t) (b3 m c t) (b4 m c t) (b5 m c t) (b6 m c t) (b7 m c t) (b8 m c t) (b9 m c t) (ix2 r k) = R_k m c (ix2 (rowAt t r) k) := by
  rw [out_k]
  simp only [h_apply, b5_apply]
  exact (ref_k _ _ _ _ _ _ _).symm

theorem arr_k : (dats m 0 c).arrAt 11 cfg0.N = R_k m c := by
  refine (dats m 0 c).arrAt_eq_of_covers 11 _ (by decide +kernel) fun t hf (y : S256x1024.Idx) => ?_
  refine (congrFun (Cert.Kernel4Ideal.Value.flushed11 m c t) y).trans ?_
  have hy : y = (ix2 (y 0) (y 1) : S256x1024.Idx) := by
    funext a
    match a with
    | ⟨0, _⟩ => rfl
    | ⟨1, _⟩ => rfl
  refine (congrArg (out0_11 (b0 m c t) (b1 m c t) (b2 m c t) (b3 m c t) (b4 m c t) (b5 m c t) (b6 m c t) (b7 m c t) (b8 m c t) (b9 m c t)) hy).trans
    ((at_k m c t (y 0) (y 1)).trans ?_)
  show R_k m c _ = R_k m c (((cfg0.win 11).blk t).view.emb y)
  congr 1
  funext a
  match a with
  | ⟨0, _⟩ => exact (rowAt_eq t (y 0)).trans (Fin.ext (by blk_simp [e11]; rfl))
  | ⟨1, _⟩ => exact Fin.ext (by blk_simp [e11]; rfl)

abbrev R_v : Vec Ideal S256x1024 .f32 := Cert.Reference4Ideal.Read.val_main_v32 (F := Ideal) (A0 m c) (A1 m c) (A2 m c) (A3 m c) (A4 m c)

theorem at_v (t : Fin cfg0.N) (r : Fin 256) (k : Fin 1024) :
    out0_12 (b0 m c t) (b1 m c t) (b2 m c t) (b3 m c t) (b4 m c t) (b5 m c t) (b6 m c t) (b7 m c t) (b8 m c t) (b9 m c t) (ix2 r k) = R_v m c (ix2 (rowAt t r) k) := by
  rw [out_v]
  simp only [h_apply, b6_apply]
  exact (ref_v _ _ _ _ _ _ _).symm

theorem arr_v : (dats m 0 c).arrAt 12 cfg0.N = R_v m c := by
  refine (dats m 0 c).arrAt_eq_of_covers 12 _ (by decide +kernel) fun t hf (y : S256x1024.Idx) => ?_
  refine (congrFun (Cert.Kernel4Ideal.Value.flushed12 m c t) y).trans ?_
  have hy : y = (ix2 (y 0) (y 1) : S256x1024.Idx) := by
    funext a
    match a with
    | ⟨0, _⟩ => rfl
    | ⟨1, _⟩ => rfl
  refine (congrArg (out0_12 (b0 m c t) (b1 m c t) (b2 m c t) (b3 m c t) (b4 m c t) (b5 m c t) (b6 m c t) (b7 m c t) (b8 m c t) (b9 m c t)) hy).trans
    ((at_v m c t (y 0) (y 1)).trans ?_)
  show R_v m c _ = R_v m c (((cfg0.win 12).blk t).view.emb y)
  congr 1
  funext a
  match a with
  | ⟨0, _⟩ => exact (rowAt_eq t (y 0)).trans (Fin.ext (by blk_simp [e12]; rfl))
  | ⟨1, _⟩ => exact Fin.ext (by blk_simp [e12]; rfl)

abbrev R_qi : Vec Ideal S256x512 .f32 := Cert.Reference4Ideal.Read.val_main_v33 (F := Ideal) (A0 m c) (A1 m c) (A2 m c) (A3 m c) (A4 m c)

theorem at_qi (t : Fin cfg0.N) (r : Fin 256) (k : Fin 512) :
    out0_13 (b0 m c t) (b1 m c t) (b2 m c t) (b3 m c t) (b4 m c t) (b5 m c t) (b6 m c t) (b7 m c t) (b8 m c t) (b9 m c t) (ix2 r k) = R_qi m c (ix2 (rowAt t r) k) := by
  rw [out_qi]
  simp only [h_apply, b7_apply]
  exact (ref_qi _ _ _ _ _ _ _).symm

theorem arr_qi : (dats m 0 c).arrAt 13 cfg0.N = R_qi m c := by
  refine (dats m 0 c).arrAt_eq_of_covers 13 _ (by decide +kernel) fun t hf (y : S256x512.Idx) => ?_
  refine (congrFun (Cert.Kernel4Ideal.Value.flushed13 m c t) y).trans ?_
  have hy : y = (ix2 (y 0) (y 1) : S256x512.Idx) := by
    funext a
    match a with
    | ⟨0, _⟩ => rfl
    | ⟨1, _⟩ => rfl
  refine (congrArg (out0_13 (b0 m c t) (b1 m c t) (b2 m c t) (b3 m c t) (b4 m c t) (b5 m c t) (b6 m c t) (b7 m c t) (b8 m c t) (b9 m c t)) hy).trans
    ((at_qi m c t (y 0) (y 1)).trans ?_)
  show R_qi m c _ = R_qi m c (((cfg0.win 13).blk t).view.emb y)
  congr 1
  funext a
  match a with
  | ⟨0, _⟩ => exact (rowAt_eq t (y 0)).trans (Fin.ext (by blk_simp [e13]; rfl))
  | ⟨1, _⟩ => exact Fin.ext (by blk_simp [e13]; rfl)

abbrev R_kw : Vec Ideal S256x128 .f32 := Cert.Reference4Ideal.Read.val_main_v34 (F := Ideal) (A0 m c) (A1 m c) (A2 m c) (A3 m c) (A4 m c)

theorem at_kw (t : Fin cfg0.N) (r : Fin 256) (k : Fin 128) :
    out0_14 (b0 m c t) (b1 m c t) (b2 m c t) (b3 m c t) (b4 m c t) (b5 m c t) (b6 m c t) (b7 m c t) (b8 m c t) (b9 m c t) (ix2 r k) = R_kw m c (ix2 (rowAt t r) k) := by
  rw [out_kw]
  refine Eq.trans ?_ (ref_kw _ _ _ _ _ _ _).symm
  simp only [h_apply, b8_apply]
  by_cases h : k.val < 72
  · simp only [dif_pos h]
  · simp only [dif_neg h, mul_zero, Finset.sum_const_zero]

theorem arr_kw : (dats m 0 c).arrAt 14 cfg0.N = R_kw m c := by
  refine (dats m 0 c).arrAt_eq_of_covers 14 _ (by decide +kernel) fun t hf (y : S256x128.Idx) => ?_
  refine (congrFun (Cert.Kernel4Ideal.Value.flushed14 m c t) y).trans ?_
  have hy : y = (ix2 (y 0) (y 1) : S256x128.Idx) := by
    funext a
    match a with
    | ⟨0, _⟩ => rfl
    | ⟨1, _⟩ => rfl
  refine (congrArg (out0_14 (b0 m c t) (b1 m c t) (b2 m c t) (b3 m c t) (b4 m c t) (b5 m c t) (b6 m c t) (b7 m c t) (b8 m c t) (b9 m c t)) hy).trans
    ((at_kw m c t (y 0) (y 1)).trans ?_)
  show R_kw m c _ = R_kw m c (((cfg0.win 14).blk t).view.emb y)
  congr 1
  funext a
  match a with
  | ⟨0, _⟩ => exact (rowAt_eq t (y 0)).trans (Fin.ext (by blk_simp [e14]; rfl))
  | ⟨1, _⟩ => exact Fin.ext (by blk_simp [e14]; rfl)

abbrev R_ki : Vec Ideal S256x64 .f32 := Cert.Reference4Ideal.Read.val_main_v35 (F := Ideal) (A0 m c) (A1 m c) (A2 m c) (A3 m c) (A4 m c)

theorem at_ki (t : Fin cfg0.N) (r : Fin 256) (k : Fin 64) :
    out0_15 (b0 m c t) (b1 m c t) (b2 m c t) (b3 m c t) (b4 m c t) (b5 m c t) (b6 m c t) (b7 m c t) (b8 m c t) (b9 m c t) (ix2 r k) = R_ki m c (ix2 (rowAt t r) k) := by
  rw [out_ki]
  simp only [h_apply, b9_apply]
  exact (ref_ki _ _ _ _ _ _ _).symm

theorem arr_ki : (dats m 0 c).arrAt 15 cfg0.N = R_ki m c := by
  refine (dats m 0 c).arrAt_eq_of_covers 15 _ (by decide +kernel) fun t hf (y : S256x64.Idx) => ?_
  refine (congrFun (Cert.Kernel4Ideal.Value.flushed15 m c t) y).trans ?_
  have hy : y = (ix2 (y 0) (y 1) : S256x64.Idx) := by
    funext a
    match a with
    | ⟨0, _⟩ => rfl
    | ⟨1, _⟩ => rfl
  refine (congrArg (out0_15 (b0 m c t) (b1 m c t) (b2 m c t) (b3 m c t) (b4 m c t) (b5 m c t) (b6 m c t) (b7 m c t) (b8 m c t) (b9 m c t)) hy).trans
    ((at_ki m c t (y 0) (y 1)).trans ?_)
  show R_ki m c _ = R_ki m c (((cfg0.win 15).blk t).view.emb y)
  congr 1
  funext a
  match a with
  | ⟨0, _⟩ => exact (rowAt_eq t (y 0)).trans (Fin.ext (by blk_simp [e15]; rfl))
  | ⟨1, _⟩ => exact Fin.ext (by blk_simp [e15]; rfl)

/-! ## The claims -/

theorem algebraic : Cert.algebraic_Kernel4Ideal_Reference4Ideal (hKernel4Ideal := Cert.Kernel4Ideal.Gen.facts)
    (hReference4Ideal := Cert.Reference4Ideal.Gen.facts) := fun m ρ m' ρ' _ hag =>
  ⟨fun c => R_q m c, fun c => R_k m c, fun c => R_v m c, fun c => R_qi m c, fun c => R_kw m c, fun c => R_ki m c,
   (θ_run _ _ _).mono (fun _ h c => by
      obtain ⟨h0, h1, h2, h3, h4, h5, hr⟩ := h c
      exact ⟨h0.trans (arr_q m c), h1.trans (arr_k m c), h2.trans (arr_v m c), h3.trans (arr_qi m c), h4.trans (arr_kw m c), h5.trans (arr_ki m c), hr⟩) (Cert.Kernel4Ideal.Value.run_blocks m ρ),
   (θ_run _ _ _).mono (fun r h c => by
      obtain ⟨h0, h1, h2, h3, h4, h5, hr⟩ := h c
      obtain ⟨a0, a1, a2, a3, a4⟩ := hag c
      refine ⟨h0.trans ((Cert.Reference4Ideal.Read.val_main_v30_eq _ _ _ _ _).trans ?_), h1.trans ((Cert.Reference4Ideal.Read.val_main_v31_eq _ _ _ _ _).trans ?_), h2.trans ((Cert.Reference4Ideal.Read.val_main_v32_eq _ _ _ _ _).trans ?_), h3.trans ((Cert.Reference4Ideal.Read.val_main_v33_eq _ _ _ _ _).trans ?_), h4.trans ((Cert.Reference4Ideal.Read.val_main_v34_eq _ _ _ _ _).trans ?_), h5.trans ((Cert.Reference4Ideal.Read.val_main_v35_eq _ _ _ _ _).trans ?_), hr⟩
      · exact congr (congr (congr (congr (congrArg (Cert.Reference4Ideal.Read.val_main_v30 (F := Ideal)) a0) a1) a2) a3) a4
      · exact congr (congr (congr (congr (congrArg (Cert.Reference4Ideal.Read.val_main_v31 (F := Ideal)) a0) a1) a2) a3) a4
      · exact congr (congr (congr (congr (congrArg (Cert.Reference4Ideal.Read.val_main_v32 (F := Ideal)) a0) a1) a2) a3) a4
      · exact congr (congr (congr (congr (congrArg (Cert.Reference4Ideal.Read.val_main_v33 (F := Ideal)) a0) a1) a2) a3) a4
      · exact congr (congr (congr (congr (congrArg (Cert.Reference4Ideal.Read.val_main_v34 (F := Ideal)) a0) a1) a2) a3) a4
      · exact congr (congr (congr (congr (congrArg (Cert.Reference4Ideal.Read.val_main_v35 (F := Ideal)) a0) a1) a2) a3) a4)
    (Cert.Reference4Ideal.Value.run m' ρ')⟩

theorem quiescent_ref : Cert.quiescent_Reference4Ideal (hReference4Ideal := Cert.Reference4Ideal.Gen.facts) := fun m ρ _ =>
  (θ_run _ _ _).mono (fun r h => ⟨fun c => (h c).2.2.2.2.2.2, sem_eq_zero_of_no_sems (by decide) r.2⟩) (Cert.Reference4Ideal.Value.run m ρ)

end Proj4

end
-- ==== Proof.Ffn7Ref.lean ====
/- The dense layer over the prompt: the reference's entries. -/
module

public import proofs.«01_k».proof.Proof.Proj4
public import proofs.«01_k».proof.Proof.Gen.Reference7Ideal.Read

@[expose] public section

set_option maxRecDepth 16384

noncomputable section

namespace Ffn7

open Idealize.ShloMosaic Idealize.ShloMosaic.TcCoe
open Hgrn (siluM)
open Proj3 (modded grp pos)

section
open Cert.Reference7Ideal Cert.Reference7Ideal.Read
variable (x0 : Vec Ideal S8x4096x1024 .f32) (x1 : Vec Ideal S1024 .f32) (x2 x3 x4 : Vec Ideal S8x1024 .f32) (x5 : Vec Ideal S1024x7168 .f32)
  (x6 : Vec Ideal S3584x1024 .f32)

theorem mod_apply (b : Fin 8) (s : Fin 4096) (k : Fin 1024) :
    val_main_v20 (F := Ideal) x0 x1 x2 x3 (ix3 b s k) = modded (fun x => x0 (ix3 b s x)) (x1 (ix1 k)) (x2 (ix2 b k)) (x3 (ix2 b k)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

/-- One column of a scaled and shifted row's product with the first matrix. -/
def up (n : Fin 32768) (q : Fin 7168) : EReal :=
  ∑ k : Fin 1024, modded (fun x => x0 (ix3 (grp n) (pos n) x)) (x1 (ix1 k)) (x2 (ix2 (grp n) k)) (x3 (ix2 (grp n) k)) k * x5 (ix2 k q)

/-- One gated column times the second matrix (zero past the last column). -/
def term (n : Fin 32768) (j : Fin 1024) (q : ℕ) : EReal :=
  if h : q < 3584 then siluM (up x0 x1 x2 x3 x5 n ⟨q, by omega⟩) * up x0 x1 x2 x3 x5 n ⟨q + 3584, by omega⟩ * x6 (ix2 ⟨q, h⟩ j) else 0

theorem ref_up (n : Fin 32768) (q : Fin 7168) : val_main_v21 (F := Ideal) x0 x1 x2 x3 x5 (ix3 (grp n) (pos n) q) = up x0 x1 x2 x3 x5 n q := by
  have e : val_main_v21 (F := Ideal) x0 x1 x2 x3 x5 (ix3 (grp n) (pos n) q)
      = ∑ k, val_main_v20 (F := Ideal) x0 x1 x2 x3 (ix3 (grp n) (pos n) k) * x5 (ix2 k q) := by
    pointwise [val_main_v21]
  rw [e]
  simp only [mod_apply]
  rfl

theorem ref_gated (n : Fin 32768) (q : Fin 3584) : val_main_v26 (F := Ideal) x0 x1 x2 x3 x5 (ix3 (grp n) (pos n) q)
    = siluM (up x0 x1 x2 x3 x5 n ⟨q.val, by omega⟩) * up x0 x1 x2 x3 x5 n ⟨q.val + 3584, by omega⟩ := by
  have e1 : val_main_v22 (F := Ideal) x0 x1 x2 x3 x5 (ix3 (grp n) (pos n) q) = val_main_v21 (F := Ideal) x0 x1 x2 x3 x5 (ix3 (grp n) (pos n) ⟨q.val, by omega⟩) := by
    pointwise [val_main_v22]
  have e2 : val_main_v23 (F := Ideal) x0 x1 x2 x3 x5 (ix3 (grp n) (pos n) q) = val_main_v21 (F := Ideal) x0 x1 x2 x3 x5 (ix3 (grp n) (pos n) ⟨q.val + 3584, by omega⟩) := by
    pointwise [val_main_v23]
    exact congrArg (fun z => val_main_v21 (F := Ideal) x0 x1 x2 x3 x5 (ix3 (grp n) (pos n) z)) (Fin.ext (by simp; omega))
  rw [ref_up] at e1 e2
  rw [← e1, ← e2]
  pointwise [val_main_v26, val_main_v25, val_main_call0_v0, val_main_call0_v1, val_main_call0_v2, val_main_call0_v3, val_main_call0_v4, val_main_call0_v5, val_main_call0_cst, val_main_call0_cst_0]
  rw [Moe.silu_neg]

theorem ref_apply (n : Fin 32768) (j : Fin 1024) : val_main_v31 (F := Ideal) x0 x1 x2 x3 x4 x5 x6 (ix2 n j)
    = x0 (ix3 (grp n) (pos n) j) + x4 (ix2 (grp n) j) * ∑ q ∈ Finset.range 3584, term x0 x1 x2 x3 x5 x6 n j q := by
  have e : val_main_v31 (F := Ideal) x0 x1 x2 x3 x4 x5 x6 (ix2 n j)
      = x0 (ix3 (grp n) (pos n) j) + x4 (ix2 (grp n) j) * ∑ q : Fin 3584, val_main_v26 (F := Ideal) x0 x1 x2 x3 x5 (ix3 (grp n) (pos n) q) * x6 (ix2 q j) := by
    pointwise [val_main_v31, val_main_v30, val_main_v29, val_main_v28, val_main_v27, val_main_v24]
    rfl
  rw [e, Finset.sum_range]
  refine congrArg (fun z : EReal => x0 (ix3 (grp n) (pos n) j) + x4 (ix2 (grp n) j) * z) (Finset.sum_congr rfl fun q _ => ?_)
  rw [ref_gated]
  unfold term
  rw [dif_pos q.isLt]
end

end Ffn7

end
-- ==== Proof.Ffn7.lean ====
/- The dense layer over the prompt: its result array is the reference's, and its claims. -/
module

public import proofs.«01_k».proof.Proof.Ffn7Ref
public import proofs.«01_k».proof.Proof.Gen.Kernel7Ideal.Value
public import proofs.«01_k».proof.Proof.Gen.Reference7Ideal.Run

@[expose] public section

set_option maxRecDepth 16384

noncomputable section

namespace Ffn7

open Cert.Kernel7Ideal Cert.Kernel7Ideal.Gen Idealize.ShloMosaic Idealize.ShloMosaic.TcCoe
open Hgrn (siluM)
open Proj3 (modded grp pos)
open Moe (sum_tiles)

/-! ## The kernel's stores -/

section
variable {F : FTy → Type} [FloatOps F]

/-- A row block's first point: the scaled and shifted rows. -/
theorem sA0 : @sout0_A_0 F _ = fun c i a2 h2 a3 h3 a4 h4 a5 h5 a6 h6 a7 h7 a8 h8 a9 h9 a10 h10 a11 h11 a12 h12 hc0 hc1 x0 x1 x2 x3 x4 x5 x6 x7 => k0_pay1 x0 x1 x2 x3 := by
  funext c i a2 h2 a3 h3 a4 h4 a5 h5 a6 h6 a7 h7 a8 h8 a9 h9 a10 h10 a11 h11 a12 h12 hc0 hc1 x0 x1 x2 x3 x4 x5 x6 x7
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S1024x1024) Moe.hz2]
  simp only [View.readAt_eq_ld, h2.read_unread, h3.read_unread, h4.read_unread, h5.read_unread, h6.read_unread, h7.read_unread, h8.read_unread, h9.read_unread, h10.read_unread, h11.read_unread, h12.read_unread, View.ld_unit_zero (S := S1024x1024) Moe.hz2, View.ld_unit_zero (S := S1x1024) Moe.hz2,
    View.ld_unit_zero (S := S1x1x1024) Moe.hz3, View.ld_unit_zero (S := S1024x512) Moe.hz2, View.ld_unit_zero (S := S512x1024) Moe.hz2, View.readCov_unit_zero (S := S1024x1024) _ Moe.hz2]

/-- A row block's first point: the first column tile's sum from zero. -/
theorem sA1 : @sout0_A_1 F _ = fun c i a2 h2 a3 h3 a4 h4 a5 h5 a6 h6 a7 h7 a8 h8 a9 h9 a10 h10 a11 h11 a12 h12 hc0 hc1 x0 x1 x2 x3 x4 x5 x6 x7 => k0_pay3 (k0_pay1 x0 x1 x2 x3) x5 x6 k0_pay2 x7 := by
  funext c i a2 h2 a3 h3 a4 h4 a5 h5 a6 h6 a7 h7 a8 h8 a9 h9 a10 h10 a11 h11 a12 h12 hc0 hc1 x0 x1 x2 x3 x4 x5 x6 x7
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S1024x1024) Moe.hz2]
  simp only [View.readAt_eq_ld, h2.read_unread, h3.read_unread, h4.read_unread, h5.read_unread, h6.read_unread, h7.read_unread, h8.read_unread, h9.read_unread, h10.read_unread, h11.read_unread, h12.read_unread, View.ld_unit_zero (S := S1024x1024) Moe.hz2, View.ld_unit_zero (S := S1x1024) Moe.hz2,
    View.ld_unit_zero (S := S1x1x1024) Moe.hz3, View.ld_unit_zero (S := S1024x512) Moe.hz2, View.ld_unit_zero (S := S512x1024) Moe.hz2, View.readCov_unit_zero (S := S1024x1024) _ Moe.hz2]

/-- A row block's later points: the column tile's sum added. -/
theorem sB1 : @sout0_B_1 F _ = fun c i a2 h2 a3 h3 a4 h4 a5 h5 a6 h6 a7 h7 a8 h8 a9 h9 a10 h10 a11 h11 a12 h12 hc0 hc1 x0 x1 x2 x3 x4 x5 x6 x7 xs0 xs1 => k0_pay3 xs0 x5 x6 xs1 x7 := by
  funext c i a2 h2 a3 h3 a4 h4 a5 h5 a6 h6 a7 h7 a8 h8 a9 h9 a10 h10 a11 h11 a12 h12 hc0 hc1 x0 x1 x2 x3 x4 x5 x6 x7 xs0 xs1
  unfold sout0_B_1
  rw [View.read_writes_eq_canon _ _ _ (scover0_B_1 c i a2 h2 a3 h3 a4 h4 a5 h5 a6 h6 a7 h7 a8 h8 a9 h9 a10 h10 a11 h11 a12 h12 hc0 hc1 x0 x1 x2 x3 x4 x5 x6 x7 xs0 xs1)]
  unfold kernelRun0_B
  dsimp only
  sl_unfold_words
  rw [View.canon_cons_unit_zero (S := S1024x1024) Moe.hz2]
  simp only [View.readAt_eq_ld, h2.read_unread, h3.read_unread, h4.read_unread, h5.read_unread, h6.read_unread, h7.read_unread, h8.read_unread, h9.read_unread, h10.read_unread, h11.read_unread, h12.read_unread, View.ld_unit_zero (S := S1024x1024) Moe.hz2, View.ld_unit_zero (S := S1x1024) Moe.hz2,
    View.ld_unit_zero (S := S1x1x1024) Moe.hz3, View.ld_unit_zero (S := S1024x512) Moe.hz2, View.ld_unit_zero (S := S512x1024) Moe.hz2, View.readCov_unit_zero (S := S1024x1024) _ Moe.hz2]

/-- A row block's last point: the input plus the gated sum, written out. -/
theorem oC : @out0_C_8 F _ = fun c i a2 h2 a3 h3 a4 h4 a5 h5 a6 h6 a7 h7 a8 h8 a9 h9 a10 h10 a11 h11 a12 h12 hc0 hc1 x0 x1 x2 x3 x4 x5 x6 x7 xs0 xs1 => k0_pay4 x0 x4 (k0_pay3 xs0 x5 x6 xs1 x7) := by
  funext c i a2 h2 a3 h3 a4 h4 a5 h5 a6 h6 a7 h7 a8 h8 a9 h9 a10 h10 a11 h11 a12 h12 hc0 hc1 x0 x1 x2 x3 x4 x5 x6 x7 xs0 xs1
  unfold out0_C_8
  rw [View.read_writes_eq_canon _ _ _ (cover0_C_8 c i a2 h2 a3 h3 a4 h4 a5 h5 a6 h6 a7 h7 a8 h8 a9 h9 a10 h10 a11 h11 a12 h12 hc0 hc1 x0 x1 x2 x3 x4 x5 x6 x7 xs0 xs1)]
  unfold kernelRun0_C
  dsimp only
  sl_unfold_words
  rw [View.canon_cons_unit_zero (S := S1024x1024) Moe.hz2]
  simp only [View.readAt_eq_ld, h2.read_unread, h3.read_unread, h4.read_unread, h5.read_unread, h6.read_unread, h7.read_unread, h8.read_unread, h9.read_unread, h10.read_unread, h11.read_unread, h12.read_unread, View.ld_unit_zero (S := S1024x1024) Moe.hz2, View.ld_unit_zero (S := S1x1024) Moe.hz2,
    View.ld_unit_zero (S := S1x1x1024) Moe.hz3, View.ld_unit_zero (S := S1024x512) Moe.hz2, View.ld_unit_zero (S := S512x1024) Moe.hz2, View.readCov_unit_zero (S := S1024x1024) _ Moe.hz2]

end

theorem pay1_apply (P0 : Vec Ideal S1024x1024 .f32) (P1 : Vec Ideal S1x1024 .f32) (P2 P3 : Vec Ideal S1x1x1024 .f32) (r k : Fin 1024) :
    k0_pay1 (F := Ideal) P0 P1 P2 P3 (ix2 r k) = modded (fun x => P0 (ix2 r x)) (P1 (ix2 0 k)) (P2 (ix3 0 0 k)) (P3 (ix3 0 0 k)) k := by
  unfold k0_pay1
  pointwise
  rfl

theorem pay2_apply (y : S1024x1024.Idx) : k0_pay2 (F := Ideal) y = 0 := by
  pointwise [k0_pay2]

theorem pay3_apply (a : Vec Ideal S1024x1024 .bf16) (b d : Vec Ideal S1024x512 .bf16) (e : Vec Ideal S1024x1024 .f32)
    (f : Vec Ideal S512x1024 .bf16) (r j : Fin 1024) : k0_pay3 (F := Ideal) a b d e f (ix2 r j)
      = e (ix2 r j) + ∑ q : Fin 512, siluM (∑ k : Fin 1024, a (ix2 r k) * b (ix2 k q)) * (∑ k : Fin 1024, a (ix2 r k) * d (ix2 k q)) * f (ix2 q j) := by
  pointwise [k0_pay3]
  rfl

theorem pay4_apply (a : Vec Ideal S1024x1024 .f32) (b : Vec Ideal S1x1x1024 .f32) (d : Vec Ideal S1024x1024 .f32) (r j : Fin 1024) :
    k0_pay4 (F := Ideal) a b d (ix2 r j) = a (ix2 r j) + b (ix3 0 0 j) * d (ix2 r j) := by
  unfold k0_pay4
  pointwise

/-! ## The arrays the call reads -/

variable (m : (ℓ : Loc nD τ sig) → Buf (Elt Ideal) ℓ) (ρ : Dev nD → PrngReg) (c : Dev nD)

abbrev A0 : Vec Ideal S8x4096x1024 .f32 := m ((c : Thread nD τ).loc main_arg0)
abbrev A1 : Vec Ideal S1024 .f32 := m ((c : Thread nD τ).loc main_arg1)
abbrev A2 : Vec Ideal S8x1024 .f32 := m ((c : Thread nD τ).loc main_arg2)
abbrev A3 : Vec Ideal S8x1024 .f32 := m ((c : Thread nD τ).loc main_arg3)
abbrev A4 : Vec Ideal S8x1024 .f32 := m ((c : Thread nD τ).loc main_arg4)
abbrev A5 : Vec Ideal S1024x7168 .f32 := m ((c : Thread nD τ).loc main_arg5)
abbrev A6 : Vec Ideal S3584x1024 .f32 := m ((c : Thread nD τ).loc main_arg6)

theorem V_x : V m c main_v0 = shapeCast S32768x1024 (A0 m c) shapeCasts_S8x4096x1024_S32768x1024 := by
  show StableHlo.after hostOps0 _ (Proc.devRef .tc main_v0) = _
  after_results
  rfl

theorem V_sh : V m c main_v1 = shapeCast S8x1x1024 (A2 m c) shapeCasts_S8x1024_S8x1x1024 := by
  show StableHlo.after hostOps0 _ (Proc.devRef .tc main_v1) = _
  after_results
  rfl

theorem V_sc : V m c main_v2 = shapeCast S8x1x1024 (A3 m c) shapeCasts_S8x1024_S8x1x1024 := by
  show StableHlo.after hostOps0 _ (Proc.devRef .tc main_v2) = _
  after_results
  rfl

theorem V_gt : V m c main_v3 = shapeCast S8x1x1024 (A4 m c) shapeCasts_S8x1024_S8x1x1024 := by
  show StableHlo.after hostOps0 _ (Proc.devRef .tc main_v3) = _
  after_results
  rfl

theorem V_w : V m c main_v4 = truncf (F := Ideal) .bf16 (A5 m c) bitsLt_bf16_f32 := by
  show StableHlo.after hostOps0 _ (Proc.devRef .tc main_v4) = _
  after_results

theorem V_u : V m c main_v5 = truncf (F := Ideal) .bf16 (A6 m c) bitsLt_bf16_f32 := by
  show StableHlo.after hostOps0 _ (Proc.devRef .tc main_v5) = _
  after_results

theorem V_g : V m c main_v6 = shapeCast S1x1024 (A1 m c) shapeCasts_S1024_S1x1024 := by
  show StableHlo.after hostOps0 _ (Proc.devRef .tc main_v6) = _
  after_results
  rfl

theorem x_apply (r : Fin 32768) (k : Fin 1024) : (V m c main_v0 : Vec Ideal S32768x1024 .f32) (ix2 r k) = A0 m c (ix3 (grp r) (pos r) k) := by
  rw [V_x]
  pointwise []
  rfl

theorem sh_apply (b : Fin 8) (k : Fin 1024) : (V m c main_v1 : Vec Ideal S8x1x1024 .f32) (ix3 b 0 k) = A2 m c (ix2 b k) := by
  rw [V_sh]
  pointwise []

theorem sc_apply (b : Fin 8) (k : Fin 1024) : (V m c main_v2 : Vec Ideal S8x1x1024 .f32) (ix3 b 0 k) = A3 m c (ix2 b k) := by
  rw [V_sc]
  pointwise []

theorem gt_apply (b : Fin 8) (k : Fin 1024) : (V m c main_v3 : Vec Ideal S8x1x1024 .f32) (ix3 b 0 k) = A4 m c (ix2 b k) := by
  rw [V_gt]
  pointwise []

theorem g_apply (k : Fin 1024) : (V m c main_v6 : Vec Ideal S1x1024 .f32) (ix2 0 k) = A1 m c (ix1 k) := by
  rw [V_g]
  pointwise []

theorem w_apply (x : Fin 1024) (k : Fin 7168) : (V m c main_v4 : Vec Ideal S1024x7168 .bf16) (ix2 x k) = A5 m c (ix2 x k) := by
  rw [V_w]
  rfl

theorem u_apply (x : Fin 3584) (k : Fin 1024) : (V m c main_v5 : Vec Ideal S3584x1024 .bf16) (ix2 x k) = A6 m c (ix2 x k) := by
  rw [V_u]
  rfl

/-! ## The blocks -/

theorem e0 : ∀ t : Fin grid0.N, win0_0.index t = ![t.val / 7, 0] := by decide +kernel
theorem e1 : ∀ t : Fin grid0.N, win0_1.index t = ![0, 0] := by decide +kernel
theorem e2 : ∀ t : Fin grid0.N, win0_2.index t = ![t.val / 28, 0, 0] := by decide +kernel
theorem e3 : ∀ t : Fin grid0.N, win0_3.index t = ![t.val / 28, 0, 0] := by decide +kernel
theorem e4 : ∀ t : Fin grid0.N, win0_4.index t = ![t.val / 28, 0, 0] := by decide +kernel
theorem e5 : ∀ t : Fin grid0.N, win0_5.index t = ![0, t.val % 7] := by decide +kernel
theorem e6 : ∀ t : Fin grid0.N, win0_6.index t = ![0, t.val % 7 + 7] := by decide +kernel
theorem e7 : ∀ t : Fin grid0.N, win0_7.index t = ![t.val % 7, 0] := by decide +kernel
theorem e8 : ∀ t : Fin grid0.N, win0_8.index t = ![t.val / 7, 0] := by decide +kernel

theorem lt224 (t : Fin cfg0.N) : t.val < 224 := lt_of_lt_of_eq t.isLt (show cfg0.N = 224 from N_0)

/-- A row of a grid point's block among the array's rows. -/
def rowAt (t : Fin cfg0.N) (r : Fin 1024) : Fin 32768 := ⟨t.val / 7 * 1024 + r.val, by have := lt224 t; omega⟩

theorem grp_rowAt (t : Fin cfg0.N) (r : Fin 1024) : (grp (rowAt t r)).val = t.val / 28 := by
  show (t.val / 7 * 1024 + r.val) / 4096 = t.val / 28
  omega

def b0 (t : Fin cfg0.N) : Vec Ideal S1024x1024 .f32 := iblk m c 0 t
def b1 (t : Fin cfg0.N) : Vec Ideal S1x1024 .f32 := iblk m c 1 t
def b2 (t : Fin cfg0.N) : Vec Ideal S1x1x1024 .f32 := iblk m c 2 t
def b3 (t : Fin cfg0.N) : Vec Ideal S1x1x1024 .f32 := iblk m c 3 t
def b4 (t : Fin cfg0.N) : Vec Ideal S1x1x1024 .f32 := iblk m c 4 t
def b5 (t : Fin cfg0.N) : Vec Ideal S1024x512 .bf16 := iblk m c 5 t
def b6 (t : Fin cfg0.N) : Vec Ideal S1024x512 .bf16 := iblk m c 6 t
def b7 (t : Fin cfg0.N) : Vec Ideal S512x1024 .bf16 := iblk m c 7 t

theorem b0_apply (t : Fin cfg0.N) (r k : Fin 1024) : b0 m c t (ix2 r k) = A0 m c (ix3 (grp (rowAt t r)) (pos (rowAt t r)) k) := by
  show V m c main_v0 (((cfg0.win 0).blk t).view.emb (ix2 r k : S1024x1024.Idx)) = _
  refine Eq.trans ?_ (x_apply m c (rowAt t r) k)
  congr 1
  funext a
  match a with
  | ⟨0, _⟩ => exact Fin.ext (by first | (blk_simp [e0]; done) | (blk_simp [e0]; rfl))
  | ⟨1, _⟩ => exact Fin.ext (by blk_simp [e0])

theorem b1_apply (t : Fin cfg0.N) (k : Fin 1024) : b1 m c t (ix2 0 k) = A1 m c (ix1 k) := by
  show V m c main_v6 (((cfg0.win 1).blk t).view.emb (ix2 0 k : S1x1024.Idx)) = _
  refine Eq.trans ?_ (g_apply m c k)
  congr 1
  funext a
  match a with
  | ⟨0, _⟩ => exact Subsingleton.elim (α := Fin 1) _ _
  | ⟨1, _⟩ => exact Fin.ext (by blk_simp [e1])

theorem b2_apply (t : Fin cfg0.N) (r k : Fin 1024) : b2 m c t (ix3 0 0 k) = A2 m c (ix2 (grp (rowAt t r)) k) := by
  show V m c main_v1 (((cfg0.win 2).blk t).view.emb (ix3 0 0 k : S1x1x1024.Idx)) = _
  refine Eq.trans ?_ (sh_apply m c (grp (rowAt t r)) k)
  congr 1
  funext a
  match a with
  | ⟨0, _⟩ => exact Fin.ext ((show _ = t.val / 28 by blk_simp [e2]; rfl).trans (grp_rowAt t r).symm)
  | ⟨1, _⟩ => exact Subsingleton.elim (α := Fin 1) _ _
  | ⟨2, _⟩ => exact Fin.ext (by blk_simp [e2])

theorem b3_apply (t : Fin cfg0.N) (r k : Fin 1024) : b3 m c t (ix3 0 0 k) = A3 m c (ix2 (grp (rowAt t r)) k) := by
  show V m c main_v2 (((cfg0.win 3).blk t).view.emb (ix3 0 0 k : S1x1x1024.Idx)) = _
  refine Eq.trans ?_ (sc_apply m c (grp (rowAt t r)) k)
  congr 1
  funext a
  match a with
  | ⟨0, _⟩ => exact Fin.ext ((show _ = t.val / 28 by blk_simp [e3]; rfl).trans (grp_rowAt t r).symm)
  | ⟨1, _⟩ => exact Subsingleton.elim (α := Fin 1) _ _
  | ⟨2, _⟩ => exact Fin.ext (by blk_simp [e3])

theorem b4_apply (t : Fin cfg0.N) (r k : Fin 1024) : b4 m c t (ix3 0 0 k) = A4 m c (ix2 (grp (rowAt t r)) k) := by
  show V m c main_v3 (((cfg0.win 4).blk t).view.emb (ix3 0 0 k : S1x1x1024.Idx)) = _
  refine Eq.trans ?_ (gt_apply m c (grp (rowAt t r)) k)
  congr 1
  funext a
  match a with
  | ⟨0, _⟩ => exact Fin.ext ((show _ = t.val / 28 by blk_simp [e4]; rfl).trans (grp_rowAt t r).symm)
  | ⟨1, _⟩ => exact Subsingleton.elim (α := Fin 1) _ _
  | ⟨2, _⟩ => exact Fin.ext (by blk_simp [e4])

theorem b5_apply (t : Fin cfg0.N) (x : Fin 1024) (q : Fin 512) : b5 m c t (ix2 x q) = A5 m c (ix2 x ⟨t.val % 7 * 512 + q.val, by omega⟩) := by
  show V m c main_v4 (((cfg0.win 5).blk t).view.emb (ix2 x q : S1024x512.Idx)) = _
  refine Eq.trans ?_ (w_apply m c x _)
  congr 1
  funext a
  match a with
  | ⟨0, _⟩ => exact Fin.ext (by blk_simp [e5])
  | ⟨1, _⟩ => exact Fin.ext (by blk_simp [e5])

theorem b6_apply (t : Fin cfg0.N) (x : Fin 1024) (q : Fin 512) : b6 m c t (ix2 x q) = A5 m c (ix2 x ⟨t.val % 7 * 512 + q.val + 3584, by omega⟩) := by
  show V m c main_v4 (((cfg0.win 6).blk t).view.emb (ix2 x q : S1024x512.Idx)) = _
  refine Eq.trans ?_ (w_apply m c x _)
  congr 1
  funext a
  match a with
  | ⟨0, _⟩ => exact Fin.ext (by blk_simp [e6])
  | ⟨1, _⟩ => exact Fin.ext (by blk_simp [e6]; show (t.val % 7 + 7) * 512 + q.val = t.val % 7 * 512 + q.val + 3584; omega)

theorem b7_apply (t : Fin cfg0.N) (q : Fin 512) (j : Fin 1024) : b7 m c t (ix2 q j) = A6 m c (ix2 ⟨t.val % 7 * 512 + q.val, by omega⟩ j) := by
  show V m c main_v5 (((cfg0.win 7).blk t).view.emb (ix2 q j : S512x1024.Idx)) = _
  refine Eq.trans ?_ (u_apply m c _ j)
  congr 1
  funext a
  match a with
  | ⟨0, _⟩ => exact Fin.ext (by blk_simp [e7])
  | ⟨1, _⟩ => exact Fin.ext (by blk_simp [e7])

/-! ## The carried sum -/

/-- A scaled and shifted row of the array. -/
abbrev hid (n : Fin 32768) (k : Fin 1024) : EReal :=
  modded (fun x => A0 m c (ix3 (grp n) (pos n) x)) (A1 m c (ix1 k)) (A2 m c (ix2 (grp n) k)) (A3 m c (ix2 (grp n) k)) k

/-- One column tile's part of a row's product. -/
def part (n : Fin 32768) (j : Fin 1024) (i : ℕ) : EReal :=
  ∑ q : Fin 512, term (A0 m c) (A1 m c) (A2 m c) (A3 m c) (A5 m c) (A6 m c) n j (i * 512 + q.val)

theorem rows_apply (t : Fin cfg0.N) (r k : Fin 1024) : k0_pay1 (F := Ideal) (b0 m c t) (b1 m c t) (b2 m c t) (b3 m c t) (ix2 r k) = hid m c (rowAt t r) k := by
  rw [pay1_apply, b1_apply, b2_apply m c t r k, b3_apply m c t r k]
  simp only [b0_apply]

theorem step_apply (t : Fin cfg0.N) (a : Vec Ideal S1024x1024 .bf16) (d : Vec Ideal S1024x1024 .f32)
    (ha : ∀ r k, a (ix2 r k) = hid m c (rowAt t r) k) (r j : Fin 1024) :
    k0_pay3 (F := Ideal) a (b5 m c t) (b6 m c t) d (b7 m c t) (ix2 r j) = d (ix2 r j) + part m c (rowAt t r) j (t.val % 7) := by
  rw [pay3_apply]
  refine congrArg (fun z : EReal => d (ix2 r j) + z) (Finset.sum_congr rfl fun q _ => ?_)
  unfold term
  rw [dif_pos (show t.val % 7 * 512 + q.val < 3584 by omega), b7_apply]
  simp only [b5_apply, b6_apply, ha]
  rfl

theorem first (t : Fin cfg0.N) (h0 : t.val % 7 = 0) :
    (outsAt0 m c t.val t.isLt).2.1 = k0_pay1 (b0 m c t) (b1 m c t) (b2 m c t) (b3 m c t)
    ∧ (outsAt0 m c t.val t.isLt).2.2 = k0_pay3 (k0_pay1 (b0 m c t) (b1 m c t) (b2 m c t) (b3 m c t)) (b5 m c t) (b6 m c t) (k0_pay2 (F := Ideal)) (b7 m c t) := by
  have e := outsAt0_A m c t h0 (by omega)
  rw [sA0, sA1] at e
  exact ⟨congrArg (fun p => p.2.1) e, congrArg (fun p => p.2.2) e⟩

theorem mid (n : ℕ) (h : n + 1 < cfg0.N) (h0 : (n + 1) % 7 ≠ 0) (h6 : (n + 1) % 7 ≠ 6) :
    (outsAt0 m c (n + 1) h).2.1 = (outsAt0 m c n (Nat.lt_of_succ_lt h)).2.1
    ∧ (outsAt0 m c (n + 1) h).2.2 = k0_pay3 (outsAt0 m c n (Nat.lt_of_succ_lt h)).2.1 (b5 m c ⟨n + 1, h⟩) (b6 m c ⟨n + 1, h⟩)
        (outsAt0 m c n (Nat.lt_of_succ_lt h)).2.2 (b7 m c ⟨n + 1, h⟩) := by
  have e := outsAt0_B m c ⟨n + 1, h⟩ h0 h6
  rw [sB1] at e
  exact ⟨congrArg (fun p => p.2.1) e, congrArg (fun p => p.2.2) e⟩

theorem last (n : ℕ) (h : n + 1 < cfg0.N) (h6 : (n + 1) % 7 = 6) :
    (outsAt0 m c (n + 1) h).1 = k0_pay4 (b0 m c ⟨n + 1, h⟩) (b4 m c ⟨n + 1, h⟩) (k0_pay3 (outsAt0 m c n (Nat.lt_of_succ_lt h)).2.1 (b5 m c ⟨n + 1, h⟩) (b6 m c ⟨n + 1, h⟩)
        (outsAt0 m c n (Nat.lt_of_succ_lt h)).2.2 (b7 m c ⟨n + 1, h⟩)) := by
  have e := outsAt0_C m c ⟨n + 1, h⟩ (by show ¬(n + 1) % 7 = 0; omega) h6
  rw [oC] at e
  exact congrArg (fun p => p.1) e

theorem row_succ (n : ℕ) (h : n + 1 < cfg0.N) (h0 : (n + 1) % 7 ≠ 0) (r : Fin 1024) : rowAt ⟨n + 1, h⟩ r = rowAt ⟨n, Nat.lt_of_succ_lt h⟩ r :=
  Fin.ext (by show (n + 1) / 7 * 1024 + r.val = n / 7 * 1024 + r.val; omega)

/-- What a row block carries: its rows, and the sum over the column tiles so far. -/
theorem carry (n : ℕ) (h : n < cfg0.N) (h6 : n % 7 ≠ 6) :
    (∀ r k, (outsAt0 m c n h).2.1 (ix2 r k) = hid m c (rowAt ⟨n, h⟩ r) k)
    ∧ ∀ r j, (outsAt0 m c n h).2.2 (ix2 r j) = ∑ i ∈ Finset.range (n % 7 + 1), part m c (rowAt ⟨n, h⟩ r) j i := by
  by_cases h0 : n % 7 = 0
  · obtain ⟨e1, e2⟩ := first m c ⟨n, h⟩ h0
    refine ⟨fun r k => (congrFun e1 _).trans (rows_apply m c ⟨n, h⟩ r k),
      fun r j => (congrFun e2 _).trans ((step_apply m c ⟨n, h⟩ _ _ (rows_apply m c ⟨n, h⟩) r j).trans ?_)⟩
    rw [pay2_apply, zero_add]
    show part m c _ j (n % 7) = _
    rw [h0]
    exact (Finset.sum_range_one (fun i => part m c (rowAt ⟨n, h⟩ r) j i)).symm
  · induction n with
    | zero => exact absurd rfl h0
    | succ n ih =>
      obtain ⟨e1, e2⟩ := mid m c n h h0 h6
      have hi : (∀ r k, (outsAt0 m c n (Nat.lt_of_succ_lt h)).2.1 (ix2 r k) = hid m c (rowAt ⟨n, Nat.lt_of_succ_lt h⟩ r) k)
          ∧ ∀ r j, (outsAt0 m c n (Nat.lt_of_succ_lt h)).2.2 (ix2 r j) = ∑ i ∈ Finset.range (n % 7 + 1), part m c (rowAt ⟨n, Nat.lt_of_succ_lt h⟩ r) j i := by
        by_cases g0 : n % 7 = 0
        · obtain ⟨e1, e2⟩ := first m c ⟨n, Nat.lt_of_succ_lt h⟩ g0
          refine ⟨fun r k => (congrFun e1 _).trans (rows_apply m c ⟨n, Nat.lt_of_succ_lt h⟩ r k),
            fun r j => (congrFun e2 _).trans ((step_apply m c ⟨n, Nat.lt_of_succ_lt h⟩ _ _ (rows_apply m c ⟨n, Nat.lt_of_succ_lt h⟩) r j).trans ?_)⟩
          rw [pay2_apply, zero_add]
          show part m c _ j (n % 7) = _
          rw [g0]
          exact (Finset.sum_range_one (fun i => part m c (rowAt ⟨n, Nat.lt_of_succ_lt h⟩ r) j i)).symm
        · exact ih (Nat.lt_of_succ_lt h) (by omega) g0
      obtain ⟨i1, i2⟩ := hi
      have ha : ∀ r k, (outsAt0 m c n (Nat.lt_of_succ_lt h)).2.1 (ix2 r k) = hid m c (rowAt ⟨n + 1, h⟩ r) k :=
        fun r k => (i1 r k).trans (by rw [row_succ n h h0 r])
      refine ⟨fun r k => (congrFun e1 _).trans (ha r k), fun r j => (congrFun e2 _).trans ((step_apply m c ⟨n + 1, h⟩ _ _ ha r j).trans ?_)⟩
      have hm : n % 7 + 1 = (n + 1) % 7 := by omega
      rw [Finset.sum_range_succ, i2 r j, hm, row_succ n h h0 r]

/-- The reference's result of the kernel's arguments. -/
abbrev result : Vec Ideal S32768x1024 .f32 :=
  Cert.Reference7Ideal.Read.val_main_v31 (F := Ideal) (A0 m c) (A1 m c) (A2 m c) (A3 m c) (A4 m c) (A5 m c) (A6 m c)

/-- What a row block's last point writes. -/
theorem last_apply (t : Fin cfg0.N) (h6 : t.val % 7 = 6) (r j : Fin 1024) :
    (outsAt0 m c t.val t.isLt).1 (ix2 r j) = result m c (ix2 (rowAt t r) j) := by
  obtain ⟨_ | n, h⟩ := t
  · exact absurd (show (0 : ℕ) % 7 = 6 from h6) (by decide)
  have h6' : (n + 1) % 7 = 6 := h6
  have h0 : (n + 1) % 7 ≠ 0 := by omega
  obtain ⟨i1, i2⟩ := carry m c n (Nat.lt_of_succ_lt h) (by omega)
  have ha : ∀ r k, (outsAt0 m c n (Nat.lt_of_succ_lt h)).2.1 (ix2 r k) = hid m c (rowAt ⟨n + 1, h⟩ r) k :=
    fun r k => (i1 r k).trans (by rw [row_succ n h h0 r])
  refine (congrFun (last m c n h h6') _).trans ((pay4_apply _ _ _ r j).trans ?_)
  refine Eq.trans ?_ (ref_apply _ _ _ _ _ _ _ (rowAt ⟨n + 1, h⟩ r) j).symm
  rw [step_apply m c ⟨n + 1, h⟩ _ _ ha r j, b0_apply, b4_apply m c ⟨n + 1, h⟩ r j]
  refine congrArg (fun z : EReal => A0 m c (ix3 (grp (rowAt ⟨n + 1, h⟩ r)) (pos (rowAt ⟨n + 1, h⟩ r)) j) + A4 m c (ix2 (grp (rowAt ⟨n + 1, h⟩ r)) j) * z) ?_
  have hm : n % 7 + 1 = 6 := by omega
  rw [i2 r j, hm, ← row_succ n h h0 r]
  refine Eq.trans ?_ (sum_tiles _ 7).symm
  refine Eq.trans ?_ (Finset.sum_range_succ _ 6).symm
  show _ + part m c _ j ((n + 1) % 7) = _
  rw [h6']
  rfl

theorem arr : (dats m 0 c).arrAt 8 cfg0.N = result m c := by
  refine (dats m 0 c).arrAt_eq_of_covers 8 _ (by decide +kernel) fun t hf (y : S1024x1024.Idx) => ?_
  have h6 : t.val % 7 = 6 := (flush0_8 t).mp hf
  refine (congrFun (after0_8 m c t) y).trans ?_
  have hy : y = (ix2 (y 0) (y 1) : S1024x1024.Idx) := by
    funext a
    match a with
    | ⟨0, _⟩ => rfl
    | ⟨1, _⟩ => rfl
  refine (congrArg (outsAt0 m c t.val t.isLt).1 hy).trans ((last_apply m c t h6 (y 0) (y 1)).trans ?_)
  show result m c _ = result m c (((cfg0.win 8).blk t).view.emb y)
  congr 1
  funext a
  match a with
  | ⟨0, _⟩ => exact Fin.ext (by blk_simp [e8]; rfl)
  | ⟨1, _⟩ => exact Fin.ext (by blk_simp [e8]; rfl)

/-! ## The claims -/

theorem algebraic : Cert.algebraic_Kernel7Ideal_Reference7Ideal (hKernel7Ideal := Cert.Kernel7Ideal.Gen.facts)
    (hReference7Ideal := Cert.Reference7Ideal.Gen.facts) := fun m ρ m' ρ' _ hag =>
  ⟨fun c => result m c,
   (θ_run _ _ _).mono (fun _ h c => ⟨(h c).1.trans (arr m c), (h c).2⟩) (Cert.Kernel7Ideal.Value.run_blocks m ρ),
   (θ_run _ _ _).mono (fun r h c => by
      obtain ⟨h0, hr⟩ := h c
      obtain ⟨a0, a1, a2, a3, a4, a5, a6⟩ := hag c
      refine ⟨h0.trans ((Cert.Reference7Ideal.Read.val_main_v31_eq _ _).trans ?_), hr⟩
      exact congr (congr (congr (congr (congr (congr (congrArg (Cert.Reference7Ideal.Read.val_main_v31 (F := Ideal)) a0) a1) a2) a3) a4) a5) a6)
    (Cert.Reference7Ideal.Value.run m' ρ')⟩

theorem quiescent_ref : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

end Ffn7

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bound_below_one
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_routed
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Hgrn
public import proofs.«01_k».proof.Proof.Moe
public import proofs.«01_k».proof.Proof.Ffn7
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_bound_below_one.Gen.facts, Cert.Pre_routed.Gen.facts,
  fun m ρ _ => Cert.Kernel.Gen.frame m ρ,
  fun m ρ _ => Cert.KernelIdeal.Gen.frame m ρ,
  fun m ρ _ => Cert.KernelIdeal.Gen.frame m ρ,
  fun m ρ _ => Hgrn.frame_ref m ρ,
  fun m ρ _ => Hgrn.frame_ref m ρ,
  Moe.quiescent,
  Moe.quiescent_ideal,
  fun m ρ _ => Moe.frame_ref m ρ,
  fun m ρ _ => Moe.frame_ref m ρ,
  fun m ρ _ => Cert.Kernel3.Gen.frame m ρ,
  fun m ρ _ => Cert.Kernel3Ideal.Gen.frame m ρ,
  Proj3.quiescent_ref,
  fun m ρ _ => Cert.Kernel4.Gen.frame m ρ,
  fun m ρ _ => Cert.Kernel4Ideal.Gen.frame m ρ,
  Proj4.quiescent_ref,
  fun m ρ _ => Cert.Kernel5.Gen.frame m ρ,
  fun m ρ _ => Cert.Kernel5Ideal.Gen.frame m ρ,
  Norm5.quiescent_ref,
  fun m ρ _ => Cert.Kernel6.Gen.frame m ρ,
  fun m ρ _ => Cert.Kernel6Ideal.Gen.frame m ρ,
  Norm6.quiescent_ref,
  fun m ρ _ => Cert.Kernel7.Gen.frame m ρ,
  fun m ρ _ => Cert.Kernel7Ideal.Gen.frame m ρ,
  Ffn7.quiescent_ref,
  IdealRules.named_const.statement Cert.KernelIdeal.κ "mask" .f32 0xF149F2CA#32 ⊥ rfl,
  Hgrn.algebraic,
  trivial,
  Moe.algebraic,
  trivial,
  Proj3.algebraic,
  trivial,
  Proj4.algebraic,
  trivial,
  Norm5.algebraic,
  trivial,
  Norm6.algebraic,
  trivial,
  Ffn7.algebraic⟩

end Cert.Proof

end
